-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S8x512x2048 : Shape := ⟨3, ![8, 512, 2048]⟩
abbrev S4x512x640 : Shape := ⟨3, ![4, 512, 640]⟩
abbrev S4x512x768 : Shape := ⟨3, ![4, 512, 768]⟩
abbrev S2x512x640 : Shape := ⟨3, ![2, 512, 640]⟩
abbrev S2x512x768 : Shape := ⟨3, ![2, 512, 768]⟩
abbrev S512x640 : Shape := ⟨2, ![512, 640]⟩
abbrev S512x768 : Shape := ⟨2, ![512, 768]⟩
abbrev S1x128 : Shape := ⟨2, ![1, 128]⟩
abbrev S8x128 : Shape := ⟨2, ![8, 128]⟩
abbrev S3x4 : Shape := ⟨2, ![3, 4]⟩
abbrev S3x2 : Shape := ⟨2, ![3, 2]⟩
abbrev S3 : Shape := ⟨1, ![3]⟩
abbrev S8 : Shape := ⟨1, ![8]⟩
abbrev S_ : Shape := ⟨0, ![]⟩
abbrev S512x512 : Shape := ⟨2, ![512, 512]⟩
abbrev S1x512x2048 : Shape := ⟨3, ![1, 512, 2048]⟩
abbrev S1x1 : Shape := ⟨2, ![1, 1]⟩
abbrev S1x512x640 : Shape := ⟨3, ![1, 512, 640]⟩
abbrev S1x512x768 : Shape := ⟨3, ![1, 512, 768]⟩
abbrev S1 : Shape := ⟨1, ![1]⟩
abbrev S1x1x1 : Shape := ⟨3, ![1, 1, 1]⟩
abbrev S1x8x128 : Shape := ⟨3, ![1, 8, 128]⟩

abbrev nBuf : Space → Nat
  | .hbm => 3
  | .vmem => 23
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S512x2048, .f32⟩
  | .local _ .vmem, ⟨0, _⟩ => ⟨S4096x512, .bf16⟩
  | .local _ .vmem, ⟨1, _⟩ => ⟨S512x2048, .bf16⟩
  | .local _ .vmem, ⟨2, _⟩ => ⟨S512x2048, .f32⟩
  | .local _ .vmem, ⟨3, _⟩ => ⟨S4096x512, .bf16⟩
  | .local _ .vmem, ⟨4, _⟩ => ⟨S512x2048, .bf16⟩
  | .local _ .vmem, ⟨5, _⟩ => ⟨S8x512x2048, .bf16⟩
  | .local _ .vmem, ⟨6, _⟩ => ⟨S4x512x640, .bf16⟩
  | .local _ .vmem, ⟨7, _⟩ => ⟨S4x512x640, .bf16⟩
  | .local _ .vmem, ⟨8, _⟩ => ⟨S4x512x768, .bf16⟩
  | .local _ .vmem, ⟨9, _⟩ => ⟨S2x512x640, .bf16⟩
  | .local _ .vmem, ⟨10, _⟩ => ⟨S2x512x640, .bf16⟩
  | .local _ .vmem, ⟨11, _⟩ => ⟨S2x512x768, .bf16⟩
  | .local _ .vmem, ⟨12, _⟩ => ⟨S512x640, .bf16⟩
  | .local _ .vmem, ⟨13, _⟩ => ⟨S512x640, .bf16⟩
  | .local _ .vmem, ⟨14, _⟩ => ⟨S512x768, .bf16⟩
  | .local _ .vmem, ⟨15, _⟩ => ⟨S2x512x640, .bf16⟩
  | .local _ .vmem, ⟨16, _⟩ => ⟨S2x512x640, .bf16⟩
  | .local _ .vmem, ⟨17, _⟩ => ⟨S2x512x768, .bf16⟩
  | .local _ .vmem, ⟨18, _⟩ => ⟨S512x640, .bf16⟩
  | .local _ .vmem, ⟨19, _⟩ => ⟨S512x640, .bf16⟩
  | .local _ .vmem, ⟨20, _⟩ => ⟨S512x768, .bf16⟩
  | .local _ .vmem, ⟨21, _⟩ => ⟨S1x128, .f32⟩
  | .local _ .vmem, ⟨22, _⟩ => ⟨S8x128, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 1 → Bool
  | ⟨0, _⟩ => false
  | _ => false

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  (ofTc nBuf bufTy 1 61 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_scratch14 : Ref sig .tc := ⟨.vmem, 17, rfl⟩
abbrev cc0_scratch15 : Ref sig .tc := ⟨.vmem, 18, rfl⟩
abbrev cc0_scratch16 : Ref sig .tc := ⟨.vmem, 19, rfl⟩
abbrev cc0_scratch17 : Ref sig .tc := ⟨.vmem, 20, rfl⟩
abbrev cc0_scratch18 : Ref sig .tc := ⟨.vmem, 21, rfl⟩
abbrev cc0_scratch19 : Ref sig .tc := ⟨.vmem, 22, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_7 : BitVec 32 := 4#32
  let v22 : BitVec 32 := Scalar.muli v20 c4_i32_7
  let c4_i32 : BitVec 32 := 4#32
  let v3 : BitVec 32 := Scalar.remsi v2 c4_i32
  let c1_i32_6 : BitVec 32 := 1#32
  let v21 : BitVec 32 := Scalar.xori v3 c1_i32_6
  let v23 : BitVec 32 := Scalar.addi v22 v21
  let c1_i32_12 : BitVec 32 := 1#32
  let v31 : BitVec 32 := Scalar.muli v23 c1_i32_12
  let v32 : BitVec 32 := Scalar.addi c0_i32_13 v31
  v32.toNat
def k0_dev2 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_8 : BitVec 32 := 4#32
  let v25 : BitVec 32 := Scalar.muli v20 c4_i32_8
  let c3_i32 : BitVec 32 := 3#32
  let c4_i32 : BitVec 32 := 4#32
  let v3 : BitVec 32 := Scalar.remsi v2 c4_i32
  let v24 : BitVec 32 := Scalar.subi c3_i32 v3
  let v26 : BitVec 32 := Scalar.addi v25 v24
  let c1_i32_15 : BitVec 32 := 1#32
  let v33 : BitVec 32 := Scalar.muli v26 c1_i32_15
  let v34 : BitVec 32 := Scalar.addi c0_i32_16 v33
  v34.toNat
def k0_dev3 (d0 : Dev nD) : Nat :=
  let c0_i32_19 : BitVec 32 := 0#32
  let c1_i32_9 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v27 : BitVec 32 := Scalar.subi c1_i32_9 v20
  let c4_i32_10 : BitVec 32 := 4#32
  let v28 : BitVec 32 := Scalar.muli v27 c4_i32_10
  let c4_i32 : BitVec 32 := 4#32
  let v3 : BitVec 32 := Scalar.remsi v2 c4_i32
  let v29 : BitVec 32 := Scalar.addi v28 v3
  let c1_i32_18 : BitVec 32 := 1#32
  let v35 : BitVec 32 := Scalar.muli v29 c1_i32_18
  let v36 : BitVec 32 := Scalar.addi c0_i32_19 v35
  v36.toNat
def k0_off1 (d0 : Dev nD) : Fin 2 → Nat :=
  let c1_i32_30 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v49 : BitVec 32 := Scalar.subi c1_i32_30 v20
  let c4_i32_31 : BitVec 32 := 4#32
  let v50 : BitVec 32 := Scalar.muli v49 c4_i32_31
  let c3_i32_29 : BitVec 32 := 3#32
  let c4_i32 : BitVec 32 := 4#32
  let v3 : BitVec 32 := Scalar.remsi v2 c4_i32
  let c1_i32_28 : BitVec 32 := 1#32
  let v47 : BitVec 32 := Scalar.xori v3 c1_i32_28
  let v48 : BitVec 32 := Scalar.subi c3_i32_29 v47
  let v51 : BitVec 32 := Scalar.addi v50 v48
  let c512_i32 : BitVec 32 := 512#32
  let v52 : BitVec 32 := Scalar.muli v51 c512_i32
  let v53 : Index := Scalar.indexCast v52
  let c0_32 : Index := 0#32
  ![v53.toNat, 0]
def k0_dev4 (d0 : Dev nD) : Nat :=
  let c0_i32_43 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_7 : BitVec 32 := 4#32
  let v22 : BitVec 32 := Scalar.muli v20 c4_i32_7
  let c4_i32 : BitVec 32 := 4#32
  let v3 : BitVec 32 := Scalar.remsi v2 c4_i32
  let c1_i32_6 : BitVec 32 := 1#32
  let v21 : BitVec 32 := Scalar.xori v3 c1_i32_6
  let v23 : BitVec 32 := Scalar.addi v22 v21
  let c1_i32_42 : BitVec 32 := 1#32
  let v61 : BitVec 32 := Scalar.muli v23 c1_i32_42
  let v62 : BitVec 32 := Scalar.addi c0_i32_43 v61
  v62.toNat
def k0_dev5 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_8 : BitVec 32 := 4#32
  let v25 : BitVec 32 := Scalar.muli v20 c4_i32_8
  let c3_i32 : BitVec 32 := 3#32
  let c4_i32 : BitVec 32 := 4#32
  let v3 : BitVec 32 := Scalar.remsi v2 c4_i32
  let v24 : BitVec 32 := Scalar.subi c3_i32 v3
  let v26 : BitVec 32 := Scalar.addi v25 v24
  let c1_i32_54 : BitVec 32 := 1#32
  let v71 : BitVec 32 := Scalar.muli v26 c1_i32_54
  let v72 : BitVec 32 := Scalar.addi c0_i32_55 v71
  v72.toNat
def k0_dev6 (d0 : Dev nD) : Nat :=
  let c0_i32_65 : BitVec 32 := 0#32
  let c1_i32_9 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v27 : BitVec 32 := Scalar.subi c1_i32_9 v20
  let c4_i32_10 : BitVec 32 := 4#32
  let v28 : BitVec 32 := Scalar.muli v27 c4_i32_10
  let c4_i32 : BitVec 32 := 4#32
  let v3 : BitVec 32 := Scalar.remsi v2 c4_i32
  let v29 : BitVec 32 := Scalar.addi v28 v3
  let c1_i32_64 : BitVec 32 := 1#32
  let v81 : BitVec 32 := Scalar.muli v29 c1_i32_64
  let v82 : BitVec 32 := Scalar.addi c0_i32_65 v81
  v82.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_71 : BitVec 32 := 4#32
  let v93 : BitVec 32 := Scalar.muli v20 c4_i32_71
  let c3_i32_70 : BitVec 32 := 3#32
  let c4_i32 : BitVec 32 := 4#32
  let v3 : BitVec 32 := Scalar.remsi v2 c4_i32
  let c1_i32_69 : BitVec 32 := 1#32
  let v91 : BitVec 32 := Scalar.xori v3 c1_i32_69
  let v92 : BitVec 32 := Scalar.subi c3_i32_70 v91
  let v94 : BitVec 32 := Scalar.addi v93 v92
  let c512_i32_72 : BitVec 32 := 512#32
  let v95 : BitVec 32 := Scalar.muli v94 c512_i32_72
  let v96 : Index := Scalar.indexCast v95
  let c0_73 : Index := 0#32
  ![v96.toNat, 0]
def k0_dev7 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_7 : BitVec 32 := 4#32
  let v22 : BitVec 32 := Scalar.muli v20 c4_i32_7
  let c4_i32 : BitVec 32 := 4#32
  let v3 : BitVec 32 := Scalar.remsi v2 c4_i32
  let c1_i32_6 : BitVec 32 := 1#32
  let v21 : BitVec 32 := Scalar.xori v3 c1_i32_6
  let v23 : BitVec 32 := Scalar.addi v22 v21
  let c1_i32_84 : BitVec 32 := 1#32
  let v104 : BitVec 32 := Scalar.muli v23 c1_i32_84
  let v105 : BitVec 32 := Scalar.addi c0_i32_85 v104
  v105.toNat
def k0_dev8 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_8 : BitVec 32 := 4#32
  let v25 : BitVec 32 := Scalar.muli v20 c4_i32_8
  let c3_i32 : BitVec 32 := 3#32
  let c4_i32 : BitVec 32 := 4#32
  let v3 : BitVec 32 := Scalar.remsi v2 c4_i32
  let v24 : BitVec 32 := Scalar.subi c3_i32 v3
  let v26 : BitVec 32 := Scalar.addi v25 v24
  let c1_i32_96 : BitVec 32 := 1#32
  let v114 : BitVec 32 := Scalar.muli v26 c1_i32_96
  let v115 : BitVec 32 := Scalar.addi c0_i32_97 v114
  v115.toNat
def k0_off3 (d0 : Dev nD) : Fin 2 → Nat :=
  let c1_i32_103 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v125 : BitVec 32 := Scalar.subi c1_i32_103 v20
  let c4_i32_104 : BitVec 32 := 4#32
  let v126 : BitVec 32 := Scalar.muli v125 c4_i32_104
  let c4_i32 : BitVec 32 := 4#32
  let v3 : BitVec 32 := Scalar.remsi v2 c4_i32
  let c1_i32_102 : BitVec 32 := 1#32
  let v124 : BitVec 32 := Scalar.xori v3 c1_i32_102
  let v127 : BitVec 32 := Scalar.addi v126 v124
  let c512_i32_105 : BitVec 32 := 512#32
  let v128 : BitVec 32 := Scalar.muli v127 c512_i32_105
  let v129 : Index := Scalar.indexCast v128
  let c0_106 : Index := 0#32
  ![v129.toNat, 0]
def k0_dev9 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_7 : BitVec 32 := 4#32
  let v22 : BitVec 32 := Scalar.muli v20 c4_i32_7
  let c4_i32 : BitVec 32 := 4#32
  let v3 : BitVec 32 := Scalar.remsi v2 c4_i32
  let c1_i32_6 : BitVec 32 := 1#32
  let v21 : BitVec 32 := Scalar.xori v3 c1_i32_6
  let v23 : BitVec 32 := Scalar.addi v22 v21
  let c1_i32_117 : BitVec 32 := 1#32
  let v137 : BitVec 32 := Scalar.muli v23 c1_i32_117
  let v138 : BitVec 32 := Scalar.addi c0_i32_118 v137
  v138.toNat
def k0_dev10 (d0 : Dev nD) : Nat :=
  let c0_i32_130 : BitVec 32 := 0#32
  let c1_i32_9 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v27 : BitVec 32 := Scalar.subi c1_i32_9 v20
  let c4_i32_10 : BitVec 32 := 4#32
  let v28 : BitVec 32 := Scalar.muli v27 c4_i32_10
  let c4_i32 : BitVec 32 := 4#32
  let v3 : BitVec 32 := Scalar.remsi v2 c4_i32
  let v29 : BitVec 32 := Scalar.addi v28 v3
  let c1_i32_129 : BitVec 32 := 1#32
  let v147 : BitVec 32 := Scalar.muli v29 c1_i32_129
  let v148 : BitVec 32 := Scalar.addi c0_i32_130 v147
  v148.toNat
def k0_off4 (d0 : Dev nD) : Fin 2 → Nat :=
  let c1_i32_136 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v158 : BitVec 32 := Scalar.subi c1_i32_136 v20
  let c4_i32_137 : BitVec 32 := 4#32
  let v159 : BitVec 32 := Scalar.muli v158 c4_i32_137
  let c3_i32_135 : BitVec 32 := 3#32
  let c4_i32 : BitVec 32 := 4#32
  let v3 : BitVec 32 := Scalar.remsi v2 c4_i32
  let v157 : BitVec 32 := Scalar.subi c3_i32_135 v3
  let v160 : BitVec 32 := Scalar.addi v159 v157
  let c512_i32_138 : BitVec 32 := 512#32
  let v161 : BitVec 32 := Scalar.muli v160 c512_i32_138
  let v162 : Index := Scalar.indexCast v161
  let c0_139 : Index := 0#32
  ![v162.toNat, 0]
def k0_dev11 (d0 : Dev nD) : Nat :=
  let c0_i32_152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_8 : BitVec 32 := 4#32
  let v25 : BitVec 32 := Scalar.muli v20 c4_i32_8
  let c3_i32 : BitVec 32 := 3#32
  let c4_i32 : BitVec 32 := 4#32
  let v3 : BitVec 32 := Scalar.remsi v2 c4_i32
  let v24 : BitVec 32 := Scalar.subi c3_i32 v3
  let v26 : BitVec 32 := Scalar.addi v25 v24
  let c1_i32_151 : BitVec 32 := 1#32
  let v170 : BitVec 32 := Scalar.muli v26 c1_i32_151
  let v171 : BitVec 32 := Scalar.addi c0_i32_152 v170
  v171.toNat
def k0_dev12 (d0 : Dev nD) : Nat :=
  let c0_i32_164 : BitVec 32 := 0#32
  let c1_i32_9 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v27 : BitVec 32 := Scalar.subi c1_i32_9 v20
  let c4_i32_10 : BitVec 32 := 4#32
  let v28 : BitVec 32 := Scalar.muli v27 c4_i32_10
  let c4_i32 : BitVec 32 := 4#32
  let v3 : BitVec 32 := Scalar.remsi v2 c4_i32
  let v29 : BitVec 32 := Scalar.addi v28 v3
  let c1_i32_163 : BitVec 32 := 1#32
  let v180 : BitVec 32 := Scalar.muli v29 c1_i32_163
  let v181 : BitVec 32 := Scalar.addi c0_i32_164 v180
  v181.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_170 : BitVec 32 := 4#32
  let v191 : BitVec 32 := Scalar.muli v20 c4_i32_170
  let c4_i32 : BitVec 32 := 4#32
  let v3 : BitVec 32 := Scalar.remsi v2 c4_i32
  let c1_i32_169 : BitVec 32 := 1#32
  let v190 : BitVec 32 := Scalar.xori v3 c1_i32_169
  let v192 : BitVec 32 := Scalar.addi v191 v190
  let c512_i32_171 : BitVec 32 := 512#32
  let v193 : BitVec 32 := Scalar.muli v192 c512_i32_171
  let v194 : Index := Scalar.indexCast v193
  let c0_172 : Index := 0#32
  ![v194.toNat, 0]
def k0_dev13 (d0 : Dev nD) : Nat :=
  let c0_i32_185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_7 : BitVec 32 := 4#32
  let v22 : BitVec 32 := Scalar.muli v20 c4_i32_7
  let c4_i32 : BitVec 32 := 4#32
  let v3 : BitVec 32 := Scalar.remsi v2 c4_i32
  let c1_i32_6 : BitVec 32 := 1#32
  let v21 : BitVec 32 := Scalar.xori v3 c1_i32_6
  let v23 : BitVec 32 := Scalar.addi v22 v21
  let c1_i32_184 : BitVec 32 := 1#32
  let v202 : BitVec 32 := Scalar.muli v23 c1_i32_184
  let v203 : BitVec 32 := Scalar.addi c0_i32_185 v202
  v203.toNat
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_191 : BitVec 32 := 4#32
  let v213 : BitVec 32 := Scalar.muli v20 c4_i32_191
  let c3_i32_190 : BitVec 32 := 3#32
  let c4_i32 : BitVec 32 := 4#32
  let v3 : BitVec 32 := Scalar.remsi v2 c4_i32
  let v212 : BitVec 32 := Scalar.subi c3_i32_190 v3
  let v214 : BitVec 32 := Scalar.addi v213 v212
  let c512_i32_192 : BitVec 32 := 512#32
  let v215 : BitVec 32 := Scalar.muli v214 c512_i32_192
  let v216 : Index := Scalar.indexCast v215
  let c0_193 : Index := 0#32
  ![v216.toNat, 0]
def k0_dev14 (d0 : Dev nD) : Nat :=
  let c0_i32_206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_8 : BitVec 32 := 4#32
  let v25 : BitVec 32 := Scalar.muli v20 c4_i32_8
  let c3_i32 : BitVec 32 := 3#32
  let c4_i32 : BitVec 32 := 4#32
  let v3 : BitVec 32 := Scalar.remsi v2 c4_i32
  let v24 : BitVec 32 := Scalar.subi c3_i32 v3
  let v26 : BitVec 32 := Scalar.addi v25 v24
  let c1_i32_205 : BitVec 32 := 1#32
  let v224 : BitVec 32 := Scalar.muli v26 c1_i32_205
  let v225 : BitVec 32 := Scalar.addi c0_i32_206 v224
  v225.toNat
def k0_off7 (d0 : Dev nD) : Fin 2 → Nat :=
  let c1_i32_211 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v234 : BitVec 32 := Scalar.subi c1_i32_211 v20
  let c4_i32_212 : BitVec 32 := 4#32
  let v235 : BitVec 32 := Scalar.muli v234 c4_i32_212
  let c4_i32 : BitVec 32 := 4#32
  let v3 : BitVec 32 := Scalar.remsi v2 c4_i32
  let v236 : BitVec 32 := Scalar.addi v235 v3
  let c512_i32_213 : BitVec 32 := 512#32
  let v237 : BitVec 32 := Scalar.muli v236 c512_i32_213
  let v238 : Index := Scalar.indexCast v237
  let c0_214 : Index := 0#32
  ![v238.toNat, 0]
def k0_dev15 (d0 : Dev nD) : Nat :=
  let c0_i32_227 : BitVec 32 := 0#32
  let c1_i32_9 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v27 : BitVec 32 := Scalar.subi c1_i32_9 v20
  let c4_i32_10 : BitVec 32 := 4#32
  let v28 : BitVec 32 := Scalar.muli v27 c4_i32_10
  let c4_i32 : BitVec 32 := 4#32
  let v3 : BitVec 32 := Scalar.remsi v2 c4_i32
  let v29 : BitVec 32 := Scalar.addi v28 v3
  let c1_i32_226 : BitVec 32 := 1#32
  let v246 : BitVec 32 := Scalar.muli v29 c1_i32_226
  let v247 : BitVec 32 := Scalar.addi c0_i32_227 v246
  v247.toNat
def k0_dev16 (d0 : Dev nD) : Nat :=
  let c0_i32_260 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_8 : BitVec 32 := 4#32
  let v25 : BitVec 32 := Scalar.muli v20 c4_i32_8
  let c3_i32 : BitVec 32 := 3#32
  let c4_i32 : BitVec 32 := 4#32
  let v3 : BitVec 32 := Scalar.remsi v2 c4_i32
  let v24 : BitVec 32 := Scalar.subi c3_i32 v3
  let v26 : BitVec 32 := Scalar.addi v25 v24
  let c1_i32_259 : BitVec 32 := 1#32
  let v275 : BitVec 32 := Scalar.muli v26 c1_i32_259
  let v276 : BitVec 32 := Scalar.addi c0_i32_260 v275
  v276.toNat
def k0_dev17 (d0 : Dev nD) : Nat :=
  let c0_i32_293 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_8 : BitVec 32 := 4#32
  let v25 : BitVec 32 := Scalar.muli v20 c4_i32_8
  let c3_i32 : BitVec 32 := 3#32
  let c4_i32 : BitVec 32 := 4#32
  let v3 : BitVec 32 := Scalar.remsi v2 c4_i32
  let v24 : BitVec 32 := Scalar.subi c3_i32 v3
  let v26 : BitVec 32 := Scalar.addi v25 v24
  let c1_i32_292 : BitVec 32 := 1#32
  let v304 : BitVec 32 := Scalar.muli v26 c1_i32_292
  let v305 : BitVec 32 := Scalar.addi c0_i32_293 v304
  v305.toNat
def k0_dev18 (d0 : Dev nD) : Nat :=
  let c0_i32_325 : BitVec 32 := 0#32
  let c1_i32_9 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v27 : BitVec 32 := Scalar.subi c1_i32_9 v20
  let c4_i32_10 : BitVec 32 := 4#32
  let v28 : BitVec 32 := Scalar.muli v27 c4_i32_10
  let c4_i32 : BitVec 32 := 4#32
  let v3 : BitVec 32 := Scalar.remsi v2 c4_i32
  let v29 : BitVec 32 := Scalar.addi v28 v3
  let c1_i32_324 : BitVec 32 := 1#32
  let v333 : BitVec 32 := Scalar.muli v29 c1_i32_324
  let v334 : BitVec 32 := Scalar.addi c0_i32_325 v333
  v334.toNat
def k0_dev19 (d0 : Dev nD) : Nat :=
  let c0_i32_358 : BitVec 32 := 0#32
  let c1_i32_9 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v27 : BitVec 32 := Scalar.subi c1_i32_9 v20
  let c4_i32_10 : BitVec 32 := 4#32
  let v28 : BitVec 32 := Scalar.muli v27 c4_i32_10
  let c4_i32 : BitVec 32 := 4#32
  let v3 : BitVec 32 := Scalar.remsi v2 c4_i32
  let v29 : BitVec 32 := Scalar.addi v28 v3
  let c1_i32_357 : BitVec 32 := 1#32
  let v362 : BitVec 32 := Scalar.muli v29 c1_i32_357
  let v363 : BitVec 32 := Scalar.addi c0_i32_358 v362
  v363.toNat
def k0_dev20 (d0 : Dev nD) : Nat :=
  let c0_i32_390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_7 : BitVec 32 := 4#32
  let v22 : BitVec 32 := Scalar.muli v20 c4_i32_7
  let c4_i32 : BitVec 32 := 4#32
  let v3 : BitVec 32 := Scalar.remsi v2 c4_i32
  let c1_i32_6 : BitVec 32 := 1#32
  let v21 : BitVec 32 := Scalar.xori v3 c1_i32_6
  let v23 : BitVec 32 := Scalar.addi v22 v21
  let c1_i32_389 : BitVec 32 := 1#32
  let v391 : BitVec 32 := Scalar.muli v23 c1_i32_389
  let v392 : BitVec 32 := Scalar.addi c0_i32_390 v391
  v392.toNat
def k0_dev21 (d0 : Dev nD) : Nat :=
  let c0_i32_423 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_7 : BitVec 32 := 4#32
  let v22 : BitVec 32 := Scalar.muli v20 c4_i32_7
  let c4_i32 : BitVec 32 := 4#32
  let v3 : BitVec 32 := Scalar.remsi v2 c4_i32
  let c1_i32_6 : BitVec 32 := 1#32
  let v21 : BitVec 32 := Scalar.xori v3 c1_i32_6
  let v23 : BitVec 32 := Scalar.addi v22 v21
  let c1_i32_422 : BitVec 32 := 1#32
  let v420 : BitVec 32 := Scalar.muli v23 c1_i32_422
  let v421 : BitVec 32 := Scalar.addi c0_i32_423 v420
  v421.toNat
def k0_dev22 (d0 : Dev nD) : Nat :=
  let c0_i32_466 : BitVec 32 := 0#32
  let c1_i32_9 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v27 : BitVec 32 := Scalar.subi c1_i32_9 v20
  let c4_i32_10 : BitVec 32 := 4#32
  let v28 : BitVec 32 := Scalar.muli v27 c4_i32_10
  let c4_i32 : BitVec 32 := 4#32
  let v3 : BitVec 32 := Scalar.remsi v2 c4_i32
  let v29 : BitVec 32 := Scalar.addi v28 v3
  let c1_i32_465 : BitVec 32 := 1#32
  let v461 : BitVec 32 := Scalar.muli v29 c1_i32_465
  let v462 : BitVec 32 := Scalar.addi c0_i32_466 v461
  v462.toNat
def k0_dev23 (d0 : Dev nD) : Nat :=
  let c0_i32_505 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_7 : BitVec 32 := 4#32
  let v22 : BitVec 32 := Scalar.muli v20 c4_i32_7
  let c4_i32 : BitVec 32 := 4#32
  let v3 : BitVec 32 := Scalar.remsi v2 c4_i32
  let c1_i32_6 : BitVec 32 := 1#32
  let v21 : BitVec 32 := Scalar.xori v3 c1_i32_6
  let v23 : BitVec 32 := Scalar.addi v22 v21
  let c1_i32_504 : BitVec 32 := 1#32
  let v498 : BitVec 32 := Scalar.muli v23 c1_i32_504
  let v499 : BitVec 32 := Scalar.addi c0_i32_505 v498
  v499.toNat
def k0_dev24 (d0 : Dev nD) : Nat :=
  let c0_i32_544 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_8 : BitVec 32 := 4#32
  let v25 : BitVec 32 := Scalar.muli v20 c4_i32_8
  let c3_i32 : BitVec 32 := 3#32
  let c4_i32 : BitVec 32 := 4#32
  let v3 : BitVec 32 := Scalar.remsi v2 c4_i32
  let v24 : BitVec 32 := Scalar.subi c3_i32 v3
  let v26 : BitVec 32 := Scalar.addi v25 v24
  let c1_i32_543 : BitVec 32 := 1#32
  let v535 : BitVec 32 := Scalar.muli v26 c1_i32_543
  let v536 : BitVec 32 := Scalar.addi c0_i32_544 v535
  v536.toNat
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_545 : BitVec 32 := 512#32
  let v541 : BitVec 32 := Scalar.muli v2 c512_i32_545
  let v542 : Index := Scalar.indexCast v541
  let c0_546 : Index := 0#32
  ![v542.toNat, 0]
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v671 : Index := Scalar.indexCast v2
  let c0_675 : Index := 0#32
  ![v671.toNat, 0]
def k0_off10 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_681 : BitVec 32 := 0#32
  ![v2.toNat, 0]
def k0_dev25 (d0 : Dev nD) : Nat :=
  let c0_i32_680 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_676 : BitVec 32 := 1#32
  let v675 : BitVec 32 := Scalar.addi v2 c1_i32_676
  let c8_i32_677 : BitVec 32 := 8#32
  let v676 : BitVec 32 := Scalar.remsi v675 c8_i32_677
  let c1_i32_679 : BitVec 32 := 1#32
  let v677 : BitVec 32 := Scalar.muli v676 c1_i32_679
  let v678 : BitVec 32 := Scalar.addi c0_i32_680 v677
  v678.toNat
def k0_dev26 (d0 : Dev nD) : Nat :=
  let c0_i32_686 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_682 : BitVec 32 := 2#32
  let v684 : BitVec 32 := Scalar.addi v2 c2_i32_682
  let c8_i32_683 : BitVec 32 := 8#32
  let v685 : BitVec 32 := Scalar.remsi v684 c8_i32_683
  let c1_i32_685 : BitVec 32 := 1#32
  let v686 : BitVec 32 := Scalar.muli v685 c1_i32_685
  let v687 : BitVec 32 := Scalar.addi c0_i32_686 v686
  v687.toNat
def k0_dev27 (d0 : Dev nD) : Nat :=
  let c0_i32_692 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_688 : BitVec 32 := 3#32
  let v693 : BitVec 32 := Scalar.addi v2 c3_i32_688
  let c8_i32_689 : BitVec 32 := 8#32
  let v694 : BitVec 32 := Scalar.remsi v693 c8_i32_689
  let c1_i32_691 : BitVec 32 := 1#32
  let v695 : BitVec 32 := Scalar.muli v694 c1_i32_691
  let v696 : BitVec 32 := Scalar.addi c0_i32_692 v695
  v696.toNat
def k0_dev28 (d0 : Dev nD) : Nat :=
  let c0_i32_698 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_694 : BitVec 32 := 4#32
  let v702 : BitVec 32 := Scalar.addi v2 c4_i32_694
  let c8_i32_695 : BitVec 32 := 8#32
  let v703 : BitVec 32 := Scalar.remsi v702 c8_i32_695
  let c1_i32_697 : BitVec 32 := 1#32
  let v704 : BitVec 32 := Scalar.muli v703 c1_i32_697
  let v705 : BitVec 32 := Scalar.addi c0_i32_698 v704
  v705.toNat
def k0_dev29 (d0 : Dev nD) : Nat :=
  let c0_i32_704 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_700 : BitVec 32 := 5#32
  let v711 : BitVec 32 := Scalar.addi v2 c5_i32_700
  let c8_i32_701 : BitVec 32 := 8#32
  let v712 : BitVec 32 := Scalar.remsi v711 c8_i32_701
  let c1_i32_703 : BitVec 32 := 1#32
  let v713 : BitVec 32 := Scalar.muli v712 c1_i32_703
  let v714 : BitVec 32 := Scalar.addi c0_i32_704 v713
  v714.toNat
def k0_dev30 (d0 : Dev nD) : Nat :=
  let c0_i32_710 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_706 : BitVec 32 := 6#32
  let v720 : BitVec 32 := Scalar.addi v2 c6_i32_706
  let c8_i32_707 : BitVec 32 := 8#32
  let v721 : BitVec 32 := Scalar.remsi v720 c8_i32_707
  let c1_i32_709 : BitVec 32 := 1#32
  let v722 : BitVec 32 := Scalar.muli v721 c1_i32_709
  let v723 : BitVec 32 := Scalar.addi c0_i32_710 v722
  v723.toNat
def k0_dev31 (d0 : Dev nD) : Nat :=
  let c0_i32_716 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_712 : BitVec 32 := 7#32
  let v729 : BitVec 32 := Scalar.addi v2 c7_i32_712
  let c8_i32_713 : BitVec 32 := 8#32
  let v730 : BitVec 32 := Scalar.remsi v729 c8_i32_713
  let c1_i32_715 : BitVec 32 := 1#32
  let v731 : BitVec 32 := Scalar.muli v730 c1_i32_715
  let v732 : BitVec 32 := Scalar.addi c0_i32_716 v731
  v732.toNat
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1x4096x2048 : Shape := ⟨3, ![1, 4096, 2048]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .local _ .vmem, ⟨0, _⟩ => ⟨S4096x4096, .bf16⟩
  | .local _ .vmem, ⟨1, _⟩ => ⟨S4096x2048, .bf16⟩
  | .local _ .vmem, ⟨2, _⟩ => ⟨S4096x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Owns.lean ====
module

public import Idealize.ShloMosaic.Lib.Memref
public import Idealize.ShloMosaic.Lib.MemrefSat
public import Idealize.ShloMosaic.Lib.Rounds
public import Idealize.ShloMosaic.Lib.Pipeline.Kit
public import Idealize.ShloMosaic.Lib.Pipeline.Launch
public import Idealize.ShloMosaic.Lib.Tactic

/-!
Steps of a program over memrefs owned at known contents: loads, stores, and the cutting of
a memref into rectangles and back.
-/

@[expose] public section

noncomputable section

namespace Cert.Pieces

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- Core `c` owns the memref outright, at some contents. -/
def free (c : Thread nD τ) {sp : Space} {sh : Shape} {e : EltTy} (m : Memref sig c.2.kind sp sh e) : sProp 𝕄 :=
  iprop(∃ X, owns c m fullShare X)

instance free_storable (c : Thread nD τ) {sp : Space} {sh : Shape} {e : EltTy} (m : Memref sig c.2.kind sp sh e) :
    BI.Storable (upEmb : UEmb _ 𝕄) (free c m) := by
  unfold free; infer_instance

section Basic

variable (c : Thread nD τ) {sp : Space} {s : Shape} {e : EltTy} (m : Memref sig c.2.kind sp s e) (q : PosShare TreeShare)

theorem owns_free (X : s.Idx → Val e) : (owns c m fullShare X : sProp 𝕄) ⊢ free c m := by
  unfold free; iintro H; iexists X; iexact H

/-- What owning a memref is, spelled out. -/
theorem owns_def (X : s.Idx → Val e) :
    (owns c m q X : sProp 𝕄) = iprop(∃ f, ⌜m.view.read Val f = X⌝ ∗ (m.view.loc c ↦[m.view.set]{q} f)) := rfl

/-- Contents owned may be named otherwise when they are equal. -/
theorem owns_of_eq {X Y : s.Idx → Val e} (h : X = Y) : (owns c m q X : sProp 𝕄) ⊢ owns c m q Y := by
  subst h; exact .rfl

/-- A squeezed memref is the memref, its contents read in row-major order. -/
theorem owns_squeeze {s' : Shape} (h : s.Squeezes s') (X : s.Idx → Val e) :
    (owns c (m.squeeze s' h) q (fun j => X (Shape.reshapeEquiv h.numel_eq j)) : sProp 𝕄) = owns c m q X := by
  have hset : (m.squeeze s' h).view.set = m.view.set := View.set_reshape _ _
  have key (f : m.view.ty.Contents Val) :
      ((m.squeeze s' h).view.read Val f = fun j => X (Shape.reshapeEquiv h.numel_eq j)) ↔ m.view.read Val f = X := by
    constructor
    · intro hf; funext i
      have := congrFun hf ((Shape.reshapeEquiv h.numel_eq).symm i)
      have e1 : (m.squeeze s' h).view.read Val f ((Shape.reshapeEquiv h.numel_eq).symm i)
          = m.view.read Val f (Shape.reshapeEquiv h.numel_eq ((Shape.reshapeEquiv h.numel_eq).symm i)) := rfl
      rw [e1] at this
      simpa using this
    · intro hf; subst hf; rfl
  have h₁ : (owns c (m.squeeze s' h) q (fun j => X (Shape.reshapeEquiv h.numel_eq j)) : sProp 𝕄) ⊢ owns c m q X := by
    unfold owns; iintro ⟨%f, %hf, H⟩; iexists f
    isplitr
    · ipureintro; exact (key f).mp hf
    · rw [hset]; iexact H
  have h₂ : (owns c m q X : sProp 𝕄) ⊢ owns c (m.squeeze s' h) q (fun j => X (Shape.reshapeEquiv h.numel_eq j)) := by
    unfold owns; iintro ⟨%f, %hf, H⟩; iexists f
    isplitr
    · ipureintro; exact (key f).mpr hf
    · rw [hset]; iexact H
  exact BI.equiv_iff.mp ⟨h₁, h₂⟩

theorem free_squeeze {s' : Shape} (h : s.Squeezes s') : (free c m : sProp 𝕄) ⊢ free c (m.squeeze s' h) := by
  unfold free; iintro ⟨%X, H⟩
  iexists (fun j => X (Shape.reshapeEquiv h.numel_eq j)); rw [owns_squeeze]; iexact H

/-- The slice at offset zero of the memref's own sizes is the memref. -/
theorem owns_slice_zero {off : Fin s.rank → Nat} (h0 : off = fun _ => 0) (inb) (hr) (X : s.Idx → Val e) :
    (owns c (m.slice (Rect.unit off s.size inb) hr) q X : sProp 𝕄) = owns c m q X := by
  subst h0
  have hset : (m.slice (Rect.unit (fun _ => 0) s.size inb) hr).view.set = m.view.set := by
    refine (View.set_slice m.view (Rect.unit (fun _ => 0) s.size inb)).trans ?_
    show Finset.map m.view.emb (Rect.unit (fun _ => 0) s.size inb).set = _
    rw [show (Rect.unit (fun _ => 0) s.size inb).set = Finset.univ from Rect.set_whole s]; rfl
  have key (f : m.view.ty.Contents Val) : (m.slice (Rect.unit (fun _ => 0) s.size inb) hr).view.read Val f = m.view.read Val f := by
    funext j
    show m.view.read Val f ((Rect.unit (fun _ => 0) s.size inb).emb j) = _
    congr 1
    funext a; apply Fin.ext; simp
  have h₁ : (owns c (m.slice (Rect.unit (fun _ => 0) s.size inb) hr) q X : sProp 𝕄) ⊢ owns c m q X := by
    unfold owns; iintro ⟨%f, %hf, H⟩; iexists f
    isplitr
    · ipureintro; exact (key f).symm.trans hf
    · rw [← hset]; iexact H
  have h₂ : (owns c m q X : sProp 𝕄) ⊢ owns c (m.slice (Rect.unit (fun _ => 0) s.size inb) hr) q X := by
    unfold owns; iintro ⟨%f, %hf, H⟩; iexists f
    isplitr
    · ipureintro; exact (key f).trans hf
    · rw [hset]; iexact H
  exact BI.equiv_iff.mp ⟨h₁, h₂⟩

end Basic

section Steps

variable [Preorder Lvl] {Λ : Labels} {defs : Defs nD τ sig Val Λ} (𝒱 : Variants) (c : Thread nD τ)
  (bd : Option 𝒱.V) {Γ : PendingWaitsCtx sig Ix} (E : Set Name)
variable {s : Shape} {e : EltTy} {α : Type} {Q : α → sProp (MT nD τ sig Ix Val Name U Lvl)}
variable {cs : CoreSpace} {m : Memref sig c.2.kind cs s e} {r : Rect s}

/-- A load through a rectangle of a memref owned whole reads the contents there. -/
theorem wp_load_part {hl : m.view.LoadsAt r} {k : (r.shape.Idx → Val e) → Prog (TpuEff nD τ sig Val Λ c.2) α}
    {q : PosShare TreeShare} {X : s.Idx → Val e} :
    (owns c m q X : sProp 𝕄)
      ⊢ iprop((owns c m q X -∗ wp frame (wpE' defs 𝒱 c bd Γ) E (k fun j => X (r.emb j)) Q)
        -∗ wp frame (wpE' defs 𝒱 c bd Γ) E (.op (.load m r hl) k) Q) := by
  iintro H Hk
  unfold owns
  icases H with ⟨%f, %hf, H⟩
  iapply (wp_load_rect (defs := defs) 𝒱 c bd (Γ := Γ) E (m := m) (r := r) (hl := hl) (k := k)
    (S := m.view.set) (q := q) (f := f) (View.set_slice_subset _ _)) $$ [H]
  · iexact H
  iintro H
  subst hf
  iapply Hk
  iexists f
  isplitr
  · ipureintro; rfl
  · iexact H

/-- A load through a rectangle that is owned reads its contents. -/
theorem wp_load_slice {hr : ∀ a, r.stride a = 1} {hl : m.view.LoadsAt r} {k : (r.shape.Idx → Val e) → Prog (TpuEff nD τ sig Val Λ c.2) α}
    {q : PosShare TreeShare} {X : r.shape.Idx → Val e} :
    (owns c (m.slice r hr) q X : sProp 𝕄)
      ⊢ iprop((owns c (m.slice r hr) q X -∗ wp frame (wpE' defs 𝒱 c bd Γ) E (k X) Q)
        -∗ wp frame (wpE' defs 𝒱 c bd Γ) E (.op (.load m r hl) k) Q) := by
  iintro H Hk
  unfold owns
  icases H with ⟨%f, %hf, H⟩
  iapply (wp_load_rect (defs := defs) 𝒱 c bd (Γ := Γ) E (m := m) (r := r) (hl := hl) (k := k)
    (S := (m.slice r hr).view.set) (q := q) (f := f) subset_rfl) $$ [H]
  · iexact H
  iintro H
  subst hf
  iapply Hk
  iexists f
  isplitr
  · ipureintro; rfl
  · iexact H

/-- A load through a rectangle owned at some contents reads something. -/
theorem wp_load_free {hr : ∀ a, r.stride a = 1} {hl : m.view.LoadsAt r} {k : (r.shape.Idx → Val e) → Prog (TpuEff nD τ sig Val Λ c.2) α} :
    (free c (m.slice r hr) : sProp 𝕄)
      ⊢ iprop((∀ X, free c (m.slice r hr) -∗ wp frame (wpE' defs 𝒱 c bd Γ) E (k X) Q)
        -∗ wp frame (wpE' defs 𝒱 c bd Γ) E (.op (.load m r hl) k) Q) := by
  iintro H Hk
  unfold free
  icases H with ⟨%X, H⟩
  iapply (wp_load_slice (defs := defs) 𝒱 c bd (Γ := Γ) E (hr := hr) (hl := hl) (k := k)) $$ [H]
  · iexact H
  iintro H
  iapply Hk
  iexists X; iexact H

/-- A store through a rectangle that is owned leaves the stored values there. -/
theorem wp_store_free {hr : ∀ a, r.stride a = 1} {w : r.shape.Idx → Val e} {hx : (m.access r).Stores Finset.univ}
    {hm : (Finset.univ : Finset r.shape.Idx) = Finset.univ ∨ ∀ a, r.stride a = 1}
    {k : PUnit → Prog (TpuEff nD τ sig Val Λ c.2) α} :
    (free c (m.slice r hr) : sProp 𝕄)
      ⊢ iprop((owns c (m.slice r hr) fullShare w -∗ wp frame (wpE' defs 𝒱 c bd Γ) E (k ⟨⟩) Q)
        -∗ wp frame (wpE' defs 𝒱 c bd Γ) E (.op (.store m r w Finset.univ hx hm) k) Q) := by
  iintro H Hk
  unfold free owns
  icases H with ⟨%X, %f, %hf, H⟩
  iapply (wp_store (defs := defs) 𝒱 c bd (Γ := Γ) E (m := m) (r := r) (hx := hx) (hm := hm) (k := k)
    (S := (m.slice r hr).view.set) (f := f) (View.setOn_subset_set _ _)) $$ [H]
  · iexact H
  iintro H
  iapply Hk
  iexists ((m.access r).write Val f w Finset.univ)
  isplitr
  · ipureintro; exact View.read_write_univ _ _
  · iexact H

end Steps

section Cut

variable (c : Thread nD τ) {sp : Space} {s : Shape} {e : EltTy} (m : Memref sig c.2.kind sp s e) (q : PosShare TreeShare)
variable {r r₁ r₂ : Rect s} (hr : ∀ a, r.stride a = 1) (hr₁ : ∀ a, r₁.stride a = 1) (hr₂ : ∀ a, r₂.stride a = 1)
  (hd : Disjoint r₁.set r₂.set) (hu : r₁.set ∪ r₂.set = r.set)
include hd hu

/-- The elements of a slice cut in two. -/
theorem cut_set : (m.slice r hr).view.set = (m.slice r₁ hr₁).view.set ∪ (m.slice r₂ hr₂).view.set := by
  simp only [Memref.view_slice, View.set_slice]
  rw [← hu, Finset.map_union]

omit hu in
theorem cut_disj : Disjoint (m.slice r₁ hr₁).view.set (m.slice r₂ hr₂).view.set := by
  simp only [Memref.view_slice, View.set_slice]
  exact (Finset.disjoint_map _).mpr hd

/-- A slice owned at known contents is its two parts owned at theirs. -/
theorem cut_owns {X : r.shape.Idx → Val e} {X₁ : r₁.shape.Idx → Val e} {X₂ : r₂.shape.Idx → Val e}
    (g₁ : r₁.shape.Idx → r.shape.Idx) (g₂ : r₂.shape.Idx → r.shape.Idx)
    (h₁ : ∀ j, r.emb (g₁ j) = r₁.emb j) (h₂ : ∀ j, r.emb (g₂ j) = r₂.emb j)
    (hX₁ : ∀ j, X (g₁ j) = X₁ j) (hX₂ : ∀ j, X (g₂ j) = X₂ j) :
    (owns c (m.slice r hr) q X : sProp 𝕄) ⊢ iprop(owns c (m.slice r₁ hr₁) q X₁ ∗ owns c (m.slice r₂ hr₂) q X₂) := by
  unfold owns
  iintro ⟨%f, %hf, H⟩
  rw [cut_set c m hr hr₁ hr₂ hd hu]
  ihave H' := (pointsTo_union (cut_disj c m hr₁ hr₂ hd)).1 $$ H
  icases H' with ⟨H1, H2⟩
  subst hf
  isplitl [H1]
  · iexists f
    isplitr
    · ipureintro; funext j
      rw [← hX₁ j]
      show m.view.read Val f (r₁.emb j) = m.view.read Val f (r.emb (g₁ j))
      rw [h₁]
    · iexact H1
  · iexists f
    isplitr
    · ipureintro; funext j
      rw [← hX₂ j]
      show m.view.read Val f (r₂.emb j) = m.view.read Val f (r.emb (g₂ j))
      rw [h₂]
    · iexact H2

/-- Two parts owned at some contents are the slice owned at some contents. -/
theorem join_free : (iprop(free c (m.slice r₁ hr₁) ∗ free c (m.slice r₂ hr₂)) : sProp 𝕄) ⊢ free c (m.slice r hr) := by
  unfold free owns
  iintro ⟨⟨%X₁, %f₁, -, H1⟩, ⟨%X₂, %f₂, -, H2⟩⟩
  ihave H := (show iprop((m.view.loc c ↦[(m.slice r₁ hr₁).view.set]{fullShare} f₁) ∗ (m.view.loc c ↦[(m.slice r₂ hr₂).view.set]{fullShare} f₂))
    ⊢ (m.view.loc c ↦[(m.slice r₁ hr₁).view.set ∪ (m.slice r₂ hr₂).view.set]{fullShare} ((m.slice r₂ hr₂).view.set.piecewise f₂ f₁) : sProp 𝕄)
    from pointsTo_join (cut_disj c m hr₁ hr₂ hd)) $$ [H1 H2]
  · isplitl [H1]; · iexact H1
    iexact H2
  iexists _
  iexists ((m.slice r₂ hr₂).view.set.piecewise f₂ f₁)
  isplitr
  · ipureintro; rfl
  · rw [cut_set c m hr hr₁ hr₂ hd hu]; iexact H

end Cut

section Families

variable (c : Thread nD τ) {sp : Space} {s : Shape} {e : EltTy} (m : Memref sig c.2.kind sp s e)
variable {T : Type} [Fintype T] [DecidableEq T] (r : T → Rect s) (hr : ∀ t a, (r t).stride a = 1)
  (hd : ∀ t t', t ≠ t' → Disjoint (r t).set (r t').set)
  (hcov : (Finset.univ : Finset T).biUnion (fun t => (r t).set) = Finset.univ)
include hd hcov

theorem free_eq_sat : (free c m : sProp 𝕄) ⊣⊢ ownsSat c m fullShare (fun _ => True) :=
  ⟨(ownsSat_true c m fullShare).2, (ownsSat_true c m fullShare).1⟩

/-- A memref owned at some contents is each rectangle of a disjoint covering family so owned, -/
theorem free_rects : (free c m : sProp 𝕄) ⊢ bigSep Finset.univ fun t => free c (m.slice (r t) (hr t)) := by
  refine ((ownsSat_true c m fullShare).2.trans ?_)
  refine (ownsSat_mono c m fullShare (Ψ := fun X => ∀ t, (fun _ _ => True : (t : T) → ((r t).shape.Idx → Val e) → Prop) t fun j => X ((r t).emb j))
    fun _ _ _ => trivial).trans ?_
  refine (ownsSat_rects c m fullShare r hr hd hcov (fun _ _ => True)).trans ?_
  exact BI.bigSep_mono fun t _ => (ownsSat_true c (m.slice (r t) (hr t)) fullShare).1

/-- and back. -/
theorem free_of_rects [∀ e, Nonempty (Val e)] :
    (bigSep Finset.univ fun t => free c (m.slice (r t) (hr t))) ⊢ (free c m : sProp 𝕄) := by
  refine (BI.bigSep_mono fun t _ => (ownsSat_true c (m.slice (r t) (hr t)) fullShare).2).trans ?_
  refine (ownsSat_of_rects c m fullShare r hr hd hcov (fun _ _ => True)).trans ?_
  exact (ownsSat_any c m fullShare)

end Families

/-! ## Rows and columns -/

section Rows

variable {sp : Space} {e : EltTy}

/-- The rectangle of one row along the first axis of a rank-three shape. -/
abbrev row3 (n a b : ℕ) (t : Fin n) : Rect ⟨3, ![n, a, b]⟩ :=
  Rect.unit (s := ⟨3, ![n, a, b]⟩) ![t.val, 0, 0] ![1, a, b] (by
    intro x; have := t.isLt
    fin_cases x <;> simp <;> omega)

/-- The rectangle of one row of a rank-two shape. -/
abbrev row2 (n b : ℕ) (t : Fin n) : Rect ⟨2, ![n, b]⟩ :=
  Rect.unit (s := ⟨2, ![n, b]⟩) ![t.val, 0] ![1, b] (by
    intro x; have := t.isLt
    fin_cases x <;> simp <;> omega)

theorem row3_disj (n a b : ℕ) (t t' : Fin n) (h : t ≠ t') : Disjoint (row3 n a b t).set (row3 n a b t').set := by
  apply Rect.unit_disjoint 0
  have : t.val ≠ t'.val := fun e => h (Fin.ext e)
  simp; omega

theorem row3_cov (n a b : ℕ) : (Finset.univ : Finset (Fin n)).biUnion (fun t => (row3 n a b t).set) = Finset.univ := by
  ext i
  simp only [Finset.mem_biUnion, Finset.mem_univ, true_and, iff_true, Rect.mem_set_unit]
  refine ⟨i 0, fun x => ?_⟩
  have := (i x).isLt
  fin_cases x <;> simp at this ⊢ <;> omega

theorem row2_disj (n b : ℕ) (t t' : Fin n) (h : t ≠ t') : Disjoint (row2 n b t).set (row2 n b t').set := by
  apply Rect.unit_disjoint 0
  have : t.val ≠ t'.val := fun e => h (Fin.ext e)
  simp; omega

theorem row2_cov (n b : ℕ) : (Finset.univ : Finset (Fin n)).biUnion (fun t => (row2 n b t).set) = Finset.univ := by
  ext i
  simp only [Finset.mem_biUnion, Finset.mem_univ, true_and, iff_true, Rect.mem_set_unit]
  refine ⟨i 0, fun x => ?_⟩
  have := (i x).isLt
  fin_cases x <;> simp at this ⊢ <;> omega

/-- The columns from `lo` on, `w` of them, of row `k` of a stack. -/
abbrev seg (n a b : ℕ) (k : Fin n) (lo w : ℕ) (h : lo + w ≤ b) : Rect ⟨3, ![n, a, b]⟩ :=
  Rect.unit (s := ⟨3, ![n, a, b]⟩) ![k.val, 0, lo] ![1, a, w] (by
    intro x; have := k.isLt
    fin_cases x <;> simp <;> omega)
/-- The columns from `lo` on, `w` of them, of a matrix. -/
abbrev col (a b lo w : ℕ) (h : lo + w ≤ b) : Rect ⟨2, ![a, b]⟩ :=
  Rect.unit (s := ⟨2, ![a, b]⟩) ![0, lo] ![a, w] (by
    intro x
    fin_cases x <;> simp <;> omega)

theorem seg_disj (n a b : ℕ) (k : Fin n) (lo lo' w w' : ℕ) (h h') (hl : lo + w ≤ lo') :
    Disjoint (seg n a b k lo w h).set (seg n a b k lo' w' h').set := by
  apply Rect.unit_disjoint 2
  simp; omega

theorem seg_union (n a b : ℕ) (k : Fin n) (lo lo' w w' v : ℕ) (h h' h'') (hl : lo + w = lo') (hv : w + w' = v) :
    (seg n a b k lo w h).set ∪ (seg n a b k lo' w' h').set = (seg n a b k lo v h'').set := by
  subst hl hv
  ext i
  have h0 : (⟨0, by decide⟩ : Fin 3) = 0 := rfl
  simp only [Finset.mem_union, Rect.mem_set_unit]
  constructor
  · rintro (hi | hi) x <;> have := hi x <;> fin_cases x <;> simp at this ⊢ <;> omega
  · intro hi
    have h1 := hi 0; have h2 := hi 1; have h3 := hi 2
    simp at h1 h2 h3
    by_cases hc : i 2 < lo + w
    · left; intro x; fin_cases x <;> simp <;> omega
    · right; intro x; fin_cases x <;> simp <;> omega

theorem col_disj (a b lo lo' w w' : ℕ) (h h') (hl : lo + w ≤ lo') : Disjoint (col a b lo w h).set (col a b lo' w' h').set := by
  apply Rect.unit_disjoint 1
  simp; omega

/-- A rectangle within a rectangle is a rectangle. -/
theorem emb_emb {s : Shape} {off sz off' sz' off'' : Fin s.rank → ℕ} (inb) (inb') (inb'') (h : ∀ a, off a + off' a = off'' a)
    (j : (Rect.unit (s := ⟨s.rank, sz⟩) off' sz' inb').shape.Idx) :
    (Rect.unit (s := s) off sz inb).emb ((Rect.unit (s := ⟨s.rank, sz⟩) off' sz' inb').emb j) = (Rect.unit (s := s) off'' sz' inb'').emb j := by
  funext a; apply Fin.ext
  have := h a
  show off a + 1 * (off' a + 1 * (j a).val) = off'' a + 1 * (j a).val
  omega

end Rows

end Cert.Pieces
-- ==== Proof.Proto.lean ====
module

public import proofs.«01_k».proof.Proof.Owns
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

/-!
The protocol of the kernel: its memrefs, the neighbours of a device in the cube, what every
buffer holds, its twenty-eight copies, and the schedule of its semaphores.
-/

@[expose] public section

set_option maxRecDepth 16384

noncomputable section

namespace Cert.KernelIdeal.Pf

open Cert.KernelIdeal Cert.KernelIdeal.Gen Cert.Pieces
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

abbrev 𝒱₀ : Variants := Variants.none

/-! ## The memrefs -/

abbrev mX : Memref sig .tc .vmem S4096x512 .bf16 := Memref.whole cc0_stg0_0
abbrev mW : Memref sig .tc .vmem S512x2048 .bf16 := Memref.whole cc0_stg1_0
abbrev mO : Memref sig .tc .vmem S512x2048 .f32 := Memref.whole cc0_stg2_0
abbrev mXb : Memref sig .tc .vmem S4096x512 .bf16 := Memref.whole cc0_scratch0
abbrev mWb : Memref sig .tc .vmem S512x2048 .bf16 := Memref.whole cc0_scratch1
abbrev mP : Memref sig .tc .vmem S8x512x2048 .bf16 := Memref.whole cc0_scratch2
abbrev mRA1 : Memref sig .tc .vmem S4x512x640 .bf16 := Memref.whole cc0_scratch3
abbrev mRB1 : Memref sig .tc .vmem S4x512x640 .bf16 := Memref.whole cc0_scratch4
abbrev mRC1 : Memref sig .tc .vmem S4x512x768 .bf16 := Memref.whole cc0_scratch5
abbrev mRA2 : Memref sig .tc .vmem S2x512x640 .bf16 := Memref.whole cc0_scratch6
abbrev mRB2 : Memref sig .tc .vmem S2x512x640 .bf16 := Memref.whole cc0_scratch7
abbrev mRC2 : Memref sig .tc .vmem S2x512x768 .bf16 := Memref.whole cc0_scratch8
abbrev mRA3 : Memref sig .tc .vmem S512x640 .bf16 := Memref.whole cc0_scratch9
abbrev mRB3 : Memref sig .tc .vmem S512x640 .bf16 := Memref.whole cc0_scratch10
abbrev mRC3 : Memref sig .tc .vmem S512x768 .bf16 := Memref.whole cc0_scratch11
abbrev mSA2 : Memref sig .tc .vmem S2x512x640 .bf16 := Memref.whole cc0_scratch12
abbrev mSB2 : Memref sig .tc .vmem S2x512x640 .bf16 := Memref.whole cc0_scratch13
abbrev mSC2 : Memref sig .tc .vmem S2x512x768 .bf16 := Memref.whole cc0_scratch14
abbrev mSA3 : Memref sig .tc .vmem S512x640 .bf16 := Memref.whole cc0_scratch15
abbrev mSB3 : Memref sig .tc .vmem S512x640 .bf16 := Memref.whole cc0_scratch16
abbrev mSC3 : Memref sig .tc .vmem S512x768 .bf16 := Memref.whole cc0_scratch17
abbrev mA : Memref sig .tc .vmem S1x128 .f32 := Memref.whole cc0_scratch18
abbrev mD : Memref sig .tc .vmem S8x128 .f32 := Memref.whole cc0_scratch19

/-- Slab `k` of the eight partial products, whole and in its three column ranges. -/
abbrev rPW (k : Fin 8) : Rect S8x512x2048 := Rect.unit (s := S8x512x2048) ![k.val, 0, 0] S1x512x2048.size (by revert k; decide)
abbrev rPA (k : Fin 8) : Rect S8x512x2048 := Rect.unit (s := S8x512x2048) ![k.val, 0, 0] S1x512x640.size (by revert k; decide)
abbrev rPB (k : Fin 8) : Rect S8x512x2048 := Rect.unit (s := S8x512x2048) ![k.val, 0, 640] S1x512x640.size (by revert k; decide)
abbrev rPC (k : Fin 8) : Rect S8x512x2048 := Rect.unit (s := S8x512x2048) ![k.val, 0, 1280] S1x512x768.size (by revert k; decide)
/-- Row `k` of the four-slot and two-slot buffers. -/
abbrev r4n (k : Fin 4) : Rect S4x512x640 := Rect.unit (s := S4x512x640) ![k.val, 0, 0] S1x512x640.size (by revert k; decide)
abbrev r4w (k : Fin 4) : Rect S4x512x768 := Rect.unit (s := S4x512x768) ![k.val, 0, 0] S1x512x768.size (by revert k; decide)
abbrev r2n (k : Fin 2) : Rect S2x512x640 := Rect.unit (s := S2x512x640) ![k.val, 0, 0] S1x512x640.size (by revert k; decide)
abbrev r2w (k : Fin 2) : Rect S2x512x768 := Rect.unit (s := S2x512x768) ![k.val, 0, 0] S1x512x768.size (by revert k; decide)
/-- Row `d` of the exchanged maxima. -/
abbrev rD (d : Dev nD) : Rect S8x128 := Rect.unit (s := S8x128) ![d.val, 0] S1x128.size (by revert d; decide)

abbrev pW (k : Fin 8) : Memref sig .tc .vmem S1x512x2048 .bf16 := mP.slice (rPW k) (fun _ => rfl)
abbrev pA (k : Fin 8) : Memref sig .tc .vmem S1x512x640 .bf16 := mP.slice (rPA k) (fun _ => rfl)
abbrev pB (k : Fin 8) : Memref sig .tc .vmem S1x512x640 .bf16 := mP.slice (rPB k) (fun _ => rfl)
abbrev pC (k : Fin 8) : Memref sig .tc .vmem S1x512x768 .bf16 := mP.slice (rPC k) (fun _ => rfl)
abbrev rA1 (k : Fin 4) : Memref sig .tc .vmem S1x512x640 .bf16 := mRA1.slice (r4n k) (fun _ => rfl)
abbrev rB1 (k : Fin 4) : Memref sig .tc .vmem S1x512x640 .bf16 := mRB1.slice (r4n k) (fun _ => rfl)
abbrev rC1 (k : Fin 4) : Memref sig .tc .vmem S1x512x768 .bf16 := mRC1.slice (r4w k) (fun _ => rfl)
abbrev rA2 (k : Fin 2) : Memref sig .tc .vmem S1x512x640 .bf16 := mRA2.slice (r2n k) (fun _ => rfl)
abbrev rB2 (k : Fin 2) : Memref sig .tc .vmem S1x512x640 .bf16 := mRB2.slice (r2n k) (fun _ => rfl)
abbrev rC2 (k : Fin 2) : Memref sig .tc .vmem S1x512x768 .bf16 := mRC2.slice (r2w k) (fun _ => rfl)
abbrev sA2 (k : Fin 2) : Memref sig .tc .vmem S1x512x640 .bf16 := mSA2.slice (r2n k) (fun _ => rfl)
abbrev sB2 (k : Fin 2) : Memref sig .tc .vmem S1x512x640 .bf16 := mSB2.slice (r2n k) (fun _ => rfl)
abbrev sC2 (k : Fin 2) : Memref sig .tc .vmem S1x512x768 .bf16 := mSC2.slice (r2w k) (fun _ => rfl)
abbrev axR (d : Dev nD) : Memref sig .tc .vmem S1x128 .f32 := mD.slice (rD d) (fun _ => rfl)

/-! ## The cube -/

/-- The neighbours of a device along the three axes of the cube. -/
def nX : Dev nD → Dev nD := ![1, 0, 3, 2, 5, 4, 7, 6]
def nY : Dev nD → Dev nD := ![3, 2, 1, 0, 7, 6, 5, 4]
def nZ : Dev nD → Dev nD := ![4, 5, 6, 7, 0, 1, 2, 3]

theorem nX_nX (c : Dev nD) : nX (nX c) = c := by revert c; decide
theorem nY_nY (c : Dev nD) : nY (nY c) = c := by revert c; decide
theorem nZ_nZ (c : Dev nD) : nZ (nZ c) = c := by revert c; decide
theorem nY_nX (c : Dev nD) : nY (nX c) = nX (nY c) := by revert c; decide
theorem nZ_nX (c : Dev nD) : nZ (nX c) = nX (nZ c) := by revert c; decide
theorem nZ_nY (c : Dev nD) : nZ (nY c) = nY (nZ c) := by revert c; decide

/-- The device at distance `k` around the ring. -/
def nR (k : Fin 8) (c : Dev nD) : Dev nD := ⟨(c.val + k.val) % 8, Nat.mod_lt _ (by decide)⟩

/-! ## What the buffers hold -/

/-- The device's blocks of the two arguments. -/
def xs (c : Dev nD) : Vec F S4096x512 .bf16 := (win0_0.blk (0 : Fin 1)).view.read (Elt F) (m ((c : Thread nD τ).loc main_arg0))
def ws (c : Dev nD) : Vec F S512x2048 .bf16 := (win0_1.blk (0 : Fin 1)).view.read (Elt F) (m ((c : Thread nD τ).loc main_arg1))
def XB (c : Dev nD) : Vec F S4096x512 .bf16 := k0_pay1 (xs m c)
def WB (c : Dev nD) : Vec F S512x2048 .bf16 := k0_pay2 (ws m c)

/-- The rows of `x` at an offset. -/
def rowsAt (c : Dev nD) (off : Fin 2 → ℕ) (h : ∀ a, off a + S512x512.size a ≤ S4096x512.size a) : Vec F S512x512 .bf16 :=
  fun j => XB m c ((Rect.unit (s := S4096x512) off S512x512.size h).emb j)

/-- Slab `k`: the partial product of the rows that are to reach the device at relative place `k`. -/
def slab (c : Dev nD) : Fin 8 → FVec F S1x512x2048 .bf16
  | 1 => k0_pay9 (rowsAt m c (k0_off7 c) (k0_off7_inb c)) (WB m c)
  | 2 => k0_pay8 (rowsAt m c (k0_off6 c) (k0_off6_inb c)) (WB m c)
  | 3 => k0_pay6 (rowsAt m c (k0_off4 c) (k0_off4_inb c)) (WB m c)
  | 4 => k0_pay7 (rowsAt m c (k0_off5 c) (k0_off5_inb c)) (WB m c)
  | 5 => k0_pay5 (rowsAt m c (k0_off3 c) (k0_off3_inb c)) (WB m c)
  | 6 => k0_pay4 (rowsAt m c (k0_off2 c) (k0_off2_inb c)) (WB m c)
  | _ => k0_pay3 (rowsAt m c (k0_off1 c) (k0_off1_inb c)) (WB m c)

abbrev eA : S1x512x640.Idx → S1x512x2048.Idx := (Rect.unit (s := S1x512x2048) ![0, 0, 0] S1x512x640.size (by decide)).emb
abbrev eB : S1x512x640.Idx → S1x512x2048.Idx := (Rect.unit (s := S1x512x2048) ![0, 0, 640] S1x512x640.size (by decide)).emb
abbrev eC : S1x512x768.Idx → S1x512x2048.Idx := (Rect.unit (s := S1x512x2048) ![0, 0, 1280] S1x512x768.size (by decide)).emb

def PA (c : Dev nD) (k : Fin 8) : FVec F S1x512x640 .bf16 := fun j => slab m c k (eA j)
def PB (c : Dev nD) (k : Fin 8) : FVec F S1x512x640 .bf16 := fun j => slab m c k (eB j)
def PC (c : Dev nD) (k : Fin 8) : FVec F S1x512x768 .bf16 := fun j => slab m c k (eC j)

/-- The slab that slot `s` of an order carries. -/
def kA : Fin 4 → Fin 8 := ![4, 5, 6, 7]
def kB : Fin 4 → Fin 8 := ![2, 6, 3, 7]
def kC : Fin 4 → Fin 8 := ![1, 3, 5, 7]

/-- What arrives in the first exchange. -/
def R1A (c : Dev nD) (s : Fin 4) : FVec F S1x512x640 .bf16 := PA m (nX c) (kA s)
def R1B (c : Dev nD) (s : Fin 4) : FVec F S1x512x640 .bf16 := PB m (nY c) (kB s)
def R1C (c : Dev nD) (s : Fin 4) : FVec F S1x512x768 .bf16 := PC m (nZ c) (kC s)

/-- What goes out in the second, -/
def Z2A (c : Dev nD) : Fin 2 → FVec F S1x512x640 .bf16
  | 0 => k0_pay10 (PA m c 2) (R1A m c 2)
  | 1 => k0_pay11 (PA m c 3) (R1A m c 3)
def Z2B (c : Dev nD) : Fin 2 → FVec F S1x512x640 .bf16
  | 0 => k0_pay12 (PB m c 1) (R1B m c 2)
  | 1 => k0_pay13 (PB m c 5) (R1B m c 3)
def Z2C (c : Dev nD) : Fin 2 → FVec F S1x512x768 .bf16
  | 0 => k0_pay14 (PC m c 4) (R1C m c 2)
  | 1 => k0_pay16 (k0_pay15 (PC m c 6) (R1C m c 3))

/-- arrives in the second, -/
def R2A (c : Dev nD) (b : Fin 2) : FVec F S1x512x640 .bf16 := Z2A m (nY c) b
def R2B (c : Dev nD) (b : Fin 2) : FVec F S1x512x640 .bf16 := Z2B m (nZ c) b
def R2C (c : Dev nD) (b : Fin 2) : FVec F S1x512x768 .bf16 := Z2C m (nX c) b

/-- goes out in the third, -/
def Z3A (c : Dev nD) : FVec F S512x640 .bf16 := k0_pay17 (PA m c 1) (R1A m c 1) (R2A m c 1)
def Z3B (c : Dev nD) : FVec F S512x640 .bf16 := k0_pay18 (PB m c 4) (R1B m c 1) (R2B m c 1)
def Z3C (c : Dev nD) : FVec F S512x768 .bf16 := k0_pay21 (k0_pay19 (PC m c 2)) (k0_pay20 (R1C m c 1)) (R2C m c 1)

/-- and arrives in the third. -/
def R3A (c : Dev nD) : FVec F S512x640 .bf16 := Z3A m (nZ c)
def R3B (c : Dev nD) : FVec F S512x640 .bf16 := Z3B m (nX c)
def R3C (c : Dev nD) : FVec F S512x768 .bf16 := Z3C m (nY c)

/-- The device's own product and the three column ranges of its block of the sum. -/
def cO (c : Dev nD) : FVec F S512x2048 .f32 := k0_pay22 (rowsAt m c (k0_off8 c) (k0_off8_inb c)) (WB m c)
def yA (c : Dev nD) : FVec F S512x640 .f32 := k0_pay23 (cO m c) (R1A m c 0) (R2A m c 0) (R3A m c)
def yB (c : Dev nD) : FVec F S512x640 .f32 := k0_pay27 (k0_pay26 (cO m c) (R1B m c 0)) (R2B m c 0) (R3B m c)
def yC (c : Dev nD) : FVec F S512x768 .f32 := k0_pay29 (cO m c) (R1C m c 0) (R2C m c 0) (R3C m c)
/-- The device's greatest value so far, over its first one and two column ranges. -/
def aA (c : Dev nD) : F .f32 := k0_pay25 (k0_pay24 (cO m c) (R1A m c 0) (R2A m c 0) (R3A m c)) (Scalar.ofBits .f32 0x00000000#32)
def aB (c : Dev nD) : F .f32 := k0_pay28 (aA m c) (k0_pay26 (cO m c) (R1B m c 0)) (R2B m c 0) (R3B m c)
/-- The row of the device's greatest value that it sends, -/
def aX (c : Dev nD) : FVec F S1x128 .f32 := k0_pay30 (cO m c) (aB m c) (R1C m c 0) (R2C m c 0) (R3C m c)
/-- and the row that lands. -/
def aRow (d c : Dev nD) : FVec F S1x128 .f32 := if d = c then k0_pay31 (aX m d) else aX m d

/-! ## The copies and their semaphores -/

/-- Copy `t` goes to this device: twelve copies of the first exchange, six of the second, three of the third,
    seven of the maxima. -/
def peer : Fin 28 → Dev nD → Dev nD :=
  ![nX, nX, nX, nX, nY, nY, nY, nY, nZ, nZ, nZ, nZ, nY, nY, nZ, nZ, nX, nX, nZ, nX, nY, nR 1, nR 2, nR 3, nR 4, nR 5, nR 6, nR 7]

def sK : Fin 28 → Fin 58 :=
  ![0, 1, 2, 3, 4, 5, 6, 7, 8, 9, 10, 11, 24, 25, 26, 27, 28, 29, 36, 37, 38, 43, 44, 45, 46, 47, 48, 49]
def xK (c : Dev nD) : Fin 58 := ⟨50 + c.val, by have := c.isLt; simp only [nD] at this; omega⟩
def rK : Fin 28 → Dev nD → Fin 58 :=
  ![fun _ => 12, fun _ => 13, fun _ => 14, fun _ => 15, fun _ => 16, fun _ => 17, fun _ => 18, fun _ => 19, fun _ => 20, fun _ => 21,
    fun _ => 22, fun _ => 23, fun _ => 30, fun _ => 31, fun _ => 32, fun _ => 33, fun _ => 34, fun _ => 35, fun _ => 39, fun _ => 40,
    fun _ => 41, xK, xK, xK, xK, xK, xK, xK]

/-- Own semaphore `k` of the launch. -/
def dS (k : Fin 58) : DmaSem sig := ⟨k.val + 3, by have := k.isLt; show k.val + 3 < 61; omega⟩
abbrev barS : Sem sig := (SemArray.scalar (sig.barrier 0 rfl) : Sems sig S_).sem

abbrev cel (c : Dev nD) (k : Fin 58) : GSem nD τ sig := ((c : Thread nD τ), .dma (dS k))
abbrev barCell (c : Dev nD) : GSem nD τ sig := ((c : Thread nD τ), .reg barS)

/-- The amount semaphore `k` counts. -/
def amt (k : Fin 58) : ℕ :=
  if k.val < 8 then 20480 else if k.val < 12 then 24576 else if k.val < 20 then 20480 else if k.val < 24 then 24576
  else if k.val < 28 then 20480 else if k.val < 30 then 24576 else if k.val < 34 then 20480 else if k.val < 36 then 24576
  else if k.val < 38 then 20480 else if k.val < 39 then 24576 else if k.val < 41 then 20480 else if k.val < 42 then 24576 else 16

theorem amt_pos (k : Fin 58) : 0 < amt k := by revert k; decide

/-- Semaphore `k` is used on device `c`. -/
abbrev used (c : Dev nD) (k : Fin 58) : Prop := k ≠ 42 ∧ k ≠ xK c

/-- Copies go out in this order, -/
def ordS : List (Fin 28) := [3, 7, 11, 2, 5, 1, 10, 6, 9, 0, 4, 8, 12, 13, 14, 15, 16, 17, 18, 19, 20, 21, 22, 23, 24, 25, 26, 27]
/-- and those of the three exchanges are waited for in this one. -/
def ordR : List (Fin 28) := [2, 3, 6, 7, 10, 11, 1, 13, 5, 15, 9, 17, 0, 12, 18, 4, 14, 19, 8, 16, 20]

theorem sK_used (c : Dev nD) (t : Fin 28) : used c (sK t) := by revert c t; decide
theorem rK_used (c : Dev nD) (t : Fin 28) : used (peer t c) (rK t c) := by revert c t; decide
theorem amt_eq (c : Dev nD) (t : Fin 28) : amt (rK t c) = amt (sK t) := by revert c t; decide
theorem rK_eq (c c' : Dev nD) (t : Fin 28) (h : t.val < 21) : rK t c = rK t c' := by revert c c' t; decide

/-! ## The payloads -/

abbrev fr (c : Dev nD) {s : Shape} {e : EltTy} (q : Memref sig .tc .vmem s e) : sProp 𝕄 := free (c : Thread nD τ) q
abbrev ow (c : Dev nD) {s : Shape} {e : EltTy} (q : Memref sig .tc .vmem s e) (X : s.Idx → Elt F e) : sProp 𝕄 :=
  owns (c : Thread nD τ) q fullShare X

/-- What device `n` hands its neighbour `c` at the start, along each axis. -/
def givX (n c : Dev nD) : sProp 𝕄 :=
  iprop((fr n (rA1 0) ∗ fr n (rA1 1) ∗ fr n (rA1 2) ∗ fr n (rA1 3)) ∗ (fr n (rC2 0) ∗ fr n (rC2 1)) ∗ fr n mRB3
    ∗ fr n (axR c) ∗ fr n (axR (nY c)) ∗ fr n (axR (nY (nZ c))))
def givY (n c : Dev nD) : sProp 𝕄 :=
  iprop((fr n (rB1 0) ∗ fr n (rB1 1) ∗ fr n (rB1 2) ∗ fr n (rB1 3)) ∗ (fr n (rA2 0) ∗ fr n (rA2 1)) ∗ fr n mRC3
    ∗ fr n (axR c) ∗ fr n (axR (nZ c)))
def givZ (n c : Dev nD) : sProp 𝕄 :=
  iprop((fr n (rC1 0) ∗ fr n (rC1 1) ∗ fr n (rC1 2) ∗ fr n (rC1 3)) ∗ (fr n (rB2 0) ∗ fr n (rB2 1)) ∗ fr n mRA3
    ∗ fr n (axR c) ∗ fr n (axR (nX c)))

def barPay (c : Dev nD) : Fin 3 → sProp 𝕄
  | 0 => givX (nX c) c
  | 1 => givY (nY c) c
  | 2 => givZ (nZ c) c

/-- The share of the row of maxima that each of the seven copies reads. -/
def axq : ℕ → PosShare TreeShare
  | 0 => fullShare
  | n + 1 => (axq n).right
abbrev axl (n : ℕ) : PosShare TreeShare := (axq n).left

/-- What copy `t` gives its sender back, -/
def sndPay (c : Dev nD) : Fin 28 → sProp 𝕄
  | 0 => ow c (pA 4) (PA m c 4)
  | 1 => ow c (pA 5) (PA m c 5)
  | 2 => ow c (pA 6) (PA m c 6)
  | 3 => ow c (pA 7) (PA m c 7)
  | 4 => ow c (pB 2) (PB m c 2)
  | 5 => ow c (pB 6) (PB m c 6)
  | 6 => ow c (pB 3) (PB m c 3)
  | 7 => ow c (pB 7) (PB m c 7)
  | 8 => ow c (pC 1) (PC m c 1)
  | 9 => ow c (pC 3) (PC m c 3)
  | 10 => ow c (pC 5) (PC m c 5)
  | 11 => ow c (pC 7) (PC m c 7)
  | 12 => ow c (sA2 0) (Z2A m c 0)
  | 13 => ow c (sA2 1) (Z2A m c 1)
  | 14 => ow c (sB2 0) (Z2B m c 0)
  | 15 => ow c (sB2 1) (Z2B m c 1)
  | 16 => ow c (sC2 0) (Z2C m c 0)
  | 17 => ow c (sC2 1) (Z2C m c 1)
  | 18 => ow c mSA3 (Z3A m c)
  | 19 => ow c mSB3 (Z3B m c)
  | 20 => ow c mSC3 (Z3C m c)
  | 21 => owns (c : Thread nD τ) mA (axl 0) (aX m c)
  | 22 => owns (c : Thread nD τ) mA (axl 1) (aX m c)
  | 23 => owns (c : Thread nD τ) mA (axl 2) (aX m c)
  | 24 => owns (c : Thread nD τ) mA (axl 3) (aX m c)
  | 25 => owns (c : Thread nD τ) mA (axl 4) (aX m c)
  | 26 => owns (c : Thread nD τ) mA (axl 5) (aX m c)
  | _ => owns (c : Thread nD τ) mA (axl 6) (aX m c)

/-- and its receiver: the landed contents, and with some copies rows of maxima of devices further away. -/
def rcvPay (c : Dev nD) : Fin 28 → sProp 𝕄
  | 0 => ow c (rA1 0) (R1A m c 0)
  | 1 => ow c (rA1 1) (R1A m c 1)
  | 2 => iprop(ow c (rA1 2) (R1A m c 2) ∗ fr (nZ (nX c)) (axR c))
  | 3 => ow c (rA1 3) (R1A m c 3)
  | 4 => ow c (rB1 0) (R1B m c 0)
  | 5 => ow c (rB1 1) (R1B m c 1)
  | 6 => iprop(ow c (rB1 2) (R1B m c 2) ∗ fr (nX (nY c)) (axR c) ∗ fr (nX (nY c)) (axR (nZ c)))
  | 7 => ow c (rB1 3) (R1B m c 3)
  | 8 => ow c (rC1 0) (R1C m c 0)
  | 9 => ow c (rC1 1) (R1C m c 1)
  | 10 => iprop(ow c (rC1 2) (R1C m c 2) ∗ fr (nY (nZ c)) (axR c))
  | 11 => ow c (rC1 3) (R1C m c 3)
  | 12 => ow c (rA2 0) (R2A m c 0)
  | 13 => ow c (rA2 1) (R2A m c 1)
  | 14 => iprop(ow c (rB2 0) (R2B m c 0) ∗ fr (nX (nY (nZ c))) (axR c))
  | 15 => ow c (rB2 1) (R2B m c 1)
  | 16 => ow c (rC2 0) (R2C m c 0)
  | 17 => ow c (rC2 1) (R2C m c 1)
  | 18 => ow c mRA3 (R3A m c)
  | 19 => ow c mRB3 (R3B m c)
  | 20 => ow c mRC3 (R3C m c)
  | _ => iprop(emp)

/-- The row device `d` sends device `c`. -/
def axPay (c d : Dev nD) : sProp 𝕄 := ow c (axR d) (aX m d)

instance (c : Dev nD) (t : Fin 3) : BI.Storable (upEmb : UEmb _ 𝕄) (barPay (F := F) c t) := by
  unfold barPay givX givY givZ; split <;> infer_instance
instance (c : Dev nD) (t : Fin 28) : BI.Storable (upEmb : UEmb _ 𝕄) (sndPay m c t) := by
  unfold sndPay; split <;> infer_instance
instance (c : Dev nD) (t : Fin 28) : BI.Storable (upEmb : UEmb _ 𝕄) (rcvPay m c t) := by
  unfold rcvPay; split <;> infer_instance
instance (c d : Dev nD) : BI.Storable (upEmb : UEmb _ 𝕄) (axPay m c d) := by unfold axPay; infer_instance

/-- What semaphore `k` of device `c` hands over. -/
def dmaPay (c : Dev nD) (k : ℕ) : sProp 𝕄 :=
  if k < 12 then sndPay m c (Fin.ofNat 28 k) else if k < 24 then rcvPay m c (Fin.ofNat 28 (k - 12))
  else if k < 30 then sndPay m c (Fin.ofNat 28 (k - 12)) else if k < 36 then rcvPay m c (Fin.ofNat 28 (k - 18))
  else if k < 39 then sndPay m c (Fin.ofNat 28 (k - 18)) else if k < 42 then rcvPay m c (Fin.ofNat 28 (k - 21))
  else if k < 50 then sndPay m c (Fin.ofNat 28 (k - 22)) else axPay m c (Fin.ofNat 8 (k - 50))

instance (c : Dev nD) (k : ℕ) : BI.Storable (upEmb : UEmb _ 𝕄) (dmaPay m c k) := by
  unfold dmaPay; (repeat' split) <;> infer_instance

def gPay (c : Dev nD) : SemLoc sig → Fin 3 → sProp 𝕄
  | .reg _, d => barPay c d
  | .dma j, _ => dmaPay m c (j.val - 3)

instance (c : Dev nD) (s : SemLoc sig) (d : Fin 3) : BI.Storable (upEmb : UEmb _ 𝕄) (gPay m c s d) := by
  unfold gPay; split <;> infer_instance

/-- The duties of a semaphore: three neighbours' signals of a barrier cell; one copy of a used semaphore. -/
def gDuty (c : Dev nD) : SemLoc sig → Finset (Fin 3)
  | .reg s => if s = barS then Finset.univ else ∅
  | .dma j => if 3 ≤ j.val ∧ j.val ≠ 45 ∧ j.val ≠ 53 + c.val then {0} else ∅
def gAmt : SemLoc sig → ℕ
  | .reg _ => 1
  | .dma j => amt (Fin.ofNat 58 (j.val - 3))

/-- The schedule: every semaphore has one round. -/
def Rd : Rounds.Schedule (GSem nD τ sig) (Fin 3) 𝕄 where
  duties g r := if r = 0 ∧ g.1.2 = .tc then gDuty g.1.1 g.2 else ∅
  unitless _ := False
  amount g _ _ := gAmt g.2
  payload g _ d := gPay m g.1.1 g.2 d
  amount_pos g _ _ _ := by
    cases h : g.2 with
    | reg s => exact Nat.one_pos
    | dma j => exact amt_pos _

instance (g : GSem nD τ sig) (r : ℕ) (d : Fin 3) : BI.Storable (upEmb : UEmb _ 𝕄) ((Rd (F := F) m).payload g r d) := by
  show BI.Storable upEmb (gPay m g.1.1 g.2 d); infer_instance

section Sched
variable (c : Dev nD)

theorem duties_bar : (Rd m).duties (barCell c) 0 = Finset.univ := rfl
theorem duties_used (k : Fin 58) (h : used c k) : (Rd m).duties (cel c k) 0 = {0} := by
  refine (show (Rd m).duties (cel c k) 0 = gDuty c (.dma (dS k)) from rfl).trans (if_pos ?_)
  obtain ⟨h1, h2⟩ := h
  refine ⟨by show 3 ≤ k.val + 3; omega, fun h => h1 (Fin.ext ?_), fun h => h2 (Fin.ext ?_)⟩
  · have : k.val + 3 = 45 := h; show k.val = 42; omega
  · have : k.val + 3 = 53 + c.val := h; show k.val = 50 + c.val; omega
theorem duties_unused (k : Fin 58) (h : ¬ used c k) (r : ℕ) : (Rd m).duties (cel c k) r = ∅ := by
  by_cases hr : r = 0 ∧ (cel c k).1.2 = .tc
  · refine (if_pos hr).trans (if_neg ?_)
    rintro ⟨-, h1, h2⟩
    refine h ⟨fun e => h1 ?_, fun e => h2 ?_⟩
    · subst e; rfl
    · subst e; show 50 + c.val + 3 = 53 + c.val; omega
  · exact if_neg hr
theorem duties_later (g : GSem nD τ sig) : ∀ r, 1 ≤ r → (Rd m).duties g r = ∅ :=
  fun r hr => if_neg fun h => by have := h.1; omega
theorem amount_bar (d : Fin 3) : (Rd m).amount (barCell c) 0 d = 1 := rfl
theorem amount_cel (k : Fin 58) (r : ℕ) (d : Fin 3) : (Rd m).amount (cel c k) r d = amt k := by
  show amt (Fin.ofNat 58 (k.val + 3 - 3)) = amt k
  congr 1; apply Fin.ext; show (k.val + 3 - 3) % 58 = k.val
  rw [Nat.add_sub_cancel, Nat.mod_eq_of_lt k.isLt]
theorem expect_bar : (Rd m).expect (barCell c) 0 = 3 := by
  unfold Schedule.expect Schedule.amountOf
  rw [duties_bar, Finset.sum_congr rfl fun d _ => amount_bar m c d]; rfl
theorem expect_cel (k : Fin 58) (h : used c k) : (Rd m).expect (cel c k) 0 = amt k := by
  unfold Schedule.expect Schedule.amountOf; rw [duties_used m c k h, Finset.sum_singleton, amount_cel]

theorem payload_bar (d : Fin 3) : (Rd m).payload (barCell c) 0 d = barPay c d := rfl
theorem payload_snd (t : Fin 28) (d : Fin 3) : (Rd m).payload (cel c (sK t)) 0 d = sndPay m c t := by
  fin_cases t <;> rfl
theorem payload_rcv (t : Fin 28) (h : t.val < 21) (c' : Dev nD) (d : Fin 3) : (Rd m).payload (cel c (rK t c')) 0 d = rcvPay m c t := by
  rw [rK_eq c' 0 t h]
  fin_cases t <;> first | rfl | (exfalso; revert h; decide)
theorem payload_ax (c' : Dev nD) (d : Fin 3) : (Rd m).payload (cel c (xK c')) 0 d = axPay m c c' := by
  fin_cases c' <;> rfl

theorem rest_bar : bigSep ((Rd m).duties (barCell c) 0 \ ∅) (fun d => (Rd m).payload (barCell c) 0 d)
    = iprop(givX (nX c) c ∗ givY (nY c) c ∗ givZ (nZ c) c) := by
  rw [Finset.sdiff_empty, duties_bar, bigSep_univ_eq_bigSepL [0, 1, 2] (by decide) (by decide), bigSepL_cons_cons, bigSepL_cons_cons, bigSepL_singleton]
  rfl
theorem rest_cel (k : Fin 58) (h : used c k) : bigSep ((Rd m).duties (cel c k) 0 \ ∅) (fun d => (Rd m).payload (cel c k) 0 d)
    = (Rd m).payload (cel c k) 0 0 := by
  rw [Finset.sdiff_empty, duties_used m c k h, bigSep_singleton]

end Sched

/-! ## What each core owes; the levels -/

abbrev rcvCell (c : Dev nD) (t : Fin 28) : GSem nD τ sig := cel (peer t c) (rK t c)

/-- What device `c` owes while the copies of a list are still to go out. -/
def owedT (c : Dev nD) : List (Fin 28) → CellTallies nD τ sig Unit
  | [] => 0
  | t :: l => owedT c l + tallyAt (rcvCell c t) () (amt (sK t))

/-- What it owes before its signals along the last axis, the last two, and all three. -/
def OZ (c : Dev nD) : CellTallies nD τ sig Unit := owedT c ordS + tallyAt (barCell (nZ c)) () 1
def OY (c : Dev nD) : CellTallies nD τ sig Unit := OZ c + tallyAt (barCell (nY c)) () 1
def O₀ (c : Dev nD) : CellTallies nD τ sig Unit := OY c + tallyAt (barCell (nX c)) () 1

def L (g : GSem nD τ sig) : Finset Unit := if g.1.2 = .tc then {()} else ∅
def lvD (k : ℕ) : ℕ :=
  if k < 15 then 0 else if k < 27 then 2 else if k < 33 then 0 else if k < 39 then 3 else if k < 42 then 0
  else if k < 45 then 4 else if k < 53 then 0 else 5
def lvS : SemLoc sig → ℕ
  | .reg _ => 1
  | .dma j => lvD j.val
def lv (g : GSem nD τ sig) (_ : Unit) : ℕ := lvS g.2
def lvT (t : Fin 28) : ℕ := if t.val < 12 then 2 else if t.val < 18 then 3 else if t.val < 21 then 4 else 5

theorem L_of_ne (g : GSem nD τ sig) (h : g.1.2 ≠ .tc) : L g = ∅ := if_neg h
theorem L_tc (c : Dev nD) (sm : SemLoc sig) : L ((c : Thread nD τ), sm) = {()} := if_pos rfl

theorem lvS_rcv (c : Dev nD) (t : Fin 28) : lvS (.dma (dS (rK t c))) = lvT t := by
  show lvD ((rK t c).val + 3) = lvT t
  revert c t; decide

theorem owedT_pos {c : Dev nD} {l : List (Fin 28)} {g : GSem nD τ sig} {u : Unit} (h : 0 < owedT c l g u) :
    ∃ t ∈ l, g = rcvCell c t := by
  induction l with
  | nil => exact absurd h (Nat.lt_irrefl 0)
  | cons t l ih =>
    unfold owedT at h
    rw [Pi.add_apply, Finsupp.add_apply, tallyAt_apply] at h
    by_cases hg : g = rcvCell c t ∧ u = ()
    · exact ⟨t, List.mem_cons_self, hg.1⟩
    · rw [if_neg hg] at h
      obtain ⟨t', ht', e⟩ := ih h
      exact ⟨t', List.mem_cons_of_mem _ ht', e⟩

theorem O₀_pos {c : Dev nD} {g : GSem nD τ sig} {u : Unit} (h : 0 < O₀ c g u) :
    (∃ t, g = rcvCell c t) ∨ ∃ d, g = barCell d := by
  unfold O₀ OY OZ at h
  simp only [Pi.add_apply, Finsupp.add_apply, tallyAt_apply] at h
  by_contra hn
  rw [not_or, not_exists, not_exists] at hn
  rw [if_neg (fun h' => hn.2 _ h'.1), if_neg (fun h' => hn.2 _ h'.1), if_neg (fun h' => hn.2 _ h'.1)] at h
  obtain ⟨t, -, e⟩ := owedT_pos (u := u) (by simpa only [add_zero] using h)
  exact hn.1 t e

/-- A core may wait on a cell below everything it still owes. -/
theorem mayWait (c : Dev nD) (sm : SemLoc sig) (l : List (Fin 28)) (h : ∀ t ∈ l, lvS sm < lvT t) :
    (levAts L lv : sProp 𝕄) ⊢ MayWait (c : Thread nD τ) sm () (owedT c l) :=
  MayOwe.of_cut (L := L) (lev := lv) (lvS sm) (fun p hp => by rw [Finset.mem_singleton.mp hp, L_tc]; exact Finset.mem_singleton_self _)
    (fun g u hg => by obtain ⟨t, -, rfl⟩ := owedT_pos hg; exact Finset.mem_singleton_self _)
    (fun p hp => by rw [Finset.mem_singleton.mp hp]; exact le_rfl)
    (fun g u hg => by
      obtain ⟨t, ht, rfl⟩ := owedT_pos hg
      show lvS sm < lvS (.dma (dS (rK t c))); rw [lvS_rcv]; exact h t ht)

theorem mayWait_stage (c : Dev nD) (q : DmaSem sig) (hq : q.val < 15) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨t, rfl⟩ | ⟨d, rfl⟩ <;> exact Finset.mem_singleton_self _)
      (fun p hp => by rw [Finset.mem_singleton.mp hp]; show lvD q.val ≤ 0; unfold lvD; rw [if_pos hq])
      (fun g u hg => by
        rcases O₀_pos hg with ⟨t, rfl⟩ | ⟨d, rfl⟩
        · show 0 < lvS (.dma (dS (rK t c))); rw [lvS_rcv]; clear hg; revert t; decide
        · exact Nat.one_pos)
  · rw [MayWait_zero]; iintro -; iempintro

end Cert.KernelIdeal.Pf
-- ==== Proof.Steps.lean ====
module

public import proofs.«01_k».proof.Proof.Proto

/-!
One rule for each kind of step the kernel takes with its semaphores: a signal of a neighbour,
the wait for the neighbours, a copy, the wait for a copy's arrival, the wait for its departure.
-/

@[expose] public section

set_option maxRecDepth 16384

noncomputable section

namespace Cert.KernelIdeal.Pf

open Cert.KernelIdeal Cert.KernelIdeal.Gen Cert.Pieces
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Loads and stores through a memref's whole rectangle -/

section Whole

variable (c : Dev nD) {s : Shape} {e : EltTy} {q : Memref sig .tc .vmem s e} {α : Type} {Q : α → sProp (MT nD τ sig Unit (Elt F) ℕ UU ℕ)}
variable {off : Fin s.rank → ℕ} {inb : ∀ a, off a + s.size a ≤ s.size a}

/-- Loading all of a memref reads its contents. -/
theorem wp_load_all (h0 : off = fun _ => 0) {hl : q.view.LoadsAt (Rect.unit off s.size inb).toLoadRect}
    {k : (s.Idx → Elt F e) → Prog (TpuEff nD τ sig (Elt F) Λ₀ .tc) α} {sh : PosShare TreeShare} {X : s.Idx → Elt F e} :
    (owns (c : Thread nD τ) q sh X : sProp 𝕄)
      ⊢ iprop((owns (c : Thread nD τ) q sh X -∗ wp frame (wpE (defs₀ (F := F)) 𝒱₀ (c : Thread nD τ) none) Set.univ (k X) Q)
        -∗ wp frame (wpE (defs₀ (F := F)) 𝒱₀ (c : Thread nD τ) none) Set.univ (.op (.load q (Rect.unit off s.size inb).toLoadRect hl) k) Q) := by
  rw [← owns_slice_zero (c : Thread nD τ) q sh h0 inb (fun _ => rfl) X]
  iintro H Hk
  iapply (wp_load_slice (defs := defs₀ (F := F)) 𝒱₀ (c : Thread nD τ) none Set.univ (m := q) (hr := fun _ => rfl) (hl := hl) (k := k)) $$ [H]
  · iexact H
  iexact Hk

/-- Loading all of a memref at unknown contents reads something. -/
theorem wp_load_any (h0 : off = fun _ => 0) {hl : q.view.LoadsAt (Rect.unit off s.size inb).toLoadRect}
    {k : (s.Idx → Elt F e) → Prog (TpuEff nD τ sig (Elt F) Λ₀ .tc) α} :
    (fr c q : sProp 𝕄)
      ⊢ iprop((∀ X, fr c q -∗ wp frame (wpE (defs₀ (F := F)) 𝒱₀ (c : Thread nD τ) none) Set.univ (k X) Q)
        -∗ wp frame (wpE (defs₀ (F := F)) 𝒱₀ (c : Thread nD τ) none) Set.univ (.op (.load q (Rect.unit off s.size inb).toLoadRect hl) k) Q) := by
  iintro H Hk
  unfold fr free
  icases H with ⟨%X, H⟩
  iapply (wp_load_all c (q := q) h0 (hl := hl) (k := k)) $$ [H]
  · iexact H
  iintro H
  iapply Hk $$ %X
  iexists X; iexact H

/-- Storing to all of a memref leaves the stored values. -/
theorem wp_store_all (h0 : off = fun _ => 0) {w : s.Idx → Elt F e} {hx : (q.access (Rect.unit off s.size inb)).Stores Finset.univ}
    {hm : (Finset.univ : Finset s.Idx) = Finset.univ ∨ ∀ a, (Rect.unit off s.size inb).stride a = 1}
    {k : PUnit → Prog (TpuEff nD τ sig (Elt F) Λ₀ .tc) α} :
    (fr c q : sProp 𝕄)
      ⊢ iprop((ow c q w -∗ wp frame (wpE (defs₀ (F := F)) 𝒱₀ (c : Thread nD τ) none) Set.univ (k ⟨⟩) Q)
        -∗ wp frame (wpE (defs₀ (F := F)) 𝒱₀ (c : Thread nD τ) none) Set.univ (.op (.store q (Rect.unit off s.size inb) w Finset.univ hx hm) k) Q) := by
  iintro H Hk
  iapply (wp_store_free (defs := defs₀ (F := F)) 𝒱₀ (c : Thread nD τ) none Set.univ (m := q) (r := Rect.unit off s.size inb)
    (hr := fun _ => rfl) (w := w) (hx := hx) (hm := hm) (k := k)) $$ [H]
  · unfold fr free
    icases H with ⟨%X, H⟩
    iexists X
    rw [owns_slice_zero (c : Thread nD τ) q fullShare h0 inb (fun _ => rfl) X]; iexact H
  iintro H
  iapply Hk
  unfold ow
  rw [← owns_slice_zero (c : Thread nD τ) q fullShare h0 inb (fun _ => rfl) w]; iexact H

end Whole

/-! ## The state of a device's semaphores -/

/-- A separating conjunction along a list. -/
def lsep {T : Type} (Φ : T → sProp 𝕄) : List T → sProp 𝕄
  | [] => iprop(emp)
  | t :: l => iprop(Φ t ∗ lsep Φ l)

theorem lsep_cons {T : Type} (Φ : T → sProp 𝕄) (t : T) (l : List T) : lsep Φ (t :: l) = iprop(Φ t ∗ lsep Φ l) := rfl

theorem lsep_eq {T : Type} [DecidableEq T] (Φ : T → sProp 𝕄) (l : List T) (h : l.Nodup) : lsep Φ l = bigSep l.toFinset Φ := by
  induction l with
  | nil => rw [List.toFinset_nil, bigSep_empty]; rfl
  | cons t l ih =>
    rw [List.nodup_cons] at h
    rw [List.toFinset_cons, bigSep_insert (fun hm => h.1 (List.mem_toFinset.mp hm)), ← ih h.2]; rfl

/-- The order of the list is immaterial. -/
theorem lsep_perm {T : Type} [DecidableEq T] (Φ : T → sProp 𝕄) {l l' : List T} (h : l.Nodup) (h' : l'.Nodup) (e : l.toFinset = l'.toFinset) :
    lsep Φ l = lsep Φ l' := by rw [lsep_eq Φ l h, lsep_eq Φ l' h', e]

theorem lsep_append {T : Type} (Φ : T → sProp 𝕄) (l l' : List T) : lsep Φ (l ++ l') = iprop(lsep Φ l ∗ lsep Φ l') := by
  induction l with
  | nil =>
    have h₁ : lsep Φ ([] ++ l') ⊢ iprop(lsep Φ [] ∗ lsep Φ l') := by
      show lsep Φ l' ⊢ iprop(emp ∗ lsep Φ l')
      iintro H; isplitr; · iempintro
      iexact H
    have h₂ : iprop(lsep Φ [] ∗ lsep Φ l') ⊢ lsep Φ ([] ++ l') := by
      show iprop(emp ∗ lsep Φ l') ⊢ lsep Φ l'
      iintro ⟨-, H⟩; iexact H
    exact BI.equiv_iff.mp ⟨h₁, h₂⟩
  | cons t l ih =>
    show iprop(Φ t ∗ lsep Φ (l ++ l')) = iprop((Φ t ∗ lsep Φ l) ∗ lsep Φ l')
    rw [ih]
    have h₁ : iprop(Φ t ∗ lsep Φ l ∗ lsep Φ l') ⊢ iprop((Φ t ∗ lsep Φ l) ∗ lsep Φ l') := by
      iintro ⟨H1, H2, H3⟩
      isplitr [H3]
      · isplitl [H1]; · iexact H1
        iexact H2
      · iexact H3
    have h₂ : iprop((Φ t ∗ lsep Φ l) ∗ lsep Φ l') ⊢ iprop(Φ t ∗ lsep Φ l ∗ lsep Φ l') := by
      iintro ⟨⟨H1, H2⟩, H3⟩
      isplitl [H1]; · iexact H1
      isplitl [H2]; · iexact H2
      iexact H3
    exact BI.equiv_iff.mp ⟨h₁, h₂⟩

/-- The launch's cells: the fifty-eight own ones and the barrier's. -/
abbrev Kix : Type := Dev nD × Option (Fin 58)
def csem : Option (Fin 58) → SemLoc sig
  | none => .reg barS
  | some k => .dma (dS k)
abbrev kcell (ck : Kix) : GSem nD τ sig := ((ck.1 : Thread nD τ), csem ck.2)

variable (K : Kix → ℕ)

/-- What is known of every cell throughout, and the levels. -/
def recs : sProp 𝕄 :=
  iprop((bigSep (Finset.univ : Finset Kix) fun ck => iprop(cellInv ER (Rd m) (K ck) (kcell ck) ∗ reached ER (kcell ck) 0)) ∗ levAts L lv)

instance : BI.Persistent (recs m K) := by unfold recs; infer_instance

theorem recs_cell (ck : Kix) : recs m K ⊢ iprop(cellInv ER (Rd m) (K ck) (kcell ck) ∗ reached ER (kcell ck) 0) := by
  unfold recs
  exact sep_elim_left.trans (bigSep_elim (Finset.mem_univ ck) (Φ := fun ck => iprop(cellInv ER (Rd m) (K ck) (kcell ck) ∗ reached ER (kcell ck) 0)))

theorem recs_cel (c : Dev nD) (k : Fin 58) : recs m K ⊢ iprop(cellInv ER (Rd m) (K (c, some k)) (cel c k) ∗ reached ER (cel c k) 0) :=
  recs_cell m K (c, some k)
theorem recs_bar (c : Dev nD) : recs m K ⊢ iprop(cellInv ER (Rd m) (K (c, none)) (barCell c) ∗ reached ER (barCell c) 0) :=
  recs_cell m K (c, none)
theorem recs_lev : recs m K ⊢ (levAts L lv : sProp 𝕄) := by unfold recs; iintro ⟨-, H⟩; iexact H

/-- Before copy `t`: the tokens to start it and the position at its departure cell; -/
def tokT (c : Dev nD) (t : Fin 28) : sProp 𝕄 :=
  iprop(dutyTok ER (cel c (sK t)) 0 0 ∗ dutyTok ER (rcvCell c t) 0 0 ∗ atPos ER (cel c (sK t)) 0 ∅ 0)
/-- after it: the credit to wait for its departure; -/
def sntT (c : Dev nD) (t : Fin 28) : sProp 𝕄 :=
  iprop(cred (tallyAt (cel c (sK t)) () (amt (sK t))) ∗ atPos ER (cel c (sK t)) 0 ∅ 0)
/-- before the arrival of copy `t` is waited for: the credit to do so; -/
def wtT (c : Dev nD) (t : Fin 28) : sProp 𝕄 :=
  iprop(cred (tallyAt (cel c (rK t c)) () (amt (rK t c))) ∗ atPos ER (cel c (rK t c)) 0 ∅ 0)
/-- after either wait: the cell at zero. -/
def zK (c : Dev nD) (k : Fin 58) : sProp 𝕄 := semVal (cel c k) 0

/-- The core with the copies `ls` to issue, those of `lt` issued, the arrivals of `lw` to wait for. -/
def St (c : Dev nD) (ls lt lw : List (Fin 28)) (lz : List (Fin 58)) : sProp 𝕄 :=
  iprop(recs m K ∗ (∃ W, owes (c : Thread nD τ) (owedT c ls) W) ∗ lsep (tokT c) ls ∗ lsep (sntT c) lt ∗ lsep (wtT c) lw ∗ lsep (zK c) lz)

variable {α : Type} {Q : α → sProp (MT nD τ sig Unit (Elt F) ℕ UU ℕ)} (c : Dev nD)

/-- A copy. The sender gives up its source until the departure is waited for, and the destination on the
    receiver's side with whatever else goes along. -/
theorem wp_copy {s : Shape} {e : EltTy} (t : Fin 28) {n : Dev nD} (hn : n = peer t c)
    {src dst : Memref sig .tc .vmem s e}
    {hsc : (show Memref sig (Dev.tc n : Thread nD τ).2.kind .vmem s e from dst).view.ref.isScScratch = false} {sS sem : DmaSem sig}
    {hsrc : src.view.WordExact} {hdst : dst.view.WordExact}
    {hsem : DmaTarget.Typed .vmem (.dma sem) (.remote (Dev.tc n : Thread nD τ) dst (.dma sS) hsc)}
    {k : PUnit → Prog (TpuEff nD τ sig (Elt F) Λ₀ .tc) α} {ls lt lw : List (Fin 28)} {lz : List (Fin 58)}
    (hsS : sS = dS (sK t)) (hse : sem = dS (rK t c)) (hN : dst.view.dmaCredit = amt (sK t))
    {q : PosShare TreeShare} (X : s.Idx → Elt F e) (Ex : sProp 𝕄)
    (hs : owns (c : Thread nD τ) src q X ⊢ sndPay m c t)
    (hd : iprop(ow (peer t c) dst X ∗ Ex) ⊢ (Rd m).payload (rcvCell c t) 0 0) :
    iprop(St m K c (t :: ls) lt lw lz ∗ owns (c : Thread nD τ) src q X ∗ fr (peer t c) dst ∗ Ex)
      ⊢ iprop((St m K c ls (t :: lt) lw lz -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.remote (Dev.tc n : Thread nD τ) dst (.dma sS) hsc) (.dma sem) hsrc hdst hsem) k) Q) := by
  subst hn hsS hse
  unfold St
  simp only [lsep_cons]
  iintro ⟨⟨#HR, ⟨%W, HO⟩, ⟨Htk, Htl⟩, Hlt, Hlw, Hlz⟩, Hs, Hd, HE⟩ Hk
  unfold tokT
  icases Htk with ⟨Ht1, Ht2, Hat⟩
  unfold fr free owns
  icases Hs with ⟨%fs, %hfs, Hs⟩
  icases Hd with ⟨%Y, %fd, %hfd, Hd⟩
  ihave H1 := (recs_cel m K c (sK t)) $$ HR
  ihave H2 := (recs_cel m K (peer t c) (rK t c)) $$ HR
  icases H1 with ⟨#HI1, #Hr1⟩
  icases H2 with ⟨#HI2, #Hr2⟩
  iapply (Rounds.wp_send_pointsTo_with 𝒱₀ ER (Rd m) (c : Thread nD τ) none (κ₁ := K (c, some (sK t))) (κ₂ := K (peer t c, some (rK t c)))
    (r₁ := 0) (r₂ := 0) (d₁ := 0) (d₂ := 0) (fs := fs) (fd := fd) (F := Ex)
    (by rw [duties_used m c _ (sK_used c t)]; exact Finset.mem_singleton_self _)
    (by rw [duties_used m _ _ (rK_used c t)]; exact Finset.mem_singleton_self _)
    () () (amt (sK t)) (show dst.view.amount (.dma (dS (rK t c))) = _ from hN) (amount_cel m c (sK t) 0 0) ((amount_cel m (peer t c) (rK t c) 0 0).trans (amt_eq c t)) (owedT c ls) rfl (W := W)
    (by rw [payload_snd]; refine BIBase.Entails.trans ?_ hs; unfold owns; iintro H; iexists fs
        isplitr
        · ipureintro; exact hfs
        · iexact H)
    (by refine BIBase.Entails.trans (sep_mono_left ?_) hd; unfold ow owns; iintro H
        iexists (dst.view.write (Elt F) fd (src.view.read (Elt F) fs) Finset.univ)
        isplitr
        · ipureintro; rw [View.read_write_univ, hfs]
        · iexact H)) $$ [HO Ht1 Ht2 Hs Hd HE]
  · isplitr; · iexact HI1
    isplitr; · iexact HI2
    isplitl [Hs]; · iexact Hs
    isplitl [Hd HE]
    · isplitl [Hd]; · iexact Hd
      iexact HE
    isplitl [HO]; · iexact HO
    isplitl [Ht1]; · iexact Ht1
    isplitr; · iexact Hr1
    isplitl [Ht2]; · iexact Ht2
    iexact Hr2
  iintro ⟨Hc, HO⟩
  iapply Hk
  isplitr; · iexact HR
  isplitl [HO]; · iexists W; iexact HO
  isplitl [Htl]; · iexact Htl
  isplitl [Hc Hat Hlt]
  · isplitl [Hc Hat]
    · unfold sntT
      isplitl [Hc]; · iexact Hc
      iexact Hat
    · iexact Hlt
  isplitl [Hlw]; · iexact Hlw
  iexact Hlz

/-- A copy of one of the three exchanges, between squeezed memrefs. -/
theorem wp_copy_sq {s s' : Shape} {e : EltTy} (t : Fin 28) (ht : t.val < 21) {n : Dev nD} (hn : n = peer t c)
    {src dst : Memref sig .tc .vmem s e} {hsq : s.Squeezes s'}
    {hsc : (show Memref sig (Dev.tc n : Thread nD τ).2.kind .vmem s' e from dst.squeeze s' hsq).view.ref.isScScratch = false} {sS sem : DmaSem sig}
    {hsrc : (src.squeeze s' hsq).view.WordExact} {hdst : (dst.squeeze s' hsq).view.WordExact}
    {hsem : DmaTarget.Typed .vmem (.dma sem) (.remote (Dev.tc n : Thread nD τ) (dst.squeeze s' hsq) (.dma sS) hsc)}
    {k : PUnit → Prog (TpuEff nD τ sig (Elt F) Λ₀ .tc) α} {ls lt lw : List (Fin 28)} {lz : List (Fin 58)}
    (hsS : sS = dS (sK t)) (hse : sem = dS (rK t c)) (hN : (dst.squeeze s' hsq).view.dmaCredit = amt (sK t))
    (X : s.Idx → Elt F e) (Ex : sProp 𝕄)
    (hs : ow c src X ⊢ sndPay m c t)
    (hd : iprop(ow (peer t c) dst X ∗ Ex) ⊢ rcvPay m (peer t c) t) :
    iprop(St m K c (t :: ls) lt lw lz ∗ ow c src X ∗ fr (peer t c) dst ∗ Ex)
      ⊢ iprop((St m K c ls (t :: lt) lw lz -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (src.squeeze s' hsq) (.remote (Dev.tc n : Thread nD τ) (dst.squeeze s' hsq) (.dma sS) hsc) (.dma sem) hsrc hdst hsem) k) Q) := by
  refine BIBase.Entails.trans ?_ (wp_copy m K c t hn (q := fullShare) (hsc := hsc) (hsrc := hsrc) (hdst := hdst) (hsem := hsem) (k := k) (ls := ls) (lt := lt) (lw := lw) (lz := lz)
    hsS hse hN (fun j => X (Shape.reshapeEquiv hsq.numel_eq j)) Ex ?_ ?_)
  · rw [owns_squeeze]
    iintro ⟨H1, H2, H3, H4⟩
    isplitl [H1]; · iexact H1
    isplitl [H2]; · iexact H2
    isplitl [H3]; · iapply (free_squeeze (peer t c : Thread nD τ) dst hsq); iexact H3
    iexact H4
  · rw [owns_squeeze]; exact hs
  · unfold ow; rw [owns_squeeze, payload_rcv m _ t ht]; exact hd

/-- The wait for the arrival of copy `t` of the exchanges hands over what it brought. -/
theorem wp_arrive (t : Fin 28) (ht : t.val < 21) {sem : DmaSem sig} {sp sp' : Space} {s s' : Shape} {e e' : EltTy} {κ' : Kind}
    {src : Memref sig .tc sp' s' e'} {dst : Memref sig κ' sp s e} {hsrc : src.view.WordExact} {hdst : dst.view.WordExact}
    {k : PUnit → Prog (TpuEff nD τ sig (Elt F) Λ₀ .tc) α} {ls lt lw : List (Fin 28)} {lz : List (Fin 58)}
    (hse : sem = dS (rK t c)) (hN : dst.view.dmaCredit = amt (rK t c)) (hlv : ∀ t' ∈ ls, lvT t < lvT t') (hu : used c (rK t c)) :
    St m K c ls lt (t :: lw) lz
      ⊢ iprop((iprop(St m K c ls lt lw (rK t c :: lz) ∗ rcvPay m c t) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hse
  unfold St
  simp only [lsep_cons]
  iintro ⟨#HR, ⟨%W, HO⟩, Htl, Hlt, ⟨Hw, Hlw⟩, Hlz⟩ Hk
  unfold wtT
  icases Hw with ⟨Hc, Hat⟩
  ihave H1 := (recs_cel m K c (rK t c)) $$ HR
  icases H1 with ⟨#HI, -⟩
  iapply (Rounds.wp_wait_rest_token 𝒱₀ ER (Rd m) (c : Thread nD τ) none (κ := K (c, some (rK t c)))
    (wpE_waitDma2_eq 𝒱₀ (c : Thread nD τ) none Set.univ) (Set.mem_univ _) () (O := owedT c ls) (W := W) (R := 0) (m := 0) (T := ∅)
    (by rw [Nat.zero_add, expect_cel m c _ hu, hN])) $$ [Hc HO Hat]
  · isplitr; · iexact HI
    isplitl [Hc]; · rw [hN]; iexact Hc
    isplitl [HO]; · iexact HO
    isplitr
    · iapply (mayWait c (.dma (dS (rK t c))) ls (fun t' h' => by rw [lvS_rcv]; exact hlv t' h'))
      iapply (recs_lev m K); iexact HR
    iexact Hat
  iintro ⟨HO, Hat, -, Hpay⟩
  imod (Rounds.cell_close ER (Rd m) (Set.mem_univ (K (c, some (rK t c)))) (fun h => h) (R := 0 + 1) (duties_later m (cel c (rK t c)))) $$ [Hat] with Hz
  · isplitr; · iexact HI
    iexact Hat
  iapply Hk
  isplitr [Hpay]
  · isplitr; · iexact HR
    isplitl [HO]; · iexists _; iexact HO
    isplitl [Htl]; · iexact Htl
    isplitl [Hlt]; · iexact Hlt
    isplitl [Hlw]; · iexact Hlw
    isplitl [Hz]; · unfold zK; iexact Hz
    iexact Hlz
  · iapply (BIBase.Entails.of_eq ((rest_cel m c _ hu).trans (payload_rcv m c t ht c 0))); iexact Hpay

/-- The wait for the departure of copy `t`, all copies issued, hands its source back. -/
theorem wp_depart (t : Fin 28) {sem : DmaSem sig} {sp sp' : Space} {s s' : Shape} {e e' : EltTy} {κ' : Kind}
    {src : Memref sig .tc sp' s' e'} {dst : Memref sig κ' sp s e} {hsrc : src.view.WordExact} {hdst : dst.view.WordExact}
    {k : PUnit → Prog (TpuEff nD τ sig (Elt F) Λ₀ .tc) α} {lt lw : List (Fin 28)} {lz : List (Fin 58)}
    (hse : sem = dS (sK t)) (hN : dst.view.dmaCredit = amt (sK t)) :
    St m K c [] (t :: lt) lw lz
      ⊢ iprop((iprop(St m K c [] lt lw (sK t :: lz) ∗ sndPay m c t) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hse
  unfold St
  simp only [lsep_cons]
  iintro ⟨#HR, ⟨%W, HO⟩, Htl, ⟨Hw, Hlt⟩, Hlw, Hlz⟩ Hk
  unfold sntT
  icases Hw with ⟨Hc, Hat⟩
  ihave H1 := (recs_cel m K c (sK t)) $$ HR
  icases H1 with ⟨#HI, -⟩
  iapply (Rounds.wp_wait_rest_token 𝒱₀ ER (Rd m) (c : Thread nD τ) none (κ := K (c, some (sK t)))
    (wpE_waitDma2_eq 𝒱₀ (c : Thread nD τ) none Set.univ) (Set.mem_univ _) () (O := owedT c []) (W := W) (R := 0) (m := 0) (T := ∅)
    (by rw [Nat.zero_add, expect_cel m c _ (sK_used c t), hN])) $$ [Hc HO Hat]
  · isplitr; · iexact HI
    isplitl [Hc]; · rw [hN]; iexact Hc
    isplitl [HO]; · iexact HO
    isplitr
    · iapply (mayWait c (.dma (dS (sK t))) [] (fun t' h' => absurd h' List.not_mem_nil))
      iapply (recs_lev m K); iexact HR
    iexact Hat
  iintro ⟨HO, Hat, -, Hpay⟩
  imod (Rounds.cell_close ER (Rd m) (Set.mem_univ (K (c, some (sK t)))) (fun h => h) (R := 0 + 1) (duties_later m (cel c (sK t)))) $$ [Hat] with Hz
  · isplitr; · iexact HI
    iexact Hat
  iapply Hk
  isplitr [Hpay]
  · isplitr; · iexact HR
    isplitl [HO]; · iexists _; iexact HO
    isplitl [Htl]; · iexact Htl
    isplitl [Hlt]; · iexact Hlt
    isplitl [Hlw]; · iexact Hlw
    isplitl [Hz]; · unfold zK; iexact Hz
    iexact Hlz
  · iapply (BIBase.Entails.of_eq ((rest_cel m c _ (sK_used c t)).trans (payload_snd m c t 0))); iexact Hpay

/-- A signal of neighbour `n`, handing it what it is to have. -/
theorem wp_sig {n n' : Dev nD} (hn : n = n') {s : Sem sig} (hs : s = barS) (d : Fin 3) {O₀ : CellTallies nD τ sig Unit} (O : CellTallies nD τ sig Unit)
    (hO : O₀ = O + tallyAt (barCell n') () 1) {k : PUnit → Prog (TpuEff nD τ sig (Elt F) Λ₀ .tc) α} :
    iprop(recs m K ∗ (∃ W, owes (c : Thread nD τ) O₀ W) ∗ dutyTok ER (barCell n') 0 d ∗ barPay n' d)
      ⊢ iprop(((∃ W, owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) s 1) k) Q) := by
  subst hn hs
  iintro ⟨#HR, ⟨%W, HO⟩, Ht, Hp⟩ Hk
  ihave H1 := (recs_bar m K n) $$ HR
  icases H1 with ⟨#HI, #Hr⟩
  iapply (Rounds.wp_signal 𝒱₀ ER (Rd m) (c : Thread nD τ) none (dst := (n : Thread nD τ)) (κ := K (n, none))
      (d := d) (by rw [duties_bar]; exact Finset.mem_univ _) (amount_bar m n d) () O hO (W := W))
    $$ [HO Ht Hp]
  · isplitr; · iexact HI
    isplitl [HO]; · iexact HO
    isplitl [Ht]; · iexact Ht
    isplitl [Hp]; · rw [payload_bar]; iexact Hp
    iexact Hr
  iintro HO
  iapply Hk
  iexists W; iexact HO

/-- The wait for the three neighbours. -/
theorem wp_bar {s : Sem sig} (hs : s = barS) (ls : List (Fin 28)) (hlv : ∀ t ∈ ls, 1 < lvT t)
    {k : PUnit → Prog (TpuEff nD τ sig (Elt F) Λ₀ .tc) α} :
    iprop(recs m K ∗ (∃ W, owes (c : Thread nD τ) (owedT c ls) W) ∗ cred (tallyAt (barCell c) () 3) ∗ atPos ER (barCell c) 0 ∅ 0)
      ⊢ iprop((iprop((∃ W, owes (c : Thread nD τ) (owedT c ls) W) ∗ semVal (barCell c) 0
              ∗ givX (nX c) c ∗ givY (nY c) c ∗ givZ (nZ c) c) -∗ wp frame (wpE (defs₀ (F := F)) 𝒱₀ (c : Thread nD τ) none) Set.univ (k ⟨⟩) Q)
          -∗ wp frame (wpE (defs₀ (F := F)) 𝒱₀ (c : Thread nD τ) none) Set.univ (.op (.semWait s 3) k) Q) := by
  subst hs
  iintro ⟨#HR, ⟨%W, HO⟩, Hc, Hat⟩ Hk
  ihave H1 := (recs_bar m K c) $$ HR
  icases H1 with ⟨#HI, -⟩
  iapply (Rounds.wp_wait_rest_token 𝒱₀ ER (Rd m) (c : Thread nD τ) none (κ := K (c, none))
    (wpE_semWait_eq 𝒱₀ (c : Thread nD τ) none Set.univ) (Set.mem_univ _) () (O := owedT c ls) (W := W) (R := 0) (m := 0) (T := ∅)
    (by rw [expect_bar])) $$ [Hc HO Hat]
  · isplitr; · iexact HI
    isplitl [Hc]; · iexact Hc
    isplitl [HO]; · iexact HO
    isplitr
    · iapply (mayWait c (.reg barS) ls hlv)
      iapply (recs_lev m K); iexact HR
    iexact Hat
  iintro ⟨HO, Hat, -, Hpay⟩
  imod (Rounds.cell_close ER (Rd m) (Set.mem_univ (K (c, none))) (fun h => h) (R := 0 + 1) (duties_later m (barCell c))) $$ [Hat] with Hz
  · isplitr; · iexact HI
    iexact Hat
  iapply Hk
  isplitl [HO]; · iexists _; iexact HO
  isplitl [Hz]; · iexact Hz
  iapply (Entails.of_eq (rest_bar m c)); iexact Hpay

end Cert.KernelIdeal.Pf
-- ==== Proof.Parts1.lean ====
module

public import proofs.«01_k».proof.Proof.Steps

/-!
The parts of the kernel's body at its own memrefs; the signals, the slabs and the first exchange.
-/

@[expose] public section

set_option maxRecDepth 16384

noncomputable section

namespace Cert.KernelIdeal.Pf

open Cert.KernelIdeal Cert.KernelIdeal.Gen Cert.Pieces
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A part of the body at the kernel's own memrefs and semaphores. -/
abbrev onArgs {β : Type 1}
    (f : (arg0 : Memref sig .tc .vmem S4096x512 .bf16) → (harg0 : arg0.IsWhole) → (arg1 : Memref sig .tc .vmem S512x2048 .bf16) →
      (harg1 : arg1.IsWhole) → (arg2 : Memref sig .tc .vmem S512x2048 .f32) → (harg2 : arg2.IsWhole) →
      (arg3 : Memref sig .tc .vmem S4096x512 .bf16) → (harg3 : arg3.IsWhole) → (arg4 : Memref sig .tc .vmem S512x2048 .bf16) →
      (harg4 : arg4.IsWhole) → (arg5 : Memref sig .tc .vmem S8x512x2048 .bf16) → (harg5 : arg5.IsWhole) →
      (arg6 : Memref sig .tc .vmem S4x512x640 .bf16) → (harg6 : arg6.IsWhole) → (arg7 : Memref sig .tc .vmem S4x512x640 .bf16) →
      (harg7 : arg7.IsWhole) → (arg8 : Memref sig .tc .vmem S4x512x768 .bf16) → (harg8 : arg8.IsWhole) →
      (arg9 : Memref sig .tc .vmem S2x512x640 .bf16) → (harg9 : arg9.IsWhole) →
      (arg10 : Memref sig .tc .vmem S2x512x640 .bf16) → (harg10 : arg10.IsWhole) →
      (arg11 : Memref sig .tc .vmem S2x512x768 .bf16) → (harg11 : arg11.IsWhole) →
      (arg12 : Memref sig .tc .vmem S512x640 .bf16) → (harg12 : arg12.IsWhole) → (arg13 : Memref sig .tc .vmem S512x640 .bf16) →
      (harg13 : arg13.IsWhole) → (arg14 : Memref sig .tc .vmem S512x768 .bf16) → (harg14 : arg14.IsWhole) →
      (arg15 : Memref sig .tc .vmem S2x512x640 .bf16) → (harg15 : arg15.IsWhole) →
      (arg16 : Memref sig .tc .vmem S2x512x640 .bf16) → (harg16 : arg16.IsWhole) →
      (arg17 : Memref sig .tc .vmem S2x512x768 .bf16) → (harg17 : arg17.IsWhole) →
      (arg18 : Memref sig .tc .vmem S512x640 .bf16) → (harg18 : arg18.IsWhole) → (arg19 : Memref sig .tc .vmem S512x640 .bf16) →
      (harg19 : arg19.IsWhole) → (arg20 : Memref sig .tc .vmem S512x768 .bf16) → (harg20 : arg20.IsWhole) →
      (arg21 : Memref sig .tc .vmem S1x128 .f32) → (harg21 : arg21.IsWhole) → (arg22 : Memref sig .tc .vmem S8x128 .f32) →
      (harg22 : arg22.IsWhole) → (arg23 : DmaSems sig S3x4) → (arg24 : DmaSems sig S3x4) → (arg25 : DmaSems sig S3x2) →
      (arg26 : DmaSems sig S3x2) → (arg27 : DmaSems sig S3) → (arg28 : DmaSems sig S3) → (arg29 : DmaSems sig S8) →
      (arg30 : DmaSems sig S8) → β) : β :=
  f (Memref.whole cc0_stg0_0) (Memref.isWhole_whole _) (Memref.whole cc0_stg1_0) (Memref.isWhole_whole _) (Memref.whole cc0_stg2_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) cc0_scratch20 cc0_scratch21 cc0_scratch22 cc0_scratch23 cc0_scratch24 cc0_scratch25 cc0_scratch26 cc0_scratch27

theorem dev1_eq (c : Dev nD) : (⟨k0_dev1 c, k0_dev1_lt c⟩ : Dev nD) = nX c := by revert c; decide
theorem dev2_eq (c : Dev nD) : (⟨k0_dev2 c, k0_dev2_lt c⟩ : Dev nD) = nY c := by revert c; decide
theorem dev3_eq (c : Dev nD) : (⟨k0_dev3 c, k0_dev3_lt c⟩ : Dev nD) = nZ c := by revert c; decide

/-- The word the kernel takes for its place. -/
abbrev v2w (c : Dev nD) : BitVec 32 := Scalar.remsi (Scalar.divsi (Dev.word c) 1#32) 8#32

/-- Columns 640 on of a slab. -/
abbrev rPBC (k : Fin 8) : Rect S8x512x2048 := Rect.unit (s := S8x512x2048) ![k.val, 0, 640] ![1, 512, 1408] (by revert k; decide)
abbrev eBC : (⟨3, ![1, 512, 1408]⟩ : Shape).Idx → S1x512x2048.Idx := (Rect.unit (s := S1x512x2048) ![0, 0, 640] ![1, 512, 1408] (by decide)).emb

theorem cutA_u (k : Fin 8) : (rPA k).set ∪ (rPBC k).set = (rPW k).set :=
  seg_union 8 512 2048 k 0 640 640 1408 2048 (by decide) (by decide) (by decide) rfl rfl
theorem cutA_d (k : Fin 8) : Disjoint (rPA k).set (rPBC k).set := seg_disj 8 512 2048 k 0 640 640 1408 (by decide) (by decide) (by decide)
theorem cutB_u (k : Fin 8) : (rPB k).set ∪ (rPC k).set = (rPBC k).set :=
  seg_union 8 512 2048 k 640 1280 640 768 1408 (by decide) (by decide) (by decide) rfl rfl
theorem cutB_d (k : Fin 8) : Disjoint (rPB k).set (rPC k).set := seg_disj 8 512 2048 k 640 1280 640 768 (by decide) (by decide) (by decide)

/-- A slab in its three column ranges. -/
theorem slab_cut (c : Dev nD) (k : Fin 8) (X : S1x512x2048.Idx → Elt F .bf16) :
    ow c (pW k) X ⊢ iprop(ow c (pA k) (fun j => X (eA j)) ∗ ow c (pB k) (fun j => X (eB j)) ∗ ow c (pC k) (fun j => X (eC j))) := by
  have h1 : ow c (pW k) X ⊢ iprop(ow c (pA k) (fun j => X (eA j)) ∗ ow c (mP.slice (rPBC k) (fun _ => rfl)) (fun j => X (eBC j))) :=
    cut_owns (c : Thread nD τ) mP fullShare (fun _ => rfl) (fun _ => rfl) (fun _ => rfl) (cutA_d k) (cutA_u k) eA eBC
      (fun j => emb_emb (s := S8x512x2048) (off := ![k.val, 0, 0]) (sz := S1x512x2048.size) (off' := ![0, 0, 0]) (sz' := S1x512x640.size) (off'' := ![k.val, 0, 0]) _ _ _ (by intro a; fin_cases a <;> rfl) j)
      (fun j => emb_emb (s := S8x512x2048) (off := ![k.val, 0, 0]) (sz := S1x512x2048.size) (off' := ![0, 0, 640]) (sz' := ![1, 512, 1408]) (off'' := ![k.val, 0, 640]) _ _ _ (by intro a; fin_cases a <;> rfl) j)
      (fun _ => rfl) (fun _ => rfl)
  have h2 : ow c (mP.slice (rPBC k) (fun _ => rfl)) (fun j => X (eBC j)) ⊢ iprop(ow c (pB k) (fun j => X (eB j)) ∗ ow c (pC k) (fun j => X (eC j))) :=
    cut_owns (c : Thread nD τ) mP fullShare (fun _ => rfl) (fun _ => rfl) (fun _ => rfl) (cutB_d k) (cutB_u k)
      (Rect.unit (s := ⟨3, ![1, 512, 1408]⟩) ![0, 0, 0] S1x512x640.size (by decide)).emb
      (Rect.unit (s := ⟨3, ![1, 512, 1408]⟩) ![0, 0, 640] S1x512x768.size (by decide)).emb
      (fun j => emb_emb (s := S8x512x2048) (off := ![k.val, 0, 640]) (sz := ![1, 512, 1408]) (off' := ![0, 0, 0]) (sz' := S1x512x640.size) (off'' := ![k.val, 0, 640]) _ _ _ (by intro a; fin_cases a <;> rfl) j)
      (fun j => emb_emb (s := S8x512x2048) (off := ![k.val, 0, 640]) (sz := ![1, 512, 1408]) (off' := ![0, 0, 640]) (sz' := S1x512x768.size) (off'' := ![k.val, 0, 1280]) _ _ _ (by intro a; fin_cases a <;> rfl) j)
      (fun j => congrArg X (emb_emb (s := S1x512x2048) (off := ![0, 0, 640]) (sz := ![1, 512, 1408]) (off' := ![0, 0, 0]) (sz' := S1x512x640.size) (off'' := ![0, 0, 640]) _ _ _ (by intro a; fin_cases a <;> rfl) j))
      (fun j => congrArg X (emb_emb (s := S1x512x2048) (off := ![0, 0, 640]) (sz := ![1, 512, 1408]) (off' := ![0, 0, 640]) (sz' := S1x512x768.size) (off'' := ![0, 0, 1280]) _ _ _ (by intro a; fin_cases a <;> rfl) j))
  iintro H
  ihave H1 := h1 $$ H
  icases H1 with ⟨HA, H⟩
  ihave H2 := h2 $$ H
  icases H2 with ⟨HB, HC⟩
  isplitl [HA]; · iexact HA
  isplitl [HB]; · iexact HB
  iexact HC

/-- The three column ranges of a slab at its device's partial product. -/
theorem slab_pieces (c : Dev nD) (k : Fin 8) :
    ow c (pW k) (slab m c k) ⊢ iprop(ow c (pA k) (PA m c k) ∗ ow c (pB k) (PB m c k) ∗ ow c (pC k) (PC m c k)) :=
  slab_cut c k (slab m c k)

/-- The three column ranges rejoin. -/
theorem slab_join (c : Dev nD) (k : Fin 8) : (iprop(fr c (pA k) ∗ fr c (pB k) ∗ fr c (pC k)) : sProp 𝕄) ⊢ fr c (pW k) := by
  iintro ⟨HA, HB, HC⟩
  iapply (join_free (c : Thread nD τ) mP (r := rPW k) (fun _ => rfl) (r₁ := rPA k) (fun _ => rfl) (r₂ := rPBC k) (fun _ => rfl) (cutA_d k) (cutA_u k)) $$ [HA HB HC]
  isplitl [HA]; · iexact HA
  iapply (join_free (c : Thread nD τ) mP (r := rPBC k) (fun _ => rfl) (r₁ := rPB k) (fun _ => rfl) (r₂ := rPC k) (fun _ => rfl) (cutB_d k) (cutB_u k)) $$ [HB HC]
  isplitl [HB]; · iexact HB
  iexact HC

/-! What arrives at a neighbour is what its neighbour sent. -/
theorem R1A_n (c : Dev nD) (s : Fin 4) : R1A m (nX c) s = PA m c (kA s) := by unfold R1A; rw [nX_nX]
theorem R1B_n (c : Dev nD) (s : Fin 4) : R1B m (nY c) s = PB m c (kB s) := by unfold R1B; rw [nY_nY]
theorem R1C_n (c : Dev nD) (s : Fin 4) : R1C m (nZ c) s = PC m c (kC s) := by unfold R1C; rw [nZ_nZ]
theorem R2A_n (c : Dev nD) (b : Fin 2) : R2A m (nY c) b = Z2A m c b := by unfold R2A; rw [nY_nY]
theorem R2B_n (c : Dev nD) (b : Fin 2) : R2B m (nZ c) b = Z2B m c b := by unfold R2B; rw [nZ_nZ]
theorem R2C_n (c : Dev nD) (b : Fin 2) : R2C m (nX c) b = Z2C m c b := by unfold R2C; rw [nX_nX]
theorem R3A_n (c : Dev nD) : R3A m (nZ c) = Z3A m c := by unfold R3A; rw [nZ_nZ]
theorem R3B_n (c : Dev nD) : R3B m (nX c) = Z3B m c := by unfold R3B; rw [nX_nX]
theorem R3C_n (c : Dev nD) : R3C m (nY c) = Z3C m c := by unfold R3C; rw [nY_nY]

/-- A copy with no rider lands its contents. -/
theorem lands {n : Dev nD} {s : Shape} {e : EltTy} {q : Memref sig .tc .vmem s e} {X Y : s.Idx → Elt F e} (h : Y = X) :
    (iprop(ow n q X ∗ emp) : sProp 𝕄) ⊢ ow n q Y := by
  subst h; iintro ⟨H, -⟩; iexact H

theorem hz2 : (![0, 0] : Fin 2 → ℕ) = fun _ => 0 := by funext i; fin_cases i <;> rfl
variable (K : Kix → ℕ) (c : Dev nD)

/-! Loads and stores of the parts. -/
section LS

variable {Q : PUnit → sProp (MT nD τ sig Unit (Elt F) ℕ UU ℕ)} {α : Type} {Q' : α → sProp (MT nD τ sig Unit (Elt F) ℕ UU ℕ)}

/-- A partial product: rows of the first argument, all of the second, and the store of the slab. -/
theorem wp_slab (k : Fin 8) {off : Fin 2 → ℕ} {inb : ∀ a, off a + S512x512.size a ≤ S4096x512.size a} {inb0} {inbk}
    (f : Vec F S512x512 .bf16 → Vec F S512x2048 .bf16 → FVec F S1x512x2048 .bf16) (hf : slab m c k = f (rowsAt m c off inb) (WB m c))
    {h1} {h2} {h3} {hx} {hm} {kk : PUnit → Prog (TpuEff nD τ sig (Elt F) Λ₀ .tc) α} :
    iprop(ow c mXb (XB m c) ∗ ow c mWb (WB m c) ∗ fr c (pW k))
      ⊢ iprop((iprop(ow c mXb (XB m c) ∗ ow c mWb (WB m c) ∗ ow c (pA k) (PA m c k) ∗ ow c (pB k) (PB m c k) ∗ ow c (pC k) (PC m c k))
            -∗ wp frame (wpE (defs₀ (F := F)) 𝒱₀ (c : Thread nD τ) none) Set.univ (kk ⟨⟩) Q')
          -∗ wp frame (wpE (defs₀ (F := F)) 𝒱₀ (c : Thread nD τ) none) Set.univ (.op (.load mXb (Rect.unit (s := S4096x512) off S512x512.size inb).toLoadRect h1) fun v =>
              .op (.load mWb (Rect.unit (s := S512x2048) ![0, 0] S512x2048.size inb0).toLoadRect h2) fun w =>
              .op (.load mP (Rect.unit (s := S8x512x2048) ![k.val, 0, 0] S1x512x2048.size inbk).toLoadRect h3) fun _ =>
              .op (.store mP (Rect.unit (s := S8x512x2048) ![k.val, 0, 0] S1x512x2048.size inbk) (f v w) Finset.univ hx hm) kk) Q') := by
  iintro ⟨HX, HW, HP⟩ Hk
  iapply (wp_load_part (defs := defs₀ (F := F)) 𝒱₀ (c : Thread nD τ) none Set.univ) $$ HX
  iintro HX
  iapply (wp_load_all c hz2) $$ HW
  iintro HW
  iapply (wp_load_free (defs := defs₀ (F := F)) 𝒱₀ (c : Thread nD τ) none Set.univ (hr := fun _ => rfl)) $$ HP
  iintro %X HP
  iapply (wp_store_free (defs := defs₀ (F := F)) 𝒱₀ (c : Thread nD τ) none Set.univ (hr := fun _ => rfl)) $$ HP
  iintro HP
  iapply Hk
  isplitl [HX]; · iexact HX
  isplitl [HW]; · iexact HW
  iapply (slab_pieces m c k)
  rw [hf]
  iexact HP

end LS

/-- The signals of two neighbours. -/
theorem part1 {Q : _ → sProp (MT nD τ sig Unit (Elt F) ℕ UU ℕ)} :
    iprop(recs m K ∗ (∃ W, owes (c : Thread nD τ) (O₀ c) W) ∗ dutyTok ER (barCell (nX c)) 0 0 ∗ barPay (nX c) 0
        ∗ dutyTok ER (barCell (nY c)) 0 1 ∗ barPay (nY c) 1)
      ⊢ iprop((∀ v3 v20 v23 v26 v29, (∃ W, owes (c : Thread nD τ) (OZ c) W)
            -∗ Q ⟨c, v2w c, v3, v20, v23, v26, v29, SemArray.scalar (sig.barrier 0 rfl)⟩)
          -∗ wp frame (wpE (defs₀ (F := F)) 𝒱₀ (c : Thread nD τ) none) Set.univ (onArgs (k0_part1 (F := F))) Q) := by
  unfold onArgs
  rw [k0_part1_eq_skeleton]; unfold k0_part1_skel
  simp only [semSignalWord, semWaitWord, Prog.lift, Prog.bind_op, Prog.bind_ret, Prog.pure_eq_ret, wp_deviceId]
  iintro ⟨#HR, HO, Ht1, Hp1, Ht2, Hp2⟩ Hk
  iapply (wp_sig m K c (dev1_eq c) rfl 0 (OY c) rfl) $$ [HO Ht1 Hp1]
  · isplitr; · iexact HR
    isplitl [HO]; · iexact HO
    isplitl [Ht1]; · iexact Ht1
    iexact Hp1
  iintro HO
  iapply (wp_sig m K c (dev2_eq c) rfl 1 (OZ c) rfl) $$ [HO Ht2 Hp2]
  · isplitr; · iexact HR
    isplitl [HO]; · iexact HO
    isplitl [Ht2]; · iexact Ht2
    iexact Hp2
  iintro HO
  rw [wp_ret]; imodintro
  iapply Hk $$ %_ %_ %_ %_ %_ [HO]
  iexact HO

/-- The neighbours met, and the first slab. -/
theorem part2 {v3 v20 v29 : BitVec 32} {Q : _ → sProp (MT nD τ sig Unit (Elt F) ℕ UU ℕ)} :
    iprop(recs m K ∗ (∃ W, owes (c : Thread nD τ) (OZ c) W) ∗ dutyTok ER (barCell (nZ c)) 0 2 ∗ barPay (nZ c) 2
        ∗ cred (tallyAt (barCell c) () 3) ∗ atPos ER (barCell c) 0 ∅ 0
        ∗ ow c mX (xs m c) ∗ ow c mW (ws m c) ∗ fr c mXb ∗ fr c mWb ∗ fr c (pW 7))
      ⊢ iprop((((∃ W, owes (c : Thread nD τ) (owedT c ordS) W) ∗ semVal (barCell c) 0 ∗ givX (nX c) c ∗ givY (nY c) c ∗ givZ (nZ c) c
            ∗ ow c mX (xs m c) ∗ ow c mW (ws m c) ∗ ow c mXb (XB m c) ∗ ow c mWb (WB m c)
            ∗ ow c (pA 7) (PA m c 7) ∗ ow c (pB 7) (PB m c 7) ∗ ow c (pC 7) (PC m c 7)) -∗ Q ⟨⟩)
          -∗ wp frame (wpE (defs₀ (F := F)) 𝒱₀ (c : Thread nD τ) none) Set.univ (onArgs (k0_part2 (F := F)) c v3 v20 v29 (SemArray.scalar (sig.barrier 0 rfl))) Q) := by
  unfold onArgs
  rw [k0_part2_eq_skeleton]; unfold k0_part2_skel
  simp only [semSignalWord, semWaitWord, Prog.lift, Prog.bind_op, Prog.bind_ret, Prog.pure_eq_ret]
  iintro ⟨#HR, HO, Ht, Hp, Hcr, Hat, HX, HW, HXb, HWb, HP⟩ Hk
  iapply (wp_sig m K c (dev3_eq c) rfl 2 (owedT c ordS) rfl) $$ [HO Ht Hp]
  · isplitr; · iexact HR
    isplitl [HO]; · iexact HO
    isplitl [Ht]; · iexact Ht
    iexact Hp
  iintro HO
  iapply (wp_bar m K c rfl ordS (by decide)) $$ [HO Hcr Hat]
  · isplitr; · iexact HR
    isplitl [HO]; · iexact HO
    isplitl [Hcr]; · iexact Hcr
    iexact Hat
  iintro ⟨HO, Hz, HgX, HgY, HgZ⟩
  iapply (wp_load_all c hz2) $$ HX
  iintro HX
  iapply (wp_load_any c hz2) $$ HXb
  iintro %_ HXb
  iapply (wp_store_all c hz2) $$ HXb
  iintro HXb
  iapply (wp_load_all c hz2) $$ HW
  iintro HW
  iapply (wp_load_any c hz2) $$ HWb
  iintro %_ HWb
  iapply (wp_store_all c hz2) $$ HWb
  iintro HWb
  iapply (wp_slab m c 7 k0_pay3 rfl) $$ [HXb HWb HP]
  · isplitl [HXb]; · iexact HXb
    isplitl [HWb]; · iexact HWb
    iexact HP
  iintro ⟨HXb, HWb, HPA, HPB, HPC⟩
  rw [wp_ret]; imodintro
  iapply Hk
  iframe

/-- A copy with no rider. -/
theorem wp_send {s s' : Shape} {e : EltTy} (t : Fin 28) (ht : t.val < 21) (p : Dev nD) (hp : p = peer t c) {n : Dev nD} (hn : n = p)
    {src dst : Memref sig .tc .vmem s e} {hsq : s.Squeezes s'}
    {hsc : (show Memref sig (Dev.tc n : Thread nD τ).2.kind .vmem s' e from dst.squeeze s' hsq).view.ref.isScScratch = false} {sS sem : DmaSem sig}
    {hsrc : (src.squeeze s' hsq).view.WordExact} {hdst : (dst.squeeze s' hsq).view.WordExact}
    {hsem : DmaTarget.Typed .vmem (.dma sem) (.remote (Dev.tc n : Thread nD τ) (dst.squeeze s' hsq) (.dma sS) hsc)}
    {α : Type} {Q : α → sProp (MT nD τ sig Unit (Elt F) ℕ UU ℕ)}
    {k : PUnit → Prog (TpuEff nD τ sig (Elt F) Λ₀ .tc) α} {ls lt lw : List (Fin 28)} {lz : List (Fin 58)}
    (hsS : sS = dS (sK t)) (hse : sem = dS (rK t c)) (hN : (dst.squeeze s' hsq).view.dmaCredit = amt (sK t))
    (X : s.Idx → Elt F e)
    (hs : ow c src X ⊢ sndPay m c t)
    (hd : iprop(ow p dst X ∗ emp) ⊢ rcvPay m p t) :
    St m K c (t :: ls) lt lw lz
      ⊢ iprop(ow c src X -∗ fr p dst -∗ (St m K c ls (t :: lt) lw lz -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (src.squeeze s' hsq) (.remote (Dev.tc n : Thread nD τ) (dst.squeeze s' hsq) (.dma sS) hsc) (.dma sem) hsrc hdst hsem) k) Q) := by
  subst hp
  iintro HS Hp Hd Hk
  iapply (wp_copy_sq m K c t ht hn hsS hse hN X iprop(emp) hs hd) $$ [HS Hp Hd] Hk
  isplitl [HS]; · iexact HS
  isplitl [Hp]; · iexact Hp
  isplitl [Hd]; · iexact Hd
  iempintro

/-- A copy with rows of maxima for its receiver. -/
theorem wp_send_with {s s' : Shape} {e : EltTy} (t : Fin 28) (ht : t.val < 21) (p : Dev nD) (hp : p = peer t c) {n : Dev nD} (hn : n = p)
    {src dst : Memref sig .tc .vmem s e} {hsq : s.Squeezes s'}
    {hsc : (show Memref sig (Dev.tc n : Thread nD τ).2.kind .vmem s' e from dst.squeeze s' hsq).view.ref.isScScratch = false} {sS sem : DmaSem sig}
    {hsrc : (src.squeeze s' hsq).view.WordExact} {hdst : (dst.squeeze s' hsq).view.WordExact}
    {hsem : DmaTarget.Typed .vmem (.dma sem) (.remote (Dev.tc n : Thread nD τ) (dst.squeeze s' hsq) (.dma sS) hsc)}
    {α : Type} {Q : α → sProp (MT nD τ sig Unit (Elt F) ℕ UU ℕ)}
    {k : PUnit → Prog (TpuEff nD τ sig (Elt F) Λ₀ .tc) α} {ls lt lw : List (Fin 28)} {lz : List (Fin 58)}
    (hsS : sS = dS (sK t)) (hse : sem = dS (rK t c)) (hN : (dst.squeeze s' hsq).view.dmaCredit = amt (sK t))
    (X : s.Idx → Elt F e) (Ex : sProp (MT nD τ sig Unit (Elt F) ℕ UU ℕ))
    (hs : ow c src X ⊢ sndPay m c t)
    (hd : iprop(ow p dst X ∗ Ex) ⊢ rcvPay m p t) :
    St m K c (t :: ls) lt lw lz
      ⊢ iprop(ow c src X -∗ fr p dst -∗ Ex -∗ (St m K c ls (t :: lt) lw lz -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (src.squeeze s' hsq) (.remote (Dev.tc n : Thread nD τ) (dst.squeeze s' hsq) (.dma sS) hsc) (.dma sem) hsrc hdst hsem) k) Q) := by
  subst hp
  iintro HS Hp Hd Hx Hk
  iapply (wp_copy_sq m K c t ht hn hsS hse hN X Ex hs hd) $$ [HS Hp Hd Hx] Hk
  isplitl [HS]; · iexact HS
  isplitl [Hp]; · iexact Hp
  isplitl [Hd]; · iexact Hd
  iexact Hx

/-- Loading rows of the first argument. -/
theorem wp_rows {off : Fin 2 → ℕ} {inb : ∀ a, off a + S512x512.size a ≤ S4096x512.size a} {α : Type}
    {Q : α → sProp (MT nD τ sig Unit (Elt F) ℕ UU ℕ)} {h1} {k : Vec F S512x512 .bf16 → Prog (TpuEff nD τ sig (Elt F) Λ₀ .tc) α} :
    ow c mXb (XB m c) ⊢ iprop((ow c mXb (XB m c) -∗ wp frame (wpE (defs₀ (F := F)) 𝒱₀ (c : Thread nD τ) none) Set.univ (k (rowsAt m c off inb)) Q)
      -∗ wp frame (wpE (defs₀ (F := F)) 𝒱₀ (c : Thread nD τ) none) Set.univ (.op (.load mXb (Rect.unit (s := S4096x512) off S512x512.size inb).toLoadRect h1) k) Q) := by
  unfold rowsAt
  iintro H Hk
  iapply (wp_load_part (defs := defs₀ (F := F)) 𝒱₀ (c : Thread nD τ) none Set.univ) $$ H
  iintro H
  iapply Hk $$ H

/-- The riders of the copies that take some. -/
theorem rides2 (c : Dev nD) : (iprop(ow (nX c) (rA1 2) (PA m c 6) ∗ fr (nZ c) (axR (nX c))) : sProp 𝕄) ⊢ rcvPay m (nX c) 2 := by
  show _ ⊢ iprop(ow (nX c) (rA1 2) (R1A m (nX c) 2) ∗ fr (nZ (nX (nX c))) (axR (nX c)))
  rw [nX_nX, R1A_n]; exact .rfl
theorem rides6 (c : Dev nD) : (iprop(ow (nY c) (rB1 2) (PB m c 3) ∗ fr (nX c) (axR (nY c)) ∗ fr (nX c) (axR (nY (nZ c)))) : sProp 𝕄)
    ⊢ rcvPay m (nY c) 6 := by
  show _ ⊢ iprop(ow (nY c) (rB1 2) (R1B m (nY c) 2) ∗ fr (nX (nY (nY c))) (axR (nY c)) ∗ fr (nX (nY (nY c))) (axR (nZ (nY c))))
  rw [nY_nY, R1B_n, nZ_nY]; exact .rfl
theorem rides10 (c : Dev nD) : (iprop(ow (nZ c) (rC1 2) (PC m c 5) ∗ fr (nY c) (axR (nZ c))) : sProp 𝕄) ⊢ rcvPay m (nZ c) 10 := by
  show _ ⊢ iprop(ow (nZ c) (rC1 2) (R1C m (nZ c) 2) ∗ fr (nY (nZ (nZ c))) (axR (nZ c)))
  rw [nZ_nZ, R1C_n]; exact .rfl
theorem rides14 (c : Dev nD) : (iprop(ow (nZ c) (rB2 0) (Z2B m c 0) ∗ fr (nX (nY c)) (axR (nZ c))) : sProp 𝕄) ⊢ rcvPay m (nZ c) 14 := by
  show _ ⊢ iprop(ow (nZ c) (rB2 0) (R2B m (nZ c) 0) ∗ fr (nX (nY (nZ (nZ c)))) (axR (nZ c)))
  rw [nZ_nZ, R2B_n]

/-- Slab 7 goes out to two neighbours. -/
theorem part3 {ls lt lw : List (Fin 28)} {lz : List (Fin 58)} {v23 v26 v29 : BitVec 32} {Q : _ → sProp (MT nD τ sig Unit (Elt F) ℕ UU ℕ)} :
    iprop(St m K c (3 :: 7 :: ls) lt lw lz ∗ ow c (pA 7) (PA m c 7) ∗ fr (nX c) (rA1 3) ∗ ow c (pB 7) (PB m c 7) ∗ fr (nY c) (rB1 3))
      ⊢ iprop((iprop(St m K c ls (7 :: 3 :: lt) lw lz) -∗ Q ⟨⟩)
          -∗ wp frame (wpE (defs₀ (F := F)) 𝒱₀ (c : Thread nD τ) none) Set.univ (onArgs (k0_part3 (F := F)) c v23 v26 v29) Q) := by
  unfold onArgs
  rw [k0_part3_eq_skeleton]; unfold k0_part3_skel
  simp only [Prog.lift, Prog.bind_op, Prog.bind_ret, Prog.pure_eq_ret]
  iintro ⟨HS, Hp1, Hd1, Hp2, Hd2⟩ Hk
  iapply (wp_send m K c 3 (by decide) (nX c) rfl (by revert c; decide) rfl rfl (by decide) (PA m c 7) .rfl (lands (R1A_n m c 3))) $$ HS Hp1 Hd1
  iintro HS
  iapply (wp_send m K c 7 (by decide) (nY c) rfl (by revert c; decide) rfl rfl (by decide) (PB m c 7) .rfl (lands (R1B_n m c 3))) $$ HS Hp2 Hd2
  iintro HS
  rw [wp_ret]; imodintro
  iapply Hk
  iframe

/-- Slab 7 goes out to the third; slab 6, and it goes out along the first order with a row of maxima. -/
theorem part4 {ls lt lw : List (Fin 28)} {lz : List (Fin 58)} {v3 v20 v23 : BitVec 32} {Q : _ → sProp (MT nD τ sig Unit (Elt F) ℕ UU ℕ)} :
    iprop(St m K c (11 :: 2 :: ls) lt lw lz ∗ ow c (pC 7) (PC m c 7) ∗ fr (nZ c) (rC1 3) ∗ ow c mXb (XB m c) ∗ ow c mWb (WB m c) ∗ fr c (pW 6) ∗ fr (nX c) (rA1 2) ∗ fr (nZ c) (axR (nX c)))
      ⊢ iprop((iprop(St m K c ls (2 :: 11 :: lt) lw lz ∗ ow c mXb (XB m c) ∗ ow c mWb (WB m c) ∗ ow c (pB 6) (PB m c 6) ∗ ow c (pC 6) (PC m c 6)) -∗ Q 1#32)
          -∗ wp frame (wpE (defs₀ (F := F)) 𝒱₀ (c : Thread nD τ) none) Set.univ (onArgs (k0_part4 (F := F)) c v3 v20 v23) Q) := by
  unfold onArgs
  rw [k0_part4_eq_skeleton]; unfold k0_part4_skel
  simp only [Prog.lift, Prog.bind_op, Prog.bind_ret, Prog.pure_eq_ret]
  iintro ⟨HS, Hp1, Hd1, HXb, HWb, HP, Hd2, Hx⟩ Hk
  iapply (wp_send m K c 11 (by decide) (nZ c) rfl (by revert c; decide) rfl rfl (by decide) (PC m c 7) .rfl (lands (R1C_n m c 3))) $$ HS Hp1 Hd1
  iintro HS
  iapply (wp_slab m c 6 k0_pay4 rfl) $$ [HXb HWb HP]
  · isplitl [HXb]; · iexact HXb
    isplitl [HWb]; · iexact HWb
    iexact HP
  iintro ⟨HXb, HWb, HPA, HPB, HPC⟩
  iapply (wp_send_with m K c 2 (by decide) (nX c) rfl (by revert c; decide) rfl rfl (by decide) (PA m c 6) _ .rfl (rides2 m c)) $$ HS HPA Hd2 Hx
  iintro HS
  rw [wp_ret]; imodintro
  iapply Hk
  iframe

/-- Slab 6 goes out along the second order; slab 5. -/
theorem part5 {ls lt lw : List (Fin 28)} {lz : List (Fin 58)} {v3 v20 v23 v26 v : BitVec 32} {Q : _ → sProp (MT nD τ sig Unit (Elt F) ℕ UU ℕ)} :
    iprop(St m K c (5 :: ls) lt lw lz ∗ ow c (pB 6) (PB m c 6) ∗ fr (nY c) (rB1 1) ∗ ow c mXb (XB m c) ∗ ow c mWb (WB m c) ∗ fr c (pW 5))
      ⊢ iprop((iprop(St m K c ls (5 :: lt) lw lz ∗ ow c mXb (XB m c) ∗ ow c mWb (WB m c) ∗ ow c (pA 5) (PA m c 5) ∗ ow c (pB 5) (PB m c 5) ∗ ow c (pC 5) (PC m c 5)) -∗ Q ⟨⟩)
          -∗ wp frame (wpE (defs₀ (F := F)) 𝒱₀ (c : Thread nD τ) none) Set.univ (onArgs (k0_part5 (F := F)) c v3 v20 v23 v26 v) Q) := by
  unfold onArgs
  rw [k0_part5_eq_skeleton]; unfold k0_part5_skel
  simp only [Prog.lift, Prog.bind_op, Prog.bind_ret, Prog.pure_eq_ret]
  iintro ⟨HS, Hp1, Hd1, HXb, HWb, HP⟩ Hk
  iapply (wp_send m K c 5 (by decide) (nY c) rfl (by revert c; decide) rfl rfl (by decide) (PB m c 6) .rfl (lands (R1B_n m c 1))) $$ HS Hp1 Hd1
  iintro HS
  iapply (wp_slab m c 5 k0_pay5 rfl) $$ [HXb HWb HP]
  · isplitl [HXb]; · iexact HXb
    isplitl [HWb]; · iexact HWb
    iexact HP
  iintro ⟨HXb, HWb, HPA, HPB, HPC⟩
  rw [wp_ret]; imodintro
  iapply Hk
  iframe

/-- Slab 5 goes out; slab 3. -/
theorem part6 {ls lt lw : List (Fin 28)} {lz : List (Fin 58)} {v3 v20 v26 v29 : BitVec 32} {Q : _ → sProp (MT nD τ sig Unit (Elt F) ℕ UU ℕ)} :
    iprop(St m K c (1 :: 10 :: ls) lt lw lz ∗ ow c (pA 5) (PA m c 5) ∗ fr (nX c) (rA1 1) ∗ ow c (pC 5) (PC m c 5) ∗ fr (nZ c) (rC1 2) ∗ fr (nY c) (axR (nZ c)) ∗ ow c mXb (XB m c) ∗ ow c mWb (WB m c) ∗ fr c (pW 3))
      ⊢ iprop((iprop(St m K c ls (10 :: 1 :: lt) lw lz ∗ ow c mXb (XB m c) ∗ ow c mWb (WB m c) ∗ ow c (pA 3) (PA m c 3) ∗ ow c (pB 3) (PB m c 3) ∗ ow c (pC 3) (PC m c 3)) -∗ Q (Scalar.muli v26 1#32))
          -∗ wp frame (wpE (defs₀ (F := F)) 𝒱₀ (c : Thread nD τ) none) Set.univ (onArgs (k0_part6 (F := F)) c v3 v20 v26 v29) Q) := by
  unfold onArgs
  rw [k0_part6_eq_skeleton]; unfold k0_part6_skel
  simp only [Prog.lift, Prog.bind_op, Prog.bind_ret, Prog.pure_eq_ret]
  iintro ⟨HS, Hp1, Hd1, Hp2, Hd2, Hx, HXb, HWb, HP⟩ Hk
  iapply (wp_send m K c 1 (by decide) (nX c) rfl (by revert c; decide) rfl rfl (by decide) (PA m c 5) .rfl (lands (R1A_n m c 1))) $$ HS Hp1 Hd1
  iintro HS
  iapply (wp_send_with m K c 10 (by decide) (nZ c) rfl (by revert c; decide) rfl rfl (by decide) (PC m c 5) _ .rfl (rides10 m c)) $$ HS Hp2 Hd2 Hx
  iintro HS
  iapply (wp_slab m c 3 k0_pay6 rfl) $$ [HXb HWb HP]
  · isplitl [HXb]; · iexact HXb
    isplitl [HWb]; · iexact HWb
    iexact HP
  iintro ⟨HXb, HWb, HPA, HPB, HPC⟩
  rw [wp_ret]; imodintro
  iapply Hk
  iframe

/-- Slab 3 goes out; the values of slab 4. -/
theorem part7 {ls lt lw : List (Fin 28)} {lz : List (Fin 58)} {v3 v20 v29 v170 : BitVec 32} {Q : _ → sProp (MT nD τ sig Unit (Elt F) ℕ UU ℕ)} :
    iprop(St m K c (6 :: 9 :: ls) lt lw lz ∗ ow c (pB 3) (PB m c 3) ∗ fr (nY c) (rB1 2) ∗ (fr (nX c) (axR (nY c)) ∗ fr (nX c) (axR (nY (nZ c)))) ∗ ow c (pC 3) (PC m c 3) ∗ fr (nZ c) (rC1 1) ∗ ow c mXb (XB m c) ∗ ow c mWb (WB m c) ∗ fr c (pW 4))
      ⊢ iprop((iprop(St m K c ls (9 :: 6 :: lt) lw lz ∗ ow c mXb (XB m c) ∗ ow c mWb (WB m c) ∗ fr c (pW 4)) -∗ Q (k0_pay7 (rowsAt m c (k0_off5 c) (k0_off5_inb c)) (WB m c)))
          -∗ wp frame (wpE (defs₀ (F := F)) 𝒱₀ (c : Thread nD τ) none) Set.univ (onArgs (k0_part7 (F := F)) c v3 v20 v29 v170) Q) := by
  unfold onArgs
  rw [k0_part7_eq_skeleton]; unfold k0_part7_skel
  simp only [Prog.lift, Prog.bind_op, Prog.bind_ret, Prog.pure_eq_ret]
  iintro ⟨HS, Hp1, Hd1, Hx, Hp2, Hd2, HXb, HWb, HP⟩ Hk
  iapply (wp_send_with m K c 6 (by decide) (nY c) rfl (by revert c; decide) rfl rfl (by decide) (PB m c 3) _ .rfl (rides6 m c)) $$ HS Hp1 Hd1 Hx
  iintro HS
  iapply (wp_send m K c 9 (by decide) (nZ c) rfl (by revert c; decide) rfl rfl (by decide) (PC m c 3) .rfl (lands (R1C_n m c 1))) $$ HS Hp2 Hd2
  iintro HS
  iapply (wp_rows m c) $$ HXb
  iintro HXb
  iapply (wp_load_all c hz2) $$ HWb
  iintro HWb
  iapply (wp_load_free (defs := defs₀ (F := F)) 𝒱₀ (c : Thread nD τ) none Set.univ (hr := fun _ => rfl)) $$ HP
  iintro %_ HP
  rw [wp_ret]; imodintro
  iapply Hk
  iframe

/-- Slab 4 goes out; slab 2. -/
theorem part8 {ls lt lw : List (Fin 28)} {lz : List (Fin 58)} {v3 v20 v23 v26 : BitVec 32} {v201 : FVec F S1x512x2048 .bf16} (hv : v201 = slab m c 4) {Q : _ → sProp (MT nD τ sig Unit (Elt F) ℕ UU ℕ)} :
    iprop(St m K c (0 :: ls) lt lw lz ∗ fr c (pW 4) ∗ fr (nX c) (rA1 0) ∗ ow c mXb (XB m c) ∗ ow c mWb (WB m c) ∗ fr c (pW 2))
      ⊢ iprop((iprop(St m K c ls (0 :: lt) lw lz ∗ ow c mXb (XB m c) ∗ ow c mWb (WB m c) ∗ ow c (pB 4) (PB m c 4) ∗ ow c (pC 4) (PC m c 4) ∗ ow c (pA 2) (PA m c 2) ∗ ow c (pB 2) (PB m c 2) ∗ ow c (pC 2) (PC m c 2)) -∗ Q ⟨⟩)
          -∗ wp frame (wpE (defs₀ (F := F)) 𝒱₀ (c : Thread nD τ) none) Set.univ (onArgs (k0_part8 (F := F)) c v3 v20 v23 v26 v201) Q) := by
  unfold onArgs
  rw [k0_part8_eq_skeleton]; unfold k0_part8_skel
  simp only [Prog.lift, Prog.bind_op, Prog.bind_ret, Prog.pure_eq_ret]
  subst hv
  iintro ⟨HS, HP4, Hd1, HXb, HWb, HP⟩ Hk
  iapply (wp_store_free (defs := defs₀ (F := F)) 𝒱₀ (c : Thread nD τ) none Set.univ (hr := fun _ => rfl)) $$ HP4
  iintro HP4
  ihave HP4' := (slab_pieces m c 4) $$ HP4
  icases HP4' with ⟨H4A, H4B, H4C⟩
  iapply (wp_send m K c 0 (by decide) (nX c) rfl (by revert c; decide) rfl rfl (by decide) (PA m c 4) .rfl (lands (R1A_n m c 0))) $$ HS H4A Hd1
  iintro HS
  iapply (wp_slab m c 2 k0_pay8 rfl) $$ [HXb HWb HP]
  · isplitl [HXb]; · iexact HXb
    isplitl [HWb]; · iexact HWb
    iexact HP
  iintro ⟨HXb, HWb, HPA, HPB, HPC⟩
  rw [wp_ret]; imodintro
  iapply Hk
  iframe

/-- Slab 2 goes out; slab 1, and it goes out. -/
theorem part9 {ls lt lw : List (Fin 28)} {lz : List (Fin 58)} {v3 v20 v29 : BitVec 32} {Q : _ → sProp (MT nD τ sig Unit (Elt F) ℕ UU ℕ)} :
    iprop(St m K c (4 :: 8 :: ls) lt lw lz ∗ ow c (pB 2) (PB m c 2) ∗ fr (nY c) (rB1 0) ∗ ow c mXb (XB m c) ∗ ow c mWb (WB m c) ∗ fr c (pW 1) ∗ fr (nZ c) (rC1 0))
      ⊢ iprop((iprop(St m K c ls (8 :: 4 :: lt) lw lz ∗ ow c mXb (XB m c) ∗ ow c mWb (WB m c) ∗ ow c (pA 1) (PA m c 1) ∗ ow c (pB 1) (PB m c 1)) -∗ Q ⟨⟩)
          -∗ wp frame (wpE (defs₀ (F := F)) 𝒱₀ (c : Thread nD τ) none) Set.univ (onArgs (k0_part9 (F := F)) c v3 v20 v29) Q) := by
  unfold onArgs
  rw [k0_part9_eq_skeleton]; unfold k0_part9_skel
  simp only [Prog.lift, Prog.bind_op, Prog.bind_ret, Prog.pure_eq_ret]
  iintro ⟨HS, Hp1, Hd1, HXb, HWb, HP, Hd2⟩ Hk
  iapply (wp_send m K c 4 (by decide) (nY c) rfl (by revert c; decide) rfl rfl (by decide) (PB m c 2) .rfl (lands (R1B_n m c 0))) $$ HS Hp1 Hd1
  iintro HS
  iapply (wp_slab m c 1 k0_pay9 rfl) $$ [HXb HWb HP]
  · isplitl [HXb]; · iexact HXb
    isplitl [HWb]; · iexact HWb
    iexact HP
  iintro ⟨HXb, HWb, HPA, HPB, HPC⟩
  iapply (wp_send m K c 8 (by decide) (nZ c) rfl (by revert c; decide) rfl rfl (by decide) (PC m c 1) .rfl (lands (R1C_n m c 0))) $$ HS HPC Hd2
  iintro HS
  rw [wp_ret]; imodintro
  iapply Hk
  iframe

end Cert.KernelIdeal.Pf
-- ==== Proof.Parts2.lean ====
module

public import proofs.«01_k».proof.Proof.Parts1

/-!
The parts of the kernel's body at its own memrefs; what arrives, the second and the third exchange.
-/

@[expose] public section

set_option maxRecDepth 16384

noncomputable section

namespace Cert.KernelIdeal.Pf

open Cert.KernelIdeal Cert.KernelIdeal.Gen Cert.Pieces
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Kix → ℕ) (c : Dev nD)

/-- The three column ranges of the result. -/
abbrev rOA : Rect S512x2048 := Rect.unit (s := S512x2048) ![0, 0] S512x640.size (by decide)
abbrev rOB : Rect S512x2048 := Rect.unit (s := S512x2048) ![0, 640] S512x640.size (by decide)
abbrev rOC : Rect S512x2048 := Rect.unit (s := S512x2048) ![0, 1280] S512x768.size (by decide)
abbrev oA : Memref sig .tc .vmem S512x640 .f32 := mO.slice rOA (fun _ => rfl)
abbrev oB : Memref sig .tc .vmem S512x640 .f32 := mO.slice rOB (fun _ => rfl)
abbrev oC : Memref sig .tc .vmem S512x768 .f32 := mO.slice rOC (fun _ => rfl)

section Rules

variable {α : Type} {Q : α → sProp (MT nD τ sig Unit (Elt F) ℕ UU ℕ)}

/-- A load of a piece. -/
theorem wp_ld {s : Shape} {e : EltTy} {q : Memref sig .tc .vmem s e} {r : Rect s} {hr : ∀ a, r.stride a = 1}
    {X : r.shape.Idx → Elt F e} {hl} {k : (r.shape.Idx → Elt F e) → Prog (TpuEff nD τ sig (Elt F) Λ₀ .tc) α} :
    (ow c (q.slice r hr) X : sProp 𝕄)
      ⊢ iprop((ow c (q.slice r hr) X -∗ wp frame (wpE (defs₀ (F := F)) 𝒱₀ (c : Thread nD τ) none) Set.univ (k X) Q) -∗ wp frame (wpE (defs₀ (F := F)) 𝒱₀ (c : Thread nD τ) none) Set.univ (.op (.load q r.toLoadRect hl) k) Q) := by
  iintro H Hk
  iapply (wp_load_slice (defs := defs₀ (F := F)) 𝒱₀ (c : Thread nD τ) none Set.univ) $$ H
  iintro H
  iapply Hk $$ H

/-- A load and a store of a piece that holds anything. -/
theorem wp_put {s : Shape} {e : EltTy} {q : Memref sig .tc .vmem s e} {r : Rect s} {hr : ∀ a, r.stride a = 1}
    {w : r.shape.Idx → Elt F e} {hl} {hx} {hm} {k : PUnit → Prog (TpuEff nD τ sig (Elt F) Λ₀ .tc) α} :
    (fr c (q.slice r hr) : sProp 𝕄)
      ⊢ iprop((ow c (q.slice r hr) w -∗ wp frame (wpE (defs₀ (F := F)) 𝒱₀ (c : Thread nD τ) none) Set.univ (k ⟨⟩) Q)
        -∗ wp frame (wpE (defs₀ (F := F)) 𝒱₀ (c : Thread nD τ) none) Set.univ (.op (.load q r.toLoadRect hl) fun _ => .op (.store q r w Finset.univ hx hm) k) Q) := by
  iintro H Hk
  iapply (wp_load_free (defs := defs₀ (F := F)) 𝒱₀ (c : Thread nD τ) none Set.univ) $$ H
  iintro %_ H
  iapply (wp_store_free (defs := defs₀ (F := F)) 𝒱₀ (c : Thread nD τ) none Set.univ) $$ H
  iintro H
  iapply Hk $$ H

/-- The same of a whole buffer. -/
theorem wp_put_all {s : Shape} {e : EltTy} {q : Memref sig .tc .vmem s e} {off : Fin s.rank → ℕ} {inb} (h0 : off = fun _ => 0)
    {w : s.Idx → Elt F e} {hl} {hx} {hm} {k : PUnit → Prog (TpuEff nD τ sig (Elt F) Λ₀ .tc) α} :
    (fr c q : sProp 𝕄)
      ⊢ iprop((ow c q w -∗ wp frame (wpE (defs₀ (F := F)) 𝒱₀ (c : Thread nD τ) none) Set.univ (k ⟨⟩) Q)
        -∗ wp frame (wpE (defs₀ (F := F)) 𝒱₀ (c : Thread nD τ) none) Set.univ (.op (.load q (Rect.unit off s.size inb).toLoadRect hl) fun _ =>
            .op (.store q (Rect.unit off s.size inb) w Finset.univ hx hm) k) Q) := by
  iintro H Hk
  iapply (wp_load_any c h0) $$ H
  iintro %_ H
  iapply (wp_store_all c h0) $$ H
  iintro H
  iapply Hk $$ H

/-- The wait for copy `t` to land. -/
theorem wp_recv (t : Fin 28) (P : sProp (MT nD τ sig Unit (Elt F) ℕ UU ℕ)) (hP : rcvPay m c t ⊢ P) (ht : t.val < 21) {sem : DmaSem sig}
    {sp sp' : Space} {s s' : Shape} {e e' : EltTy} {κ' : Kind}
    {src : Memref sig .tc sp' s' e'} {dst : Memref sig κ' sp s e} {hsrc : src.view.WordExact} {hdst : dst.view.WordExact}
    {k : PUnit → Prog (TpuEff nD τ sig (Elt F) Λ₀ .tc) α} {ls lt lw : List (Fin 28)} {lz : List (Fin 58)}
    (hse : sem = dS (rK t c)) (hN : dst.view.dmaCredit = amt (sK t)) (hlv : ∀ t' ∈ ls, lvT t < lvT t') (hu : used c (rK t c)) :
    St m K c ls lt (t :: lw) lz
      ⊢ iprop((iprop(St m K c ls lt lw (rK t c :: lz) ∗ P) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  iintro HS Hk
  iapply (wp_arrive m K c t ht hse (hN.trans (amt_eq c t).symm) hlv hu) $$ HS
  iintro ⟨HS, H⟩
  iapply Hk
  isplitl [HS]; · iexact HS
  iapply hP $$ H

/-- A copy of a whole buffer. -/
theorem wp_send_all {s : Shape} {e : EltTy} (t : Fin 28) (ht : t.val < 21) (p : Dev nD) (hp : p = peer t c) {n : Dev nD} (hn : n = p)
    {src dst : Memref sig .tc .vmem s e}
    {hsc : (show Memref sig (Dev.tc n : Thread nD τ).2.kind .vmem s e from dst).view.ref.isScScratch = false} {sS sem : DmaSem sig}
    {hsrc : src.view.WordExact} {hdst : dst.view.WordExact}
    {hsem : DmaTarget.Typed .vmem (.dma sem) (.remote (Dev.tc n : Thread nD τ) dst (.dma sS) hsc)}
    {k : PUnit → Prog (TpuEff nD τ sig (Elt F) Λ₀ .tc) α} {ls lt lw : List (Fin 28)} {lz : List (Fin 58)}
    (hsS : sS = dS (sK t)) (hse : sem = dS (rK t c)) (hN : dst.view.dmaCredit = amt (sK t))
    (X : s.Idx → Elt F e)
    (hs : ow c src X ⊢ sndPay m c t)
    (hd : iprop(ow p dst X ∗ emp) ⊢ rcvPay m p t) :
    St m K c (t :: ls) lt lw lz
      ⊢ iprop(ow c src X -∗ fr p dst -∗ (St m K c ls (t :: lt) lw lz -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.remote (Dev.tc n : Thread nD τ) dst (.dma sS) hsc) (.dma sem) hsrc hdst hsem) k) Q) := by
  subst hp
  iintro HS Hp Hd Hk
  iapply (wp_copy m K c t hn hsS hse hN X iprop(emp) hs
    (by show _ ⊢ (Rd m).payload (cel (peer t c) (rK t c)) 0 0; rw [payload_rcv m (peer t c) t ht]; exact hd)) $$ [HS Hp Hd] Hk
  isplitl [HS]; · iexact HS
  isplitl [Hp]; · iexact Hp
  isplitl [Hd]; · iexact Hd
  iempintro

end Rules

/-- The first slot along the first order summed. -/
theorem part10 {lt lw : List (Fin 28)} {lz : List (Fin 58)} {v2 v26 : BitVec 32}
    {Q : _ → sProp (MT nD τ sig Unit (Elt F) ℕ UU ℕ)} :
    iprop(St m K c [12, 13, 14, 15, 16, 17, 18, 19, 20, 21, 22, 23, 24, 25, 26, 27] lt (2 :: lw) lz ∗ ow c (pA 2) (PA m c 2) ∗ fr c (sA2 0))
      ⊢ iprop((iprop(St m K c [12, 13, 14, 15, 16, 17, 18, 19, 20, 21, 22, 23, 24, 25, 26, 27] (lt) lw (rK 2 c :: lz) ∗ ow c (pA 2) (PA m c 2) ∗ ow c (rA1 2) (R1A m c 2) ∗ fr (nZ (nX c)) (axR c) ∗ ow c (sA2 0) (k0_pay10 (PA m c 2) (R1A m c 2))) -∗ Q ⟨⟩)
          -∗ wp frame (wpE (defs₀ (F := F)) 𝒱₀ (c : Thread nD τ) none) Set.univ (onArgs (k0_part10 (F := F)) v2 v26) Q) := by
  unfold onArgs
  rw [k0_part10_eq_skeleton]; unfold k0_part10_skel
  simp only [Prog.lift, Prog.bind_op, Prog.bind_ret, Prog.pure_eq_ret]
  iintro ⟨HS, Hp, Hs⟩ Hk
  iapply (wp_recv m K c 2 iprop(ow c (rA1 2) (R1A m c 2) ∗ fr (nZ (nX c)) (axR c)) .rfl (by decide) rfl (by decide) (by decide) (by revert c; decide)) $$ HS
  iintro ⟨HS, Hr, Hx⟩
  iapply (wp_ld c) $$ Hp
  iintro Hp
  iapply (wp_ld c) $$ Hr
  iintro Hr
  iapply (wp_put c) $$ Hs
  iintro Hs
  rw [wp_ret]; imodintro
  iapply Hk
  iframe

/-- The first sum goes out; the second. -/
theorem part11 {lt lw : List (Fin 28)} {lz : List (Fin 58)} {v2 v26 : BitVec 32}
    {Q : _ → sProp (MT nD τ sig Unit (Elt F) ℕ UU ℕ)} :
    iprop(St m K c [12, 13, 14, 15, 16, 17, 18, 19, 20, 21, 22, 23, 24, 25, 26, 27] lt (3 :: lw) lz ∗ ow c (sA2 0) (k0_pay10 (PA m c 2) (R1A m c 2)) ∗ fr (nY c) (rA2 0) ∗ ow c (pA 3) (PA m c 3) ∗ fr c (sA2 1))
      ⊢ iprop((iprop(St m K c [13, 14, 15, 16, 17, 18, 19, 20, 21, 22, 23, 24, 25, 26, 27] (12 :: lt) lw (rK 3 c :: lz) ∗ ow c (pA 3) (PA m c 3) ∗ ow c (rA1 3) (R1A m c 3) ∗ ow c (sA2 1) (k0_pay11 (PA m c 3) (R1A m c 3))) -∗ Q ⟨⟩)
          -∗ wp frame (wpE (defs₀ (F := F)) 𝒱₀ (c : Thread nD τ) none) Set.univ (onArgs (k0_part11 (F := F)) c v2 v26) Q) := by
  unfold onArgs
  rw [k0_part11_eq_skeleton]; unfold k0_part11_skel
  simp only [Prog.lift, Prog.bind_op, Prog.bind_ret, Prog.pure_eq_ret]
  iintro ⟨HS, Ht, Hd, Hp, Hs⟩ Hk
  iapply (wp_send m K c 12 (by decide) (nY c) rfl (by revert c; decide) rfl rfl (by decide) (k0_pay10 (PA m c 2) (R1A m c 2)) .rfl (lands (by exact R2A_n m c 0))) $$ HS Ht Hd
  iintro HS
  iapply (wp_recv m K c 3 (ow c (rA1 3) (R1A m c 3)) .rfl (by decide) rfl (by decide) (by decide) (by revert c; decide)) $$ HS
  iintro ⟨HS, Hr⟩
  iapply (wp_ld c) $$ Hp
  iintro Hp
  iapply (wp_ld c) $$ Hr
  iintro Hr
  iapply (wp_put c) $$ Hs
  iintro Hs
  rw [wp_ret]; imodintro
  iapply Hk
  iframe

/-- The second goes out; the first sum along the second order. -/
theorem part12 {lt lw : List (Fin 28)} {lz : List (Fin 58)} {v2 v29 : BitVec 32}
    {Q : _ → sProp (MT nD τ sig Unit (Elt F) ℕ UU ℕ)} :
    iprop(St m K c [13, 14, 15, 16, 17, 18, 19, 20, 21, 22, 23, 24, 25, 26, 27] lt (6 :: lw) lz ∗ ow c (sA2 1) (k0_pay11 (PA m c 3) (R1A m c 3)) ∗ fr (nY c) (rA2 1) ∗ ow c (pB 1) (PB m c 1) ∗ fr c (sB2 0))
      ⊢ iprop((iprop(St m K c [14, 15, 16, 17, 18, 19, 20, 21, 22, 23, 24, 25, 26, 27] (13 :: lt) lw (rK 6 c :: lz) ∗ ow c (pB 1) (PB m c 1) ∗ ow c (rB1 2) (R1B m c 2) ∗ fr (nX (nY c)) (axR c) ∗ fr (nX (nY c)) (axR (nZ c)) ∗ ow c (sB2 0) (k0_pay12 (PB m c 1) (R1B m c 2))) -∗ Q ⟨⟩)
          -∗ wp frame (wpE (defs₀ (F := F)) 𝒱₀ (c : Thread nD τ) none) Set.univ (onArgs (k0_part12 (F := F)) c v2 v29) Q) := by
  unfold onArgs
  rw [k0_part12_eq_skeleton]; unfold k0_part12_skel
  simp only [Prog.lift, Prog.bind_op, Prog.bind_ret, Prog.pure_eq_ret]
  iintro ⟨HS, Ht, Hd, Hp, Hs⟩ Hk
  iapply (wp_send m K c 13 (by decide) (nY c) rfl (by revert c; decide) rfl rfl (by decide) (k0_pay11 (PA m c 3) (R1A m c 3)) .rfl (lands (by exact R2A_n m c 1))) $$ HS Ht Hd
  iintro HS
  iapply (wp_recv m K c 6 iprop(ow c (rB1 2) (R1B m c 2) ∗ fr (nX (nY c)) (axR c) ∗ fr (nX (nY c)) (axR (nZ c))) .rfl (by decide) rfl (by decide) (by decide) (by revert c; decide)) $$ HS
  iintro ⟨HS, Hr, Hy1, Hy2⟩
  iapply (wp_ld c) $$ Hp
  iintro Hp
  iapply (wp_ld c) $$ Hr
  iintro Hr
  iapply (wp_put c) $$ Hs
  iintro Hs
  rw [wp_ret]; imodintro
  iapply Hk
  iframe

/-- It goes out with a row of maxima; the second. -/
theorem part13 {lt lw : List (Fin 28)} {lz : List (Fin 58)} {v2 : BitVec 32}
    {Q : _ → sProp (MT nD τ sig Unit (Elt F) ℕ UU ℕ)} :
    iprop(St m K c [14, 15, 16, 17, 18, 19, 20, 21, 22, 23, 24, 25, 26, 27] lt (7 :: lw) lz ∗ ow c (sB2 0) (k0_pay12 (PB m c 1) (R1B m c 2)) ∗ fr (nZ c) (rB2 0) ∗ fr (nX (nY c)) (axR (nZ c)) ∗ ow c (pB 5) (PB m c 5) ∗ fr c (sB2 1))
      ⊢ iprop((iprop(St m K c [15, 16, 17, 18, 19, 20, 21, 22, 23, 24, 25, 26, 27] (14 :: lt) lw (rK 7 c :: lz) ∗ ow c (pB 5) (PB m c 5) ∗ ow c (rB1 3) (R1B m c 3) ∗ ow c (sB2 1) (k0_pay13 (PB m c 5) (R1B m c 3))) -∗ Q 1#32)
          -∗ wp frame (wpE (defs₀ (F := F)) 𝒱₀ (c : Thread nD τ) none) Set.univ (onArgs (k0_part13 (F := F)) c v2) Q) := by
  unfold onArgs
  rw [k0_part13_eq_skeleton]; unfold k0_part13_skel
  simp only [Prog.lift, Prog.bind_op, Prog.bind_ret, Prog.pure_eq_ret]
  iintro ⟨HS, Ht, Hd, Hx, Hp, Hs⟩ Hk
  iapply (wp_send_with m K c 14 (by decide) (nZ c) rfl (by revert c; decide) rfl rfl (by decide) (k0_pay12 (PB m c 1) (R1B m c 2)) _ .rfl (rides14 m c)) $$ HS Ht Hd Hx
  iintro HS
  iapply (wp_recv m K c 7 (ow c (rB1 3) (R1B m c 3)) .rfl (by decide) rfl (by decide) (by decide) (by revert c; decide)) $$ HS
  iintro ⟨HS, Hr⟩
  iapply (wp_ld c) $$ Hp
  iintro Hp
  iapply (wp_ld c) $$ Hr
  iintro Hr
  iapply (wp_put c) $$ Hs
  iintro Hs
  rw [wp_ret]; imodintro
  iapply Hk
  iframe

/-- It goes out; the first sum along the third order. -/
theorem part14 {lt lw : List (Fin 28)} {lz : List (Fin 58)} {v2 v29 v : BitVec 32}
    {Q : _ → sProp (MT nD τ sig Unit (Elt F) ℕ UU ℕ)} :
    iprop(St m K c [15, 16, 17, 18, 19, 20, 21, 22, 23, 24, 25, 26, 27] lt (10 :: lw) lz ∗ ow c (sB2 1) (k0_pay13 (PB m c 5) (R1B m c 3)) ∗ fr (nZ c) (rB2 1) ∗ ow c (pC 4) (PC m c 4) ∗ fr c (sC2 0))
      ⊢ iprop((iprop(St m K c [16, 17, 18, 19, 20, 21, 22, 23, 24, 25, 26, 27] (15 :: lt) lw (rK 10 c :: lz) ∗ ow c (pC 4) (PC m c 4) ∗ ow c (rC1 2) (R1C m c 2) ∗ fr (nY (nZ c)) (axR c) ∗ ow c (sC2 0) (k0_pay14 (PC m c 4) (R1C m c 2))) -∗ Q ⟨⟩)
          -∗ wp frame (wpE (defs₀ (F := F)) 𝒱₀ (c : Thread nD τ) none) Set.univ (onArgs (k0_part14 (F := F)) c v2 v29 v) Q) := by
  unfold onArgs
  rw [k0_part14_eq_skeleton]; unfold k0_part14_skel
  simp only [Prog.lift, Prog.bind_op, Prog.bind_ret, Prog.pure_eq_ret]
  iintro ⟨HS, Ht, Hd, Hp, Hs⟩ Hk
  iapply (wp_send m K c 15 (by decide) (nZ c) rfl (by revert c; decide) rfl rfl (by decide) (k0_pay13 (PB m c 5) (R1B m c 3)) .rfl (lands (by exact R2B_n m c 1))) $$ HS Ht Hd
  iintro HS
  iapply (wp_recv m K c 10 iprop(ow c (rC1 2) (R1C m c 2) ∗ fr (nY (nZ c)) (axR c)) .rfl (by decide) rfl (by decide) (by decide) (by revert c; decide)) $$ HS
  iintro ⟨HS, Hr, Hy⟩
  iapply (wp_ld c) $$ Hp
  iintro Hp
  iapply (wp_ld c) $$ Hr
  iintro Hr
  iapply (wp_put c) $$ Hs
  iintro Hs
  rw [wp_ret]; imodintro
  iapply Hk
  iframe

/-- It goes out; the values of the second. -/
theorem part15 {lt lw : List (Fin 28)} {lz : List (Fin 58)} {v2 v23 : BitVec 32}
    {Q : _ → sProp (MT nD τ sig Unit (Elt F) ℕ UU ℕ)} :
    iprop(St m K c [16, 17, 18, 19, 20, 21, 22, 23, 24, 25, 26, 27] lt (11 :: lw) lz ∗ ow c (sC2 0) (k0_pay14 (PC m c 4) (R1C m c 2)) ∗ fr (nX c) (rC2 0) ∗ ow c (pC 6) (PC m c 6) ∗ fr c (sC2 1))
      ⊢ iprop((∀ v, iprop(St m K c [17, 18, 19, 20, 21, 22, 23, 24, 25, 26, 27] (16 :: lt) lw (rK 11 c :: lz) ∗ ow c (pC 6) (PC m c 6) ∗ ow c (rC1 3) (R1C m c 3) ∗ fr c (sC2 1)) -∗ Q ⟨k0_pay15 (PC m c 6) (R1C m c 3), v⟩)
          -∗ wp frame (wpE (defs₀ (F := F)) 𝒱₀ (c : Thread nD τ) none) Set.univ (onArgs (k0_part15 (F := F)) c v2 v23) Q) := by
  unfold onArgs
  rw [k0_part15_eq_skeleton]; unfold k0_part15_skel
  simp only [Prog.lift, Prog.bind_op, Prog.bind_ret, Prog.pure_eq_ret]
  iintro ⟨HS, Ht, Hd, Hp, Hs⟩ Hk
  iapply (wp_send m K c 16 (by decide) (nX c) rfl (by revert c; decide) rfl rfl (by decide) (k0_pay14 (PC m c 4) (R1C m c 2)) .rfl (lands (by exact R2C_n m c 0))) $$ HS Ht Hd
  iintro HS
  iapply (wp_recv m K c 11 (ow c (rC1 3) (R1C m c 3)) .rfl (by decide) rfl (by decide) (by decide) (by revert c; decide)) $$ HS
  iintro ⟨HS, Hr⟩
  iapply (wp_ld c) $$ Hp
  iintro Hp
  iapply (wp_ld c) $$ Hr
  iintro Hr
  iapply (wp_load_free (defs := defs₀ (F := F)) 𝒱₀ (c : Thread nD τ) none Set.univ (hr := fun _ => rfl)) $$ Hs
  iintro %v Hs
  rw [wp_ret]; imodintro
  iapply Hk $$ %_
  iframe

/-- The second stored and sent. -/
theorem part16 {lt lw : List (Fin 28)} {lz : List (Fin 58)} {v2 v23 : BitVec 32} {v417 : Vec F S1x512x768 .bf16}
    {Q : _ → sProp (MT nD τ sig Unit (Elt F) ℕ UU ℕ)} :
    iprop(St m K c [17, 18, 19, 20, 21, 22, 23, 24, 25, 26, 27] lt (1 :: lw) lz ∗ fr c (sC2 1) ∗ fr (nX c) (rC2 1))
      ⊢ iprop((iprop(St m K c [18, 19, 20, 21, 22, 23, 24, 25, 26, 27] (17 :: lt) lw (rK 1 c :: lz) ∗ ow c (rA1 1) (R1A m c 1)) -∗ Q ⟨⟩)
          -∗ wp frame (wpE (defs₀ (F := F)) 𝒱₀ (c : Thread nD τ) none) Set.univ (onArgs (k0_part16 (F := F)) c v2 v23 (k0_pay15 (PC m c 6) (R1C m c 3)) v417) Q) := by
  unfold onArgs
  rw [k0_part16_eq_skeleton]; unfold k0_part16_skel
  simp only [Prog.lift, Prog.bind_op, Prog.bind_ret, Prog.pure_eq_ret]
  iintro ⟨HS, Hs, Hd⟩ Hk
  iapply (wp_store_free (defs := defs₀ (F := F)) 𝒱₀ (c : Thread nD τ) none Set.univ (hr := fun _ => rfl)) $$ Hs
  iintro Hs
  iapply (wp_send m K c 17 (by decide) (nX c) rfl (by revert c; decide) rfl rfl (by decide) (k0_pay16 (k0_pay15 (PC m c 6) (R1C m c 3))) .rfl (lands (by exact R2C_n m c 1))) $$ HS Hs Hd
  iintro HS
  iapply (wp_recv m K c 1 (ow c (rA1 1) (R1A m c 1)) .rfl (by decide) rfl (by decide) (by decide) (by revert c; decide)) $$ HS
  iintro ⟨HS, Hr⟩
  rw [wp_ret]; imodintro
  iapply Hk
  iframe

/-- The third exchange's sum along the first order, and it goes out. -/
theorem part17 {lt lw : List (Fin 28)} {lz : List (Fin 58)} {v2 v29 : BitVec 32}
    {Q : _ → sProp (MT nD τ sig Unit (Elt F) ℕ UU ℕ)} :
    iprop(St m K c [18, 19, 20, 21, 22, 23, 24, 25, 26, 27] lt (13 :: lw) lz ∗ ow c (pA 1) (PA m c 1) ∗ ow c (rA1 1) (R1A m c 1) ∗ fr c mSA3 ∗ fr (nZ c) mRA3)
      ⊢ iprop((iprop(St m K c [19, 20, 21, 22, 23, 24, 25, 26, 27] (18 :: lt) lw (rK 13 c :: lz) ∗ ow c (pA 1) (PA m c 1) ∗ ow c (rA1 1) (R1A m c 1) ∗ ow c (rA2 1) (R2A m c 1)) -∗ Q ⟨⟩)
          -∗ wp frame (wpE (defs₀ (F := F)) 𝒱₀ (c : Thread nD τ) none) Set.univ (onArgs (k0_part17 (F := F)) c v2 v29) Q) := by
  unfold onArgs
  rw [k0_part17_eq_skeleton]; unfold k0_part17_skel
  simp only [Prog.lift, Prog.bind_op, Prog.bind_ret, Prog.pure_eq_ret]
  iintro ⟨HS, Hp, Hr, Hs, Hd⟩ Hk
  iapply (wp_recv m K c 13 (ow c (rA2 1) (R2A m c 1)) .rfl (by decide) rfl (by decide) (by decide) (by revert c; decide)) $$ HS
  iintro ⟨HS, Hq⟩
  iapply (wp_ld c) $$ Hp
  iintro Hp
  iapply (wp_ld c) $$ Hr
  iintro Hr
  iapply (wp_ld c) $$ Hq
  iintro Hq
  iapply (wp_put_all c hz2) $$ Hs
  iintro Hs
  iapply (wp_send_all m K c 18 (by decide) (nZ c) rfl (by revert c; decide) rfl rfl (by decide) (k0_pay17 (PA m c 1) (R1A m c 1) (R2A m c 1)) .rfl (lands (by exact R3A_n m c))) $$ HS Hs Hd
  iintro HS
  rw [wp_ret]; imodintro
  iapply Hk
  iframe

/-- The third exchange's sum along the second order. -/
theorem part18 {lt lw : List (Fin 28)} {lz : List (Fin 58)} {v2 v23 : BitVec 32}
    {Q : _ → sProp (MT nD τ sig Unit (Elt F) ℕ UU ℕ)} :
    iprop(St m K c [19, 20, 21, 22, 23, 24, 25, 26, 27] lt (5 :: 15 :: lw) lz ∗ ow c (pB 4) (PB m c 4) ∗ fr c mSB3)
      ⊢ iprop((iprop(St m K c [19, 20, 21, 22, 23, 24, 25, 26, 27] (lt) lw (rK 15 c :: rK 5 c :: lz) ∗ ow c (pB 4) (PB m c 4) ∗ ow c (rB1 1) (R1B m c 1) ∗ ow c (rB2 1) (R2B m c 1) ∗ ow c mSB3 (k0_pay18 (PB m c 4) (R1B m c 1) (R2B m c 1))) -∗ Q ⟨Scalar.muli v23 1#32, 0#32⟩)
          -∗ wp frame (wpE (defs₀ (F := F)) 𝒱₀ (c : Thread nD τ) none) Set.univ (onArgs (k0_part18 (F := F)) v2 v23) Q) := by
  unfold onArgs
  rw [k0_part18_eq_skeleton]; unfold k0_part18_skel
  simp only [Prog.lift, Prog.bind_op, Prog.bind_ret, Prog.pure_eq_ret]
  iintro ⟨HS, Hp, Hs⟩ Hk
  iapply (wp_recv m K c 5 (ow c (rB1 1) (R1B m c 1)) .rfl (by decide) rfl (by decide) (by decide) (by revert c; decide)) $$ HS
  iintro ⟨HS, Hr⟩
  iapply (wp_recv m K c 15 (ow c (rB2 1) (R2B m c 1)) .rfl (by decide) rfl (by decide) (by decide) (by revert c; decide)) $$ HS
  iintro ⟨HS, Hq⟩
  iapply (wp_ld c) $$ Hp
  iintro Hp
  iapply (wp_ld c) $$ Hr
  iintro Hr
  iapply (wp_ld c) $$ Hq
  iintro Hq
  iapply (wp_put_all c hz2) $$ Hs
  iintro Hs
  rw [wp_ret]; imodintro
  iapply Hk
  iframe

/-- It goes out; the parts of the sum along the third order. -/
theorem part19 {lt lw : List (Fin 28)} {lz : List (Fin 58)} {v2 v498 v : BitVec 32}
    {Q : _ → sProp (MT nD τ sig Unit (Elt F) ℕ UU ℕ)} :
    iprop(St m K c [19, 20, 21, 22, 23, 24, 25, 26, 27] lt (9 :: 17 :: lw) lz ∗ ow c mSB3 (k0_pay18 (PB m c 4) (R1B m c 1) (R2B m c 1)) ∗ fr (nX c) mRB3 ∗ ow c (pC 2) (PC m c 2))
      ⊢ iprop((iprop(St m K c [20, 21, 22, 23, 24, 25, 26, 27] (19 :: lt) lw (rK 17 c :: rK 9 c :: lz) ∗ ow c (pC 2) (PC m c 2) ∗ ow c (rC1 1) (R1C m c 1) ∗ ow c (rC2 1) (R2C m c 1)) -∗ Q ⟨k0_pay19 (PC m c 2), k0_pay20 (R1C m c 1)⟩)
          -∗ wp frame (wpE (defs₀ (F := F)) 𝒱₀ (c : Thread nD τ) none) Set.univ (onArgs (k0_part19 (F := F)) c v2 v498 v) Q) := by
  unfold onArgs
  rw [k0_part19_eq_skeleton]; unfold k0_part19_skel
  simp only [Prog.lift, Prog.bind_op, Prog.bind_ret, Prog.pure_eq_ret]
  iintro ⟨HS, Hs, Hd, Hp⟩ Hk
  iapply (wp_send_all m K c 19 (by decide) (nX c) rfl (by revert c; decide) rfl rfl (by decide) (k0_pay18 (PB m c 4) (R1B m c 1) (R2B m c 1)) .rfl (lands (by exact R3B_n m c))) $$ HS Hs Hd
  iintro HS
  iapply (wp_recv m K c 9 (ow c (rC1 1) (R1C m c 1)) .rfl (by decide) rfl (by decide) (by decide) (by revert c; decide)) $$ HS
  iintro ⟨HS, Hr⟩
  iapply (wp_recv m K c 17 (ow c (rC2 1) (R2C m c 1)) .rfl (by decide) rfl (by decide) (by decide) (by revert c; decide)) $$ HS
  iintro ⟨HS, Hq⟩
  iapply (wp_ld c) $$ Hp
  iintro Hp
  iapply (wp_ld c) $$ Hr
  iintro Hr
  rw [wp_ret]; imodintro
  iapply Hk
  iframe

/-- That sum, and it goes out; the device's own product. -/
theorem part20 {lt lw : List (Fin 28)} {lz : List (Fin 58)} {v2 v26 : BitVec 32}
    {Q : _ → sProp (MT nD τ sig Unit (Elt F) ℕ UU ℕ)} :
    iprop(St m K c [20, 21, 22, 23, 24, 25, 26, 27] lt (0 :: lw) lz ∗ ow c (rC2 1) (R2C m c 1) ∗ fr c mSC3 ∗ fr (nY c) mRC3 ∗ ow c mXb (XB m c) ∗ ow c mWb (WB m c))
      ⊢ iprop((iprop(St m K c [21, 22, 23, 24, 25, 26, 27] (20 :: lt) lw (rK 0 c :: lz) ∗ ow c (rC2 1) (R2C m c 1) ∗ ow c mXb (XB m c) ∗ ow c mWb (WB m c) ∗ ow c (rA1 0) (R1A m c 0)) -∗ Q (k0_pay22 (rowsAt m c (k0_off8 c) (k0_off8_inb c)) (WB m c)))
          -∗ wp frame (wpE (defs₀ (F := F)) 𝒱₀ (c : Thread nD τ) none) Set.univ (onArgs (k0_part20 (F := F)) c v2 v26 (k0_pay19 (PC m c 2)) (k0_pay20 (R1C m c 1))) Q) := by
  unfold onArgs
  rw [k0_part20_eq_skeleton]; unfold k0_part20_skel
  simp only [Prog.lift, Prog.bind_op, Prog.bind_ret, Prog.pure_eq_ret]
  iintro ⟨HS, Hq, Hs, Hd, HXb, HWb⟩ Hk
  iapply (wp_ld c) $$ Hq
  iintro Hq
  iapply (wp_put_all c hz2) $$ Hs
  iintro Hs
  iapply (wp_send_all m K c 20 (by decide) (nY c) rfl (by revert c; decide) rfl rfl (by decide) (k0_pay21 (k0_pay19 (PC m c 2)) (k0_pay20 (R1C m c 1)) (R2C m c 1)) .rfl (lands (by exact R3C_n m c))) $$ HS Hs Hd
  iintro HS
  iapply (wp_rows m c) $$ HXb
  iintro HXb
  iapply (wp_load_all c hz2) $$ HWb
  iintro HWb
  iapply (wp_recv m K c 0 (ow c (rA1 0) (R1A m c 0)) .rfl (by decide) rfl (by decide) (by decide) (by revert c; decide)) $$ HS
  iintro ⟨HS, Hr⟩
  rw [wp_ret]; imodintro
  iapply Hk
  iframe

/-- The result's first column range. -/
theorem part21 {lt lw : List (Fin 28)} {lz : List (Fin 58)} {v2 : BitVec 32} {v545 : FVec F S512x2048 .f32}
    {Q : _ → sProp (MT nD τ sig Unit (Elt F) ℕ UU ℕ)} :
    iprop(St m K c [21, 22, 23, 24, 25, 26, 27] lt (12 :: 18 :: lw) lz ∗ ow c (rA1 0) (R1A m c 0) ∗ fr c oA)
      ⊢ iprop((iprop(St m K c [21, 22, 23, 24, 25, 26, 27] (lt) lw (rK 18 c :: rK 12 c :: lz) ∗ ow c (rA1 0) (R1A m c 0) ∗ ow c (rA2 0) (R2A m c 0) ∗ ow c mRA3 (R3A m c) ∗ ow c oA (k0_pay23 v545 (R1A m c 0) (R2A m c 0) (R3A m c))) -∗ Q ⟨k0_pay24 v545 (R1A m c 0) (R2A m c 0) (R3A m c), Scalar.ofBits .f32 0x00000000#32⟩)
          -∗ wp frame (wpE (defs₀ (F := F)) 𝒱₀ (c : Thread nD τ) none) Set.univ (onArgs (k0_part21 (F := F)) v2 v545) Q) := by
  unfold onArgs
  rw [k0_part21_eq_skeleton]; unfold k0_part21_skel
  simp only [Prog.lift, Prog.bind_op, Prog.bind_ret, Prog.pure_eq_ret]
  iintro ⟨HS, Hr, Ho⟩ Hk
  iapply (wp_recv m K c 12 (ow c (rA2 0) (R2A m c 0)) .rfl (by decide) rfl (by decide) (by decide) (by revert c; decide)) $$ HS
  iintro ⟨HS, Hq⟩
  iapply (wp_recv m K c 18 (ow c mRA3 (R3A m c)) .rfl (by decide) rfl (by decide) (by decide) (by revert c; decide)) $$ HS
  iintro ⟨HS, Hs⟩
  iapply (wp_ld c) $$ Hr
  iintro Hr
  iapply (wp_ld c) $$ Hq
  iintro Hq
  iapply (wp_load_all c hz2) $$ Hs
  iintro Hs
  iapply (wp_put c) $$ Ho
  iintro Ho
  rw [wp_ret]; imodintro
  iapply Hk
  iframe

/-- What arrives for the second column range. -/
theorem part22 {lt lw : List (Fin 28)} {lz : List (Fin 58)} {v2 : BitVec 32} {v545 : FVec F S512x2048 .f32} {v584 cst : F .f32}
    {Q : _ → sProp (MT nD τ sig Unit (Elt F) ℕ UU ℕ)} :
    iprop(St m K c [21, 22, 23, 24, 25, 26, 27] lt (4 :: 14 :: 19 :: lw) lz)
      ⊢ iprop((iprop(St m K c [21, 22, 23, 24, 25, 26, 27] (lt) lw (rK 19 c :: rK 14 c :: rK 4 c :: lz) ∗ ow c (rB1 0) (R1B m c 0) ∗ ow c (rB2 0) (R2B m c 0) ∗ fr (nX (nY (nZ c))) (axR c) ∗ ow c mRB3 (R3B m c)) -∗ Q ⟨k0_pay25 v584 cst, k0_pay26 v545 (R1B m c 0)⟩)
          -∗ wp frame (wpE (defs₀ (F := F)) 𝒱₀ (c : Thread nD τ) none) Set.univ (onArgs (k0_part22 (F := F)) v2 v545 v584 cst) Q) := by
  unfold onArgs
  rw [k0_part22_eq_skeleton]; unfold k0_part22_skel
  simp only [Prog.lift, Prog.bind_op, Prog.bind_ret, Prog.pure_eq_ret]
  iintro ⟨HS⟩ Hk
  iapply (wp_recv m K c 4 (ow c (rB1 0) (R1B m c 0)) .rfl (by decide) rfl (by decide) (by decide) (by revert c; decide)) $$ HS
  iintro ⟨HS, Hr⟩
  iapply (wp_recv m K c 14 iprop(ow c (rB2 0) (R2B m c 0) ∗ fr (nX (nY (nZ c))) (axR c)) .rfl (by decide) rfl (by decide) (by decide) (by revert c; decide)) $$ HS
  iintro ⟨HS, Hq, Hx⟩
  iapply (wp_recv m K c 19 (ow c mRB3 (R3B m c)) .rfl (by decide) rfl (by decide) (by decide) (by revert c; decide)) $$ HS
  iintro ⟨HS, Hs⟩
  iapply (wp_ld c) $$ Hr
  iintro Hr
  rw [wp_ret]; imodintro
  iapply Hk
  iframe

/-- The result's second column range. -/
theorem part23 {lt lw : List (Fin 28)} {lz : List (Fin 58)} {v2 : BitVec 32} {v585 : F .f32} {v610 : FVec F S512x640 .f32}
    {Q : _ → sProp (MT nD τ sig Unit (Elt F) ℕ UU ℕ)} :
    iprop(St m K c [21, 22, 23, 24, 25, 26, 27] lt (8 :: lw) lz ∗ ow c (rB2 0) (R2B m c 0) ∗ ow c mRB3 (R3B m c) ∗ fr c oB)
      ⊢ iprop((iprop(St m K c [21, 22, 23, 24, 25, 26, 27] (lt) lw (rK 8 c :: lz) ∗ ow c (rB2 0) (R2B m c 0) ∗ ow c mRB3 (R3B m c) ∗ ow c (rC1 0) (R1C m c 0) ∗ ow c oB (k0_pay27 v610 (R2B m c 0) (R3B m c))) -∗ Q (k0_pay28 v585 v610 (R2B m c 0) (R3B m c)))
          -∗ wp frame (wpE (defs₀ (F := F)) 𝒱₀ (c : Thread nD τ) none) Set.univ (onArgs (k0_part23 (F := F)) v2 v585 v610) Q) := by
  unfold onArgs
  rw [k0_part23_eq_skeleton]; unfold k0_part23_skel
  simp only [Prog.lift, Prog.bind_op, Prog.bind_ret, Prog.pure_eq_ret]
  iintro ⟨HS, Hq, Hs, Ho⟩ Hk
  iapply (wp_ld c) $$ Hq
  iintro Hq
  iapply (wp_load_all c hz2) $$ Hs
  iintro Hs
  iapply (wp_put c) $$ Ho
  iintro Ho
  iapply (wp_recv m K c 8 (ow c (rC1 0) (R1C m c 0)) .rfl (by decide) rfl (by decide) (by decide) (by revert c; decide)) $$ HS
  iintro ⟨HS, Hr⟩
  rw [wp_ret]; imodintro
  iapply Hk
  iframe

/-- The result's third column range and the device's greatest value. -/
theorem part24 {lt lw : List (Fin 28)} {lz : List (Fin 58)} {v2 : BitVec 32} {v545 : FVec F S512x2048 .f32} {v625 : F .f32}
    {Q : _ → sProp (MT nD τ sig Unit (Elt F) ℕ UU ℕ)} :
    iprop(St m K c [21, 22, 23, 24, 25, 26, 27] lt (16 :: 20 :: lw) lz ∗ ow c (rC1 0) (R1C m c 0) ∗ fr c oC ∗ fr c mA)
      ⊢ iprop((iprop(St m K c [21, 22, 23, 24, 25, 26, 27] (lt) lw (rK 20 c :: rK 16 c :: lz) ∗ ow c (rC1 0) (R1C m c 0) ∗ ow c (rC2 0) (R2C m c 0) ∗ ow c mRC3 (R3C m c) ∗ ow c oC (k0_pay29 v545 (R1C m c 0) (R2C m c 0) (R3C m c)) ∗ ow c mA (k0_pay30 v545 v625 (R1C m c 0) (R2C m c 0) (R3C m c))) -∗ Q (k0_pay30 v545 v625 (R1C m c 0) (R2C m c 0) (R3C m c)))
          -∗ wp frame (wpE (defs₀ (F := F)) 𝒱₀ (c : Thread nD τ) none) Set.univ (onArgs (k0_part24 (F := F)) v2 v545 v625) Q) := by
  unfold onArgs
  rw [k0_part24_eq_skeleton]; unfold k0_part24_skel
  simp only [Prog.lift, Prog.bind_op, Prog.bind_ret, Prog.pure_eq_ret]
  iintro ⟨HS, Hr, Ho, Ha⟩ Hk
  iapply (wp_recv m K c 16 (ow c (rC2 0) (R2C m c 0)) .rfl (by decide) rfl (by decide) (by decide) (by revert c; decide)) $$ HS
  iintro ⟨HS, Hq⟩
  iapply (wp_recv m K c 20 (ow c mRC3 (R3C m c)) .rfl (by decide) rfl (by decide) (by decide) (by revert c; decide)) $$ HS
  iintro ⟨HS, Hs⟩
  iapply (wp_ld c) $$ Hr
  iintro Hr
  iapply (wp_ld c) $$ Hq
  iintro Hq
  iapply (wp_load_all c hz2) $$ Hs
  iintro Hs
  iapply (wp_put c) $$ Ho
  iintro Ho
  iapply (wp_put_all c hz2) $$ Ha
  iintro Ha
  iapply (wp_load_all c hz2) $$ Ha
  iintro Ha
  rw [wp_ret]; imodintro
  iapply Hk
  iframe

end Cert.KernelIdeal.Pf
-- ==== Proof.Parts3.lean ====
module

public import proofs.«01_k».proof.Proof.Parts2

/-!
The parts of the kernel's body at its own memrefs; the exchange of maxima, the result, and the last waits.
-/

@[expose] public section

set_option maxRecDepth 16384

noncomputable section

namespace Cert.KernelIdeal.Pf

open Cert.KernelIdeal Cert.KernelIdeal.Gen Cert.Pieces
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Kix → ℕ) (c : Dev nD)

/-- What device `c` holds for the arrival of device `d`'s row: for its own row, which does not travel, the row
    itself; for any other the credit to wait. -/
def axW (d : Dev nD) : sProp 𝕄 :=
  iprop(atPos ER (cel c (xK d)) 0 ∅ 0
    ∗ (if d = c then ow c (axR d) (aRow m d c) else cred (tallyAt (cel c (xK d)) () 16)))

/-- All eight rows at device `c`. -/
def AD : FVec F S8x128 .f32 := fun j =>
  aRow m (j 0) c (fun a => ⟨if a.val = 0 then 0 else (j a).val, by
    have h := (j a).isLt
    fin_cases a
    · show 0 < 1; decide
    · exact h⟩)

theorem ad_row (d : Dev nD) : (fun j => AD m c ((row2 8 128 d).emb j)) = aRow m d c := by
  have h0 (j : S1x128.Idx) : (row2 8 128 d).emb j 0 = d := by
    apply Fin.ext
    have h1 : (j 0).val < 1 := (j 0).isLt
    show d.val + 1 * (j 0).val = d.val
    omega
  funext j
  unfold AD
  rw [h0 j]
  congr 1
  funext a
  apply Fin.ext
  fin_cases a
  · have h1 : (j 0).val < 1 := (j 0).isLt
    show 0 = (j 0).val
    omega
  · show 0 + 1 * (j 1).val = (j 1).val
    omega

/-- Eight rows make up their buffer. -/
theorem rows_join (X : S8x128.Idx → Elt F .f32) :
    bigSep (Finset.univ : Finset (Fin 8)) (fun t => owns (c : Thread nD τ) (mD.slice (row2 8 128 t) (fun _ => rfl)) fullShare (fun j => X ((row2 8 128 t).emb j)))
      ⊢ (ow c mD X : sProp 𝕄) :=
  owns_of_rects (T := Fin 8) (c : Thread nD τ) mD fullShare (row2 8 128) (fun _ _ => rfl) (row2_disj 8 128) (row2_cov 8 128) X

theorem ad_join : lsep (fun d => ow c (axR d) (aRow m d c)) [7, 6, 5, 4, 3, 2, 1, 0] ⊢ ow c mD (AD m c) := by
  rw [lsep_eq _ _ (by decide), show ([7, 6, 5, 4, 3, 2, 1, 0] : List (Dev nD)).toFinset = Finset.univ from by decide]
  have h (t : Dev nD) : (ow c (axR t) (aRow m t c) : sProp 𝕄)
      ⊢ owns (c : Thread nD τ) (mD.slice (row2 8 128 t) (fun _ => rfl)) fullShare (fun j => AD m c ((row2 8 128 t).emb j)) := by
    rw [ad_row]
  exact BIBase.Entails.trans (BI.bigSep_mono fun t _ => h t) (rows_join c (AD m c))

section Rules

variable {α : Type} {Q : α → sProp (MT nD τ sig Unit (Elt F) ℕ UU ℕ)}

/-- A copy of the device's row of its maximum: half of what is left of the row goes to its departure. -/
theorem wp_send_ax (t : Fin 28) (i : ℕ) (ht : 21 ≤ t.val) (p : Dev nD) (hp : p = peer t c) {n : Dev nD} (hn : n = p)
    {off : Fin 2 → ℕ} {inb : ∀ a, off a + S1x128.size a ≤ S8x128.size a} (hoff : off = ![c.val, 0])
    {hsc : (show Memref sig (Dev.tc n : Thread nD τ).2.kind .vmem S1x128 .f32 from
      mD.slice (Rect.unit (s := S8x128) off S1x128.size inb) (fun _ => rfl)).view.ref.isScScratch = false} {sS sem : DmaSem sig}
    {hsrc : mA.view.WordExact} {hdst : (mD.slice (Rect.unit (s := S8x128) off S1x128.size inb) (fun _ => rfl)).view.WordExact}
    {hsem : DmaTarget.Typed .vmem (.dma sem) (.remote (Dev.tc n : Thread nD τ)
      (mD.slice (Rect.unit (s := S8x128) off S1x128.size inb) (fun _ => rfl)) (.dma sS) hsc)}
    {k : PUnit → Prog (TpuEff nD τ sig (Elt F) Λ₀ .tc) α} {ls lt lw : List (Fin 28)} {lz : List (Fin 58)}
    (hsS : sS = dS (sK t)) (hse : sem = dS (xK c)) (hs : owns (c : Thread nD τ) mA (axl i) (aX m c) ⊢ sndPay m c t) (hN : 16 = amt (sK t)) :
    St m K c (t :: ls) lt lw lz
      ⊢ iprop(owns (c : Thread nD τ) mA (axq i) (aX m c) -∗ fr p (axR c)
          -∗ (iprop(St m K c ls (t :: lt) lw lz ∗ owns (c : Thread nD τ) mA (axq (i + 1)) (aX m c)) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma mA (.remote (Dev.tc n : Thread nD τ) (mD.slice (Rect.unit (s := S8x128) off S1x128.size inb) (fun _ => rfl))
              (.dma sS) hsc) (.dma sem) hsrc hdst hsem) k) Q) := by
  subst hp hoff
  have hr : rK t c = xK c := (show ∀ (t : Fin 28) (c : Dev nD), 21 ≤ t.val → rK t c = xK c by decide) t c ht
  iintro HS Ha Hd Hk
  ihave H := (owns_halves (c : Thread nD τ) mA (axq i) (aX m c)).1 $$ Ha
  icases H with ⟨Hl, Hr⟩
  iapply (wp_copy m K c t hn hsS (hse.trans (congrArg dS hr.symm)) ((show (axR c).view.dmaCredit = 16 from rfl).trans hN) (q := axl i) (aX m c) iprop(emp) hs
    (by show _ ⊢ (Rd m).payload (cel (peer t c) (rK t c)) 0 0; rw [hr, payload_ax]; unfold axPay; iintro ⟨H, -⟩; iexact H)) $$ [HS Hl Hd]
  · isplitl [HS]; · iexact HS
    isplitl [Hl]; · iexact Hl
    isplitl [Hd]; · iexact Hd
    iempintro
  iintro HS
  iapply Hk
  isplitl [HS]; · iexact HS
  iexact Hr

/-- The wait for device `d`'s row, which the device leaves out for its own. -/
theorem wp_ax (d : Dev nD) {v : BitVec 1} (hv : v = 1#1 ↔ d ≠ c) {sem : DmaSem sig} (hse : sem = dS (xK d))
    {dst : Memref sig .tc .vmem S1x128 .f32} {hsrc : mA.view.WordExact} {hdst : dst.view.WordExact} (hN : dst.view.dmaCredit = 16)
    {k : PUnit → Prog (TpuEff nD τ sig (Elt F) Λ₀ .tc) α} {lt lw : List (Fin 28)} {lz : List (Fin 58)} {ld ld' : List (Dev nD)} :
    iprop(St m K c [] lt lw lz ∗ lsep (axW m c) (d :: ld) ∗ lsep (fun d => ow c (axR d) (aRow m d c)) ld')
      ⊢ iprop((iprop(St m K c [] lt lw (xK d :: lz) ∗ lsep (axW m c) ld ∗ lsep (fun d => ow c (axR d) (aRow m d c)) (d :: ld')) -∗ wp frame (wpE (defs₀ (F := F)) 𝒱₀ (c : Thread nD τ) none) Set.univ (k ⟨⟩) Q)
          -∗ wp frame (wpE (defs₀ (F := F)) 𝒱₀ (c : Thread nD τ) none) Set.univ (if h : v = 1#1 then .op (.waitDma2 sem mA dst hsrc hdst) k else k ⟨⟩) Q) := by
  subst hse
  by_cases hd : d = c
  · rw [dif_neg (fun h => hv.mp h hd)]
    unfold St
    simp only [lsep_cons]
    unfold axW
    rw [if_pos hd]
    iintro ⟨⟨#HR, HO, Htl, Hlt, Hlw, Hlz⟩, ⟨⟨Hat, Hrow⟩, Hld⟩, Hld'⟩ Hk
    ihave H1 := (recs_cel m K c (xK d)) $$ HR
    icases H1 with ⟨#HI, -⟩
    imod (Rounds.cell_close ER (Rd m) (Set.mem_univ (K (c, some (xK d)))) (fun h => h) (R := 0)
      (fun r _ => duties_unused m c (xK d) (fun h => h.2 (congrArg xK hd)) r)) $$ [Hat] with Hz
    · isplitr; · iexact HI
      iexact Hat
    iapply Hk
    isplitr [Hld Hrow Hld']
    · isplitr; · iexact HR
      isplitl [HO]; · iexact HO
      isplitl [Htl]; · iexact Htl
      isplitl [Hlt]; · iexact Hlt
      isplitl [Hlw]; · iexact Hlw
      isplitl [Hz]; · unfold zK; iexact Hz
      iexact Hlz
    isplitl [Hld]; · iexact Hld
    isplitl [Hrow]; · iexact Hrow
    iexact Hld'
  · have hu : used c (xK d) := (show ∀ d c : Dev nD, ¬ d = c → used c (xK d) by decide) d c hd
    have hA : amt (xK d) = 16 := (show ∀ d : Dev nD, amt (xK d) = 16 by decide) d
    rw [dif_pos (hv.mpr hd)]
    unfold St
    simp only [lsep_cons]
    unfold axW
    rw [if_neg hd, ← hA]
    iintro ⟨⟨#HR, ⟨%W, HO⟩, Htl, Hlt, Hlw, Hlz⟩, ⟨⟨Hat, Hc⟩, Hld⟩, Hld'⟩ Hk
    ihave H1 := (recs_cel m K c (xK d)) $$ HR
    icases H1 with ⟨#HI, -⟩
    iapply (Rounds.wp_wait_rest_token 𝒱₀ ER (Rd m) (c : Thread nD τ) none (κ := K (c, some (xK d)))
      (wpE_waitDma2_eq 𝒱₀ (c : Thread nD τ) none Set.univ) (Set.mem_univ _) () (O := owedT c []) (W := W) (R := 0) (m := 0) (T := ∅)
      (by rw [Nat.zero_add, expect_cel m c _ hu, hN, hA])) $$ [Hc HO Hat]
    · isplitr; · iexact HI
      isplitl [Hc]; · rw [hN, ← hA]; iexact Hc
      isplitl [HO]; · iexact HO
      isplitr
      · iapply (mayWait c (.dma (dS (xK d))) [] (fun t' h' => absurd h' List.not_mem_nil))
        iapply (recs_lev m K); iexact HR
      iexact Hat
    iintro ⟨HO, Hat, -, Hpay⟩
    imod (Rounds.cell_close ER (Rd m) (Set.mem_univ (K (c, some (xK d)))) (fun h => h) (R := 0 + 1) (duties_later m (cel c (xK d)))) $$ [Hat] with Hz
    · isplitr; · iexact HI
      iexact Hat
    iapply Hk
    isplitr [Hld Hpay Hld']
    · isplitr; · iexact HR
      isplitl [HO]; · iexists _; iexact HO
      isplitl [Htl]; · iexact Htl
      isplitl [Hlt]; · iexact Hlt
      isplitl [Hlw]; · iexact Hlw
      isplitl [Hz]; · unfold zK; iexact Hz
      iexact Hlz
    isplitl [Hld]; · iexact Hld
    isplitl [Hpay]
    · iapply (BIBase.Entails.of_eq ((rest_cel m c _ hu).trans ((payload_ax m c d 0).trans
        (show axPay m c d = ow c (axR d) (aRow m d c) by unfold axPay aRow; rw [if_neg hd])))); iexact Hpay
    iexact Hld'

/-- The wait for a copy's departure, its source put with the others that are back. -/
theorem wp_dep (t : Fin 28) {sem : DmaSem sig} {sp sp' : Space} {s s' : Shape} {e e' : EltTy} {κ' : Kind}
    {src : Memref sig .tc sp' s' e'} {dst : Memref sig κ' sp s e} {hsrc : src.view.WordExact} {hdst : dst.view.WordExact}
    {k : PUnit → Prog (TpuEff nD τ sig (Elt F) Λ₀ .tc) α} {lt lw lp : List (Fin 28)} {lz : List (Fin 58)}
    (hse : sem = dS (sK t)) (hN : dst.view.dmaCredit = amt (sK t)) :
    iprop(St m K c [] (t :: lt) lw lz ∗ lsep (sndPay m c) lp)
      ⊢ iprop((iprop(St m K c [] lt lw (sK t :: lz) ∗ lsep (sndPay m c) (t :: lp)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  iintro ⟨HS, Hp⟩ Hk
  iapply (wp_depart m K c t hse hN) $$ HS
  iintro ⟨HS, H⟩
  iapply Hk
  isplitl [HS]; · iexact HS
  simp only [lsep_cons]
  isplitl [H]; · iexact H
  iexact Hp

/-- A load and a store at the device's own row. -/
theorem wp_put_row {off : Fin 2 → ℕ} {inb : ∀ a, off a + S1x128.size a ≤ S8x128.size a} (hoff : off = ![c.val, 0])
    {w : S1x128.Idx → Elt F .f32} {hl} {hx} {hm} {k : PUnit → Prog (TpuEff nD τ sig (Elt F) Λ₀ .tc) α} :
    (fr c (axR c) : sProp 𝕄)
      ⊢ iprop((ow c (axR c) w -∗ wp frame (wpE (defs₀ (F := F)) 𝒱₀ (c : Thread nD τ) none) Set.univ (k ⟨⟩) Q)
        -∗ wp frame (wpE (defs₀ (F := F)) 𝒱₀ (c : Thread nD τ) none) Set.univ (.op (.load mD (Rect.unit (s := S8x128) off S1x128.size inb).toLoadRect hl) fun _ =>
            .op (.store mD (Rect.unit (s := S8x128) off S1x128.size inb) w Finset.univ hx hm) k) Q) := by
  subst hoff
  exact wp_put c

end Rules

/-- The device's row put in its place and the first three copies of it. -/
theorem part25 {lt lw : List (Fin 28)} {lz : List (Fin 58)} {v2 : BitVec 32} {v670 : Vec F S1x128 .f32} (hv : v670 = aX m c)
    {Q : _ → sProp (MT nD τ sig Unit (Elt F) ℕ UU ℕ)} :
    iprop(St m K c [21, 22, 23, 24, 25, 26, 27] lt lw lz ∗ owns (c : Thread nD τ) mA (axq 0) (aX m c) ∗ fr c (axR c) ∗ fr (nR 1 c) (axR c) ∗ fr (nR 2 c) (axR c) ∗ fr (nR 3 c) (axR c))
      ⊢ iprop((iprop(St m K c [24, 25, 26, 27] (23 :: 22 :: 21 :: lt) lw lz ∗ owns (c : Thread nD τ) mA (axq 3) (aX m c) ∗ ow c (axR c) (aRow m c c)) -∗ Q (Scalar.muli (Scalar.remsi (Scalar.addi v2 4#32) 8#32) 1#32))
          -∗ wp frame (wpE (defs₀ (F := F)) 𝒱₀ (c : Thread nD τ) none) Set.univ (onArgs (k0_part25 (F := F)) c v2 v670) Q) := by
  subst hv
  unfold onArgs
  rw [k0_part25_eq_skeleton]; unfold k0_part25_skel
  simp only [Prog.lift, Prog.bind_op, Prog.bind_ret, Prog.pure_eq_ret]
  iintro ⟨HS, Ha, Hr, Hd21, Hd22, Hd23⟩ Hk
  iapply (wp_put_row c (k0_off9_eq c)) $$ Hr
  iintro Hr
  iapply (wp_send_ax m K c 21 0 (by decide) (nR 1 c) rfl (by revert c; decide) (k0_off11_eq c) rfl (by revert c; decide) .rfl (by decide)) $$ HS Ha Hd21
  iintro ⟨HS, Ha⟩
  iapply (wp_send_ax m K c 22 1 (by decide) (nR 2 c) rfl (by revert c; decide) (k0_off11_eq c) rfl (by revert c; decide) .rfl (by decide)) $$ HS Ha Hd22
  iintro ⟨HS, Ha⟩
  iapply (wp_send_ax m K c 23 2 (by decide) (nR 3 c) rfl (by revert c; decide) (k0_off11_eq c) rfl (by revert c; decide) .rfl (by decide)) $$ HS Ha Hd23
  iintro ⟨HS, Ha⟩
  rw [wp_ret]; imodintro
  iapply Hk
  isplitl [HS]; · iexact HS
  isplitl [Ha]; · iexact Ha
  unfold aRow
  rw [if_pos rfl]
  iexact Hr

/-- The other four copies of it. -/
theorem part26 {lt lw : List (Fin 28)} {lz : List (Fin 58)} {v2 v704 : BitVec 32}
    {Q : _ → sProp (MT nD τ sig Unit (Elt F) ℕ UU ℕ)} :
    iprop(St m K c [24, 25, 26, 27] lt lw lz ∗ owns (c : Thread nD τ) mA (axq 3) (aX m c) ∗ fr (nR 4 c) (axR c) ∗ fr (nR 5 c) (axR c) ∗ fr (nR 6 c) (axR c) ∗ fr (nR 7 c) (axR c))
      ⊢ iprop((iprop(St m K c [] (27 :: 26 :: 25 :: 24 :: lt) lw lz ∗ owns (c : Thread nD τ) mA (axq 7) (aX m c)) -∗ Q (Scalar.extui (Scalar.cmpi .ne v2 0#32)))
          -∗ wp frame (wpE (defs₀ (F := F)) 𝒱₀ (c : Thread nD τ) none) Set.univ (onArgs (k0_part26 (F := F)) c v2 v704) Q) := by
  unfold onArgs
  rw [k0_part26_eq_skeleton]; unfold k0_part26_skel
  simp only [Prog.lift, Prog.bind_op, Prog.bind_ret, Prog.pure_eq_ret]
  iintro ⟨HS, Ha, Hd24, Hd25, Hd26, Hd27⟩ Hk
  iapply (wp_send_ax m K c 24 3 (by decide) (nR 4 c) rfl (by revert c; decide) (k0_off11_eq c) rfl (by revert c; decide) .rfl (by decide)) $$ HS Ha Hd24
  iintro ⟨HS, Ha⟩
  iapply (wp_send_ax m K c 25 4 (by decide) (nR 5 c) rfl (by revert c; decide) (k0_off11_eq c) rfl (by revert c; decide) .rfl (by decide)) $$ HS Ha Hd25
  iintro ⟨HS, Ha⟩
  iapply (wp_send_ax m K c 26 5 (by decide) (nR 6 c) rfl (by revert c; decide) (k0_off11_eq c) rfl (by revert c; decide) .rfl (by decide)) $$ HS Ha Hd26
  iintro ⟨HS, Ha⟩
  iapply (wp_send_ax m K c 27 6 (by decide) (nR 7 c) rfl (by revert c; decide) (k0_off11_eq c) rfl (by revert c; decide) .rfl (by decide)) $$ HS Ha Hd27
  iintro ⟨HS, Ha⟩
  rw [wp_ret]; imodintro
  iapply Hk
  isplitl [HS]; · iexact HS
  iexact Ha

/-- The other devices' rows awaited, then all of them and the result read. -/
theorem part27 {lt lw : List (Fin 28)} {lz : List (Fin 58)} {Y : Vec F S512x2048 .f32}
    {Q : _ → sProp (MT nD τ sig Unit (Elt F) ℕ UU ℕ)} :
    iprop((St m K c [] lt lw lz ∗ lsep (axW m c) [0, 1, 2, 3, 4, 5, 6, 7] ∗ lsep (fun d => ow c (axR d) (aRow m d c)) []) ∗ ow c mO Y)
      ⊢ iprop((iprop(St m K c [] lt lw (xK 7 :: xK 6 :: xK 5 :: xK 4 :: xK 3 :: xK 2 :: xK 1 :: xK 0 :: lz) ∗ ow c mD (AD m c) ∗ ow c mO Y) -∗ Q ⟨k0_pay33 (AD m c), k0_pay34 (AD m c), Y⟩)
          -∗ wp frame (wpE (defs₀ (F := F)) 𝒱₀ (c : Thread nD τ) none) Set.univ (onArgs (k0_part27 (F := F)) (v2w c) (Scalar.extui (Scalar.cmpi .ne (v2w c) 0#32))) Q) := by
  unfold onArgs
  rw [k0_part27_eq_skeleton]; unfold k0_part27_skel
  simp only [Prog.lift, Prog.bind_op, Prog.bind_ret, Prog.pure_eq_ret]
  iintro ⟨H, Ho⟩ Hk
  iapply (wp_ax m K c 0 (by revert c; decide) rfl (by decide)) $$ H
  iintro H
  iapply (wp_ax m K c 1 (by revert c; decide) rfl (by decide)) $$ H
  iintro H
  iapply (wp_ax m K c 2 (by revert c; decide) rfl (by decide)) $$ H
  iintro H
  iapply (wp_ax m K c 3 (by revert c; decide) rfl (by decide)) $$ H
  iintro H
  iapply (wp_ax m K c 4 (by revert c; decide) rfl (by decide)) $$ H
  iintro H
  iapply (wp_ax m K c 5 (by revert c; decide) rfl (by decide)) $$ H
  iintro H
  iapply (wp_ax m K c 6 (by revert c; decide) rfl (by decide)) $$ H
  iintro H
  iapply (wp_ax m K c 7 (by revert c; decide) rfl (by decide)) $$ H
  iintro H
  icases H with ⟨HS, -, Hrows⟩
  ihave Hd := (ad_join m c) $$ Hrows
  iapply (wp_load_all c hz2) $$ Hd
  iintro Hd
  iapply (wp_load_all c hz2) $$ Ho
  iintro Ho
  rw [wp_ret]; imodintro
  iapply Hk
  iframe

/-- The result quantised; the departures of the first two copies. -/
theorem part28 {lt lw : List (Fin 28)} {lz : List (Fin 58)} {lp : List (Fin 28)} {v767 v768 : F .f32} {v769 Y : Vec F S512x2048 .f32}
    {Q : _ → sProp (MT nD τ sig Unit (Elt F) ℕ UU ℕ)} :
    iprop((St m K c [] (3 :: 7 :: lt) lw lz ∗ lsep (sndPay m c) lp) ∗ ow c mO Y)
      ⊢ iprop((iprop((St m K c [] lt lw (sK 7 :: sK 3 :: lz) ∗ lsep (sndPay m c) (7 :: 3 :: lp)) ∗ ow c mO (k0_pay35 v767 v768 v769)) -∗ Q ⟨⟩)
          -∗ wp frame (wpE (defs₀ (F := F)) 𝒱₀ (c : Thread nD τ) none) Set.univ (onArgs (k0_part28 (F := F)) v767 v768 v769) Q) := by
  unfold onArgs
  rw [k0_part28_eq_skeleton]; unfold k0_part28_skel
  simp only [Prog.lift, Prog.bind_op, Prog.bind_ret, Prog.pure_eq_ret]
  iintro ⟨H, Ho⟩ Hk
  ihave Ho := (owns_free (c : Thread nD τ) mO Y) $$ Ho
  iapply (wp_put_all c hz2) $$ Ho
  iintro Ho
  iapply (wp_dep m K c 3 rfl (by decide)) $$ H
  iintro H
  iapply (wp_dep m K c 7 rfl (by decide)) $$ H
  iintro H
  rw [wp_ret]; imodintro
  iapply Hk
  isplitl [H]; · iexact H
  iexact Ho

/-- Three more departures. -/
theorem part29 {lt lw : List (Fin 28)} {lz : List (Fin 58)} {lp : List (Fin 28)}
    {Q : _ → sProp (MT nD τ sig Unit (Elt F) ℕ UU ℕ)} :
    iprop((St m K c [] (11 :: 2 :: 5 :: lt) lw lz ∗ lsep (sndPay m c) lp))
      ⊢ iprop((iprop((St m K c [] lt lw (sK 5 :: sK 2 :: sK 11 :: lz) ∗ lsep (sndPay m c) (5 :: 2 :: 11 :: lp))) -∗ Q ⟨⟩)
          -∗ wp frame (wpE (defs₀ (F := F)) 𝒱₀ (c : Thread nD τ) none) Set.univ (onArgs (k0_part29 (F := F))) Q) := by
  unfold onArgs
  rw [k0_part29_eq_skeleton]; unfold k0_part29_skel
  simp only [Prog.lift, Prog.bind_op, Prog.bind_ret, Prog.pure_eq_ret]
  iintro H Hk
  iapply (wp_dep m K c 11 rfl (by decide)) $$ H
  iintro H
  iapply (wp_dep m K c 2 rfl (by decide)) $$ H
  iintro H
  iapply (wp_dep m K c 5 rfl (by decide)) $$ H
  iintro H
  rw [wp_ret]; imodintro
  iapply Hk
  iexact H

/-- Four more departures. -/
theorem part30 {lt lw : List (Fin 28)} {lz : List (Fin 58)} {lp : List (Fin 28)}
    {Q : _ → sProp (MT nD τ sig Unit (Elt F) ℕ UU ℕ)} :
    iprop((St m K c [] (1 :: 10 :: 6 :: 9 :: lt) lw lz ∗ lsep (sndPay m c) lp))
      ⊢ iprop((iprop((St m K c [] lt lw (sK 9 :: sK 6 :: sK 10 :: sK 1 :: lz) ∗ lsep (sndPay m c) (9 :: 6 :: 10 :: 1 :: lp))) -∗ Q ⟨⟩)
          -∗ wp frame (wpE (defs₀ (F := F)) 𝒱₀ (c : Thread nD τ) none) Set.univ (onArgs (k0_part30 (F := F))) Q) := by
  unfold onArgs
  rw [k0_part30_eq_skeleton]; unfold k0_part30_skel
  simp only [Prog.lift, Prog.bind_op, Prog.bind_ret, Prog.pure_eq_ret]
  iintro H Hk
  iapply (wp_dep m K c 1 rfl (by decide)) $$ H
  iintro H
  iapply (wp_dep m K c 10 rfl (by decide)) $$ H
  iintro H
  iapply (wp_dep m K c 6 rfl (by decide)) $$ H
  iintro H
  iapply (wp_dep m K c 9 rfl (by decide)) $$ H
  iintro H
  rw [wp_ret]; imodintro
  iapply Hk
  iexact H

/-- Three more departures, the last of the first exchange. -/
theorem part31 {lt lw : List (Fin 28)} {lz : List (Fin 58)} {lp : List (Fin 28)}
    {Q : _ → sProp (MT nD τ sig Unit (Elt F) ℕ UU ℕ)} :
    iprop((St m K c [] (0 :: 4 :: 8 :: lt) lw lz ∗ lsep (sndPay m c) lp))
      ⊢ iprop((iprop((St m K c [] lt lw (sK 8 :: sK 4 :: sK 0 :: lz) ∗ lsep (sndPay m c) (8 :: 4 :: 0 :: lp))) -∗ Q ⟨⟩)
          -∗ wp frame (wpE (defs₀ (F := F)) 𝒱₀ (c : Thread nD τ) none) Set.univ (onArgs (k0_part31 (F := F))) Q) := by
  unfold onArgs
  rw [k0_part31_eq_skeleton]; unfold k0_part31_skel
  simp only [Prog.lift, Prog.bind_op, Prog.bind_ret, Prog.pure_eq_ret]
  iintro H Hk
  iapply (wp_dep m K c 0 rfl (by decide)) $$ H
  iintro H
  iapply (wp_dep m K c 4 rfl (by decide)) $$ H
  iintro H
  iapply (wp_dep m K c 8 rfl (by decide)) $$ H
  iintro H
  rw [wp_ret]; imodintro
  iapply Hk
  iexact H

/-- Three departures of the second exchange. -/
theorem part32 {lt lw : List (Fin 28)} {lz : List (Fin 58)} {lp : List (Fin 28)}
    {Q : _ → sProp (MT nD τ sig Unit (Elt F) ℕ UU ℕ)} :
    iprop((St m K c [] (12 :: 13 :: 14 :: lt) lw lz ∗ lsep (sndPay m c) lp))
      ⊢ iprop((iprop((St m K c [] lt lw (sK 14 :: sK 13 :: sK 12 :: lz) ∗ lsep (sndPay m c) (14 :: 13 :: 12 :: lp))) -∗ Q ⟨⟩)
          -∗ wp frame (wpE (defs₀ (F := F)) 𝒱₀ (c : Thread nD τ) none) Set.univ (onArgs (k0_part32 (F := F))) Q) := by
  unfold onArgs
  rw [k0_part32_eq_skeleton]; unfold k0_part32_skel
  simp only [Prog.lift, Prog.bind_op, Prog.bind_ret, Prog.pure_eq_ret]
  iintro H Hk
  iapply (wp_dep m K c 12 rfl (by decide)) $$ H
  iintro H
  iapply (wp_dep m K c 13 rfl (by decide)) $$ H
  iintro H
  iapply (wp_dep m K c 14 rfl (by decide)) $$ H
  iintro H
  rw [wp_ret]; imodintro
  iapply Hk
  iexact H

/-- The last departures of the second exchange and those of the third. -/
theorem part33 {lt lw : List (Fin 28)} {lz : List (Fin 58)} {lp : List (Fin 28)}
    {Q : _ → sProp (MT nD τ sig Unit (Elt F) ℕ UU ℕ)} :
    iprop((St m K c [] (15 :: 16 :: 17 :: 18 :: 19 :: 20 :: lt) lw lz ∗ lsep (sndPay m c) lp))
      ⊢ iprop((iprop((St m K c [] lt lw (sK 20 :: sK 19 :: sK 18 :: sK 17 :: sK 16 :: sK 15 :: lz) ∗ lsep (sndPay m c) (20 :: 19 :: 18 :: 17 :: 16 :: 15 :: lp))) -∗ Q ⟨⟩)
          -∗ wp frame (wpE (defs₀ (F := F)) 𝒱₀ (c : Thread nD τ) none) Set.univ (onArgs (k0_part33 (F := F))) Q) := by
  unfold onArgs
  rw [k0_part33_eq_skeleton]; unfold k0_part33_skel
  simp only [Prog.lift, Prog.bind_op, Prog.bind_ret, Prog.pure_eq_ret]
  iintro H Hk
  iapply (wp_dep m K c 15 rfl (by decide)) $$ H
  iintro H
  iapply (wp_dep m K c 16 rfl (by decide)) $$ H
  iintro H
  iapply (wp_dep m K c 17 rfl (by decide)) $$ H
  iintro H
  iapply (wp_dep m K c 18 rfl (by decide)) $$ H
  iintro H
  iapply (wp_dep m K c 19 rfl (by decide)) $$ H
  iintro H
  iapply (wp_dep m K c 20 rfl (by decide)) $$ H
  iintro H
  rw [wp_ret]; imodintro
  iapply Hk
  iexact H

end Cert.KernelIdeal.Pf
-- ==== Proof.Mem.lean ====
module

public import proofs.«01_k».proof.Proof.Parts3

/-!
The memory of the kernel's body: what a device owns at the start and at the end.
-/

@[expose] public section

set_option maxRecDepth 16384

noncomputable section

namespace Cert.KernelIdeal.Pf

open Cert.KernelIdeal Cert.KernelIdeal.Gen Cert.Pieces
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (c : Dev nD)

theorem lsep_nil {T : Type} (Φ : T → sProp (MT nD τ sig Unit (Elt F) ℕ UU ℕ)) : lsep Φ [] = iprop(emp) := rfl

theorem lsep_mono {T : Type} {Φ Ψ : T → sProp (MT nD τ sig Unit (Elt F) ℕ UU ℕ)} (h : ∀ t, Φ t ⊢ Ψ t) (l : List T) : lsep Φ l ⊢ lsep Ψ l := by
  induction l with
  | nil => exact BIBase.Entails.rfl
  | cons t l ih => simp only [lsep_cons]; exact BIClass.sep_mono (h t) ih

/-! ## Buffers and their rows -/

section Stack

variable {n a b : ℕ} {e : EltTy} (q : Memref sig .tc .vmem ⟨3, ![n, a, b]⟩ e)

/-- A stack owned at some contents is its rows so owned, -/
theorem stack_cut (l : List (Fin n)) (h : l.Nodup) (h' : l.toFinset = Finset.univ) :
    (fr c q : sProp 𝕄) ⊢ lsep (fun t => fr c (q.slice (row3 n a b t) (fun _ => rfl))) l := by
  rw [lsep_eq _ l h, h']
  exact free_rects (T := Fin n) (c : Thread nD τ) q (row3 n a b) (fun _ _ => rfl) (row3_disj n a b) (row3_cov n a b)

/-- and back. -/
theorem stack_join (l : List (Fin n)) (h : l.Nodup) (h' : l.toFinset = Finset.univ) :
    lsep (fun t => fr c (q.slice (row3 n a b t) (fun _ => rfl))) l ⊢ (fr c q : sProp 𝕄) := by
  rw [lsep_eq _ l h, h']
  exact free_of_rects (T := Fin n) (c : Thread nD τ) q (row3 n a b) (fun _ _ => rfl) (row3_disj n a b) (row3_cov n a b)

end Stack

/-- The rows of maxima, each owned. -/
theorem rows_cut (l : List (Dev nD)) (h : l.Nodup) (h' : l.toFinset = Finset.univ) : (fr c mD : sProp 𝕄) ⊢ lsep (fun d => fr c (axR d)) l := by
  rw [lsep_eq _ l h, h']
  exact free_rects (T := Fin 8) (c : Thread nD τ) mD (row2 8 128) (fun _ _ => rfl) (row2_disj 8 128) (row2_cov 8 128)

/-! Each stack of the kernel cut into its rows and joined. -/

theorem slabs_cut : (fr c mP : sProp 𝕄) ⊢ iprop(fr c (pW 0) ∗ fr c (pW 1) ∗ fr c (pW 2) ∗ fr c (pW 3) ∗ fr c (pW 4) ∗ fr c (pW 5) ∗ fr c (pW 6) ∗ fr c (pW 7)) := by
  have h : (fr c mP : sProp 𝕄) ⊢ lsep (fun k => fr c (pW k)) [0, 1, 2, 3, 4, 5, 6, 7] := stack_cut c mP [0, 1, 2, 3, 4, 5, 6, 7] (by decide) (by decide)
  simp only [lsep_cons, lsep_nil] at h
  iintro H
  ihave H := h $$ H
  icases H with ⟨H0, H1, H2, H3, H4, H5, H6, H7, -⟩
  iframe

theorem slabs_join : iprop(fr c (pW 0) ∗ fr c (pW 1) ∗ fr c (pW 2) ∗ fr c (pW 3) ∗ fr c (pW 4) ∗ fr c (pW 5) ∗ fr c (pW 6) ∗ fr c (pW 7)) ⊢ (fr c mP : sProp 𝕄) := by
  have h : lsep (fun k => fr c (pW k)) [0, 1, 2, 3, 4, 5, 6, 7] ⊢ (fr c mP : sProp 𝕄) := stack_join c mP [0, 1, 2, 3, 4, 5, 6, 7] (by decide) (by decide)
  simp only [lsep_cons, lsep_nil] at h
  iintro ⟨H0, H1, H2, H3, H4, H5, H6, H7⟩
  iapply h
  iframe

theorem rowsA1_cut : (fr c mRA1 : sProp 𝕄) ⊢ iprop(fr c (rA1 0) ∗ fr c (rA1 1) ∗ fr c (rA1 2) ∗ fr c (rA1 3)) := by
  have h : (fr c mRA1 : sProp 𝕄) ⊢ lsep (fun k => fr c (rA1 k)) [0, 1, 2, 3] := stack_cut c mRA1 [0, 1, 2, 3] (by decide) (by decide)
  simp only [lsep_cons, lsep_nil] at h
  iintro H
  ihave H := h $$ H
  icases H with ⟨H0, H1, H2, H3, -⟩
  iframe

theorem rowsA1_join : iprop(fr c (rA1 0) ∗ fr c (rA1 1) ∗ fr c (rA1 2) ∗ fr c (rA1 3)) ⊢ (fr c mRA1 : sProp 𝕄) := by
  have h : lsep (fun k => fr c (rA1 k)) [0, 1, 2, 3] ⊢ (fr c mRA1 : sProp 𝕄) := stack_join c mRA1 [0, 1, 2, 3] (by decide) (by decide)
  simp only [lsep_cons, lsep_nil] at h
  iintro ⟨H0, H1, H2, H3⟩
  iapply h
  iframe

theorem rowsB1_cut : (fr c mRB1 : sProp 𝕄) ⊢ iprop(fr c (rB1 0) ∗ fr c (rB1 1) ∗ fr c (rB1 2) ∗ fr c (rB1 3)) := by
  have h : (fr c mRB1 : sProp 𝕄) ⊢ lsep (fun k => fr c (rB1 k)) [0, 1, 2, 3] := stack_cut c mRB1 [0, 1, 2, 3] (by decide) (by decide)
  simp only [lsep_cons, lsep_nil] at h
  iintro H
  ihave H := h $$ H
  icases H with ⟨H0, H1, H2, H3, -⟩
  iframe

theorem rowsB1_join : iprop(fr c (rB1 0) ∗ fr c (rB1 1) ∗ fr c (rB1 2) ∗ fr c (rB1 3)) ⊢ (fr c mRB1 : sProp 𝕄) := by
  have h : lsep (fun k => fr c (rB1 k)) [0, 1, 2, 3] ⊢ (fr c mRB1 : sProp 𝕄) := stack_join c mRB1 [0, 1, 2, 3] (by decide) (by decide)
  simp only [lsep_cons, lsep_nil] at h
  iintro ⟨H0, H1, H2, H3⟩
  iapply h
  iframe

theorem rowsC1_cut : (fr c mRC1 : sProp 𝕄) ⊢ iprop(fr c (rC1 0) ∗ fr c (rC1 1) ∗ fr c (rC1 2) ∗ fr c (rC1 3)) := by
  have h : (fr c mRC1 : sProp 𝕄) ⊢ lsep (fun k => fr c (rC1 k)) [0, 1, 2, 3] := stack_cut c mRC1 [0, 1, 2, 3] (by decide) (by decide)
  simp only [lsep_cons, lsep_nil] at h
  iintro H
  ihave H := h $$ H
  icases H with ⟨H0, H1, H2, H3, -⟩
  iframe

theorem rowsC1_join : iprop(fr c (rC1 0) ∗ fr c (rC1 1) ∗ fr c (rC1 2) ∗ fr c (rC1 3)) ⊢ (fr c mRC1 : sProp 𝕄) := by
  have h : lsep (fun k => fr c (rC1 k)) [0, 1, 2, 3] ⊢ (fr c mRC1 : sProp 𝕄) := stack_join c mRC1 [0, 1, 2, 3] (by decide) (by decide)
  simp only [lsep_cons, lsep_nil] at h
  iintro ⟨H0, H1, H2, H3⟩
  iapply h
  iframe

theorem rowsA2_cut : (fr c mRA2 : sProp 𝕄) ⊢ iprop(fr c (rA2 0) ∗ fr c (rA2 1)) := by
  have h : (fr c mRA2 : sProp 𝕄) ⊢ lsep (fun k => fr c (rA2 k)) [0, 1] := stack_cut c mRA2 [0, 1] (by decide) (by decide)
  simp only [lsep_cons, lsep_nil] at h
  iintro H
  ihave H := h $$ H
  icases H with ⟨H0, H1, -⟩
  iframe

theorem rowsA2_join : iprop(fr c (rA2 0) ∗ fr c (rA2 1)) ⊢ (fr c mRA2 : sProp 𝕄) := by
  have h : lsep (fun k => fr c (rA2 k)) [0, 1] ⊢ (fr c mRA2 : sProp 𝕄) := stack_join c mRA2 [0, 1] (by decide) (by decide)
  simp only [lsep_cons, lsep_nil] at h
  iintro ⟨H0, H1⟩
  iapply h
  iframe

theorem rowsB2_cut : (fr c mRB2 : sProp 𝕄) ⊢ iprop(fr c (rB2 0) ∗ fr c (rB2 1)) := by
  have h : (fr c mRB2 : sProp 𝕄) ⊢ lsep (fun k => fr c (rB2 k)) [0, 1] := stack_cut c mRB2 [0, 1] (by decide) (by decide)
  simp only [lsep_cons, lsep_nil] at h
  iintro H
  ihave H := h $$ H
  icases H with ⟨H0, H1, -⟩
  iframe

theorem rowsB2_join : iprop(fr c (rB2 0) ∗ fr c (rB2 1)) ⊢ (fr c mRB2 : sProp 𝕄) := by
  have h : lsep (fun k => fr c (rB2 k)) [0, 1] ⊢ (fr c mRB2 : sProp 𝕄) := stack_join c mRB2 [0, 1] (by decide) (by decide)
  simp only [lsep_cons, lsep_nil] at h
  iintro ⟨H0, H1⟩
  iapply h
  iframe

theorem rowsC2_cut : (fr c mRC2 : sProp 𝕄) ⊢ iprop(fr c (rC2 0) ∗ fr c (rC2 1)) := by
  have h : (fr c mRC2 : sProp 𝕄) ⊢ lsep (fun k => fr c (rC2 k)) [0, 1] := stack_cut c mRC2 [0, 1] (by decide) (by decide)
  simp only [lsep_cons, lsep_nil] at h
  iintro H
  ihave H := h $$ H
  icases H with ⟨H0, H1, -⟩
  iframe

theorem rowsC2_join : iprop(fr c (rC2 0) ∗ fr c (rC2 1)) ⊢ (fr c mRC2 : sProp 𝕄) := by
  have h : lsep (fun k => fr c (rC2 k)) [0, 1] ⊢ (fr c mRC2 : sProp 𝕄) := stack_join c mRC2 [0, 1] (by decide) (by decide)
  simp only [lsep_cons, lsep_nil] at h
  iintro ⟨H0, H1⟩
  iapply h
  iframe

theorem rowsSA_cut : (fr c mSA2 : sProp 𝕄) ⊢ iprop(fr c (sA2 0) ∗ fr c (sA2 1)) := by
  have h : (fr c mSA2 : sProp 𝕄) ⊢ lsep (fun k => fr c (sA2 k)) [0, 1] := stack_cut c mSA2 [0, 1] (by decide) (by decide)
  simp only [lsep_cons, lsep_nil] at h
  iintro H
  ihave H := h $$ H
  icases H with ⟨H0, H1, -⟩
  iframe

theorem rowsSA_join : iprop(fr c (sA2 0) ∗ fr c (sA2 1)) ⊢ (fr c mSA2 : sProp 𝕄) := by
  have h : lsep (fun k => fr c (sA2 k)) [0, 1] ⊢ (fr c mSA2 : sProp 𝕄) := stack_join c mSA2 [0, 1] (by decide) (by decide)
  simp only [lsep_cons, lsep_nil] at h
  iintro ⟨H0, H1⟩
  iapply h
  iframe

theorem rowsSB_cut : (fr c mSB2 : sProp 𝕄) ⊢ iprop(fr c (sB2 0) ∗ fr c (sB2 1)) := by
  have h : (fr c mSB2 : sProp 𝕄) ⊢ lsep (fun k => fr c (sB2 k)) [0, 1] := stack_cut c mSB2 [0, 1] (by decide) (by decide)
  simp only [lsep_cons, lsep_nil] at h
  iintro H
  ihave H := h $$ H
  icases H with ⟨H0, H1, -⟩
  iframe

theorem rowsSB_join : iprop(fr c (sB2 0) ∗ fr c (sB2 1)) ⊢ (fr c mSB2 : sProp 𝕄) := by
  have h : lsep (fun k => fr c (sB2 k)) [0, 1] ⊢ (fr c mSB2 : sProp 𝕄) := stack_join c mSB2 [0, 1] (by decide) (by decide)
  simp only [lsep_cons, lsep_nil] at h
  iintro ⟨H0, H1⟩
  iapply h
  iframe

theorem rowsSC_cut : (fr c mSC2 : sProp 𝕄) ⊢ iprop(fr c (sC2 0) ∗ fr c (sC2 1)) := by
  have h : (fr c mSC2 : sProp 𝕄) ⊢ lsep (fun k => fr c (sC2 k)) [0, 1] := stack_cut c mSC2 [0, 1] (by decide) (by decide)
  simp only [lsep_cons, lsep_nil] at h
  iintro H
  ihave H := h $$ H
  icases H with ⟨H0, H1, -⟩
  iframe

theorem rowsSC_join : iprop(fr c (sC2 0) ∗ fr c (sC2 1)) ⊢ (fr c mSC2 : sProp 𝕄) := by
  have h : lsep (fun k => fr c (sC2 k)) [0, 1] ⊢ (fr c mSC2 : sProp 𝕄) := stack_join c mSC2 [0, 1] (by decide) (by decide)
  simp only [lsep_cons, lsep_nil] at h
  iintro ⟨H0, H1⟩
  iapply h
  iframe

/-- The kernel's own buffers, each at some contents. -/
def scr : sProp 𝕄 :=
  iprop(fr c mXb ∗ fr c mWb ∗ fr c mP ∗ fr c mRA1 ∗ fr c mRB1 ∗ fr c mRC1 ∗ fr c mRA2 ∗ fr c mRB2 ∗ fr c mRC2 ∗ fr c mRA3 ∗ fr c mRB3 ∗ fr c mRC3 ∗ fr c mSA2 ∗ fr c mSB2 ∗ fr c mSC2 ∗ fr c mSA3 ∗ fr c mSB3 ∗ fr c mSC3 ∗ fr c mA ∗ fr c mD)

/-- What a device hands its three neighbours, out of its own buffers, and what it keeps. -/
theorem scr_open : scr c ⊢ (iprop(barPay (nX c) 0 ∗ barPay (nY c) 1 ∗ barPay (nZ c) 2
    ∗ fr c mXb ∗ fr c mWb ∗ fr c (pW 0) ∗ fr c (pW 1) ∗ fr c (pW 2) ∗ fr c (pW 3) ∗ fr c (pW 4) ∗ fr c (pW 5) ∗ fr c (pW 6) ∗ fr c (pW 7) ∗ fr c (sA2 0) ∗ fr c (sA2 1) ∗ fr c (sB2 0) ∗ fr c (sB2 1) ∗ fr c (sC2 0) ∗ fr c (sC2 1) ∗ fr c mSA3 ∗ fr c mSB3 ∗ fr c mSC3 ∗ fr c mA ∗ fr c (axR c)) : sProp 𝕄) := by
  have hD := rows_cut (F := F) c [c, nX c, nY (nX c), nY (nZ (nX c)), nY c, nZ (nY c), nZ c, nX (nZ c)] (by revert c; decide) (by revert c; decide)
  have hX : barPay (F := F) (nX c) 0 = givX c (nX c) := by show givX (nX (nX c)) (nX c) = _; rw [nX_nX]
  have hY : barPay (F := F) (nY c) 1 = givY c (nY c) := by show givY (nY (nY c)) (nY c) = _; rw [nY_nY]
  have hZ : barPay (F := F) (nZ c) 2 = givZ c (nZ c) := by show givZ (nZ (nZ c)) (nZ c) = _; rw [nZ_nZ]
  rw [hX, hY, hZ]
  simp only [lsep_cons, lsep_nil] at hD
  unfold scr givX givY givZ
  iintro ⟨HmXb, HmWb, HmP, HmRA1, HmRB1, HmRC1, HmRA2, HmRB2, HmRC2, HmRA3, HmRB3, HmRC3, HmSA2, HmSB2, HmSC2, HmSA3, HmSB3, HmSC3, HmA, HmD⟩
  ihave HmP := (slabs_cut c) $$ HmP
  icases HmP with ⟨P0, P1, P2, P3, P4, P5, P6, P7⟩
  ihave HmRA1 := (rowsA1_cut c) $$ HmRA1
  icases HmRA1 with ⟨A10, A11, A12, A13⟩
  ihave HmRB1 := (rowsB1_cut c) $$ HmRB1
  icases HmRB1 with ⟨B10, B11, B12, B13⟩
  ihave HmRC1 := (rowsC1_cut c) $$ HmRC1
  icases HmRC1 with ⟨C10, C11, C12, C13⟩
  ihave HmRA2 := (rowsA2_cut c) $$ HmRA2
  icases HmRA2 with ⟨A20, A21⟩
  ihave HmRB2 := (rowsB2_cut c) $$ HmRB2
  icases HmRB2 with ⟨B20, B21⟩
  ihave HmRC2 := (rowsC2_cut c) $$ HmRC2
  icases HmRC2 with ⟨C20, C21⟩
  ihave HmSA2 := (rowsSA_cut c) $$ HmSA2
  icases HmSA2 with ⟨SA0, SA1⟩
  ihave HmSB2 := (rowsSB_cut c) $$ HmSB2
  icases HmSB2 with ⟨SB0, SB1⟩
  ihave HmSC2 := (rowsSC_cut c) $$ HmSC2
  icases HmSC2 with ⟨SC0, SC1⟩
  ihave HmD := hD $$ HmD
  icases HmD with ⟨D0, DX, DYX, DYZX, DY, DZY, DZ, DXZ, -⟩
  isplitl [A10 A11 A12 A13 C20 C21 HmRB3 DX DYX DYZX]
  · isplitl [A10 A11 A12 A13]
    · isplitl [A10]; · iexact A10
      isplitl [A11]; · iexact A11
      isplitl [A12]; · iexact A12
      iexact A13
    isplitl [C20 C21]
    · isplitl [C20]; · iexact C20
      iexact C21
    isplitl [HmRB3]; · iexact HmRB3
    isplitl [DX]; · iexact DX
    isplitl [DYX]; · iexact DYX
    iexact DYZX
  isplitl [B10 B11 B12 B13 A20 A21 HmRC3 DY DZY]
  · isplitl [B10 B11 B12 B13]
    · isplitl [B10]; · iexact B10
      isplitl [B11]; · iexact B11
      isplitl [B12]; · iexact B12
      iexact B13
    isplitl [A20 A21]
    · isplitl [A20]; · iexact A20
      iexact A21
    isplitl [HmRC3]; · iexact HmRC3
    isplitl [DY]; · iexact DY
    iexact DZY
  isplitl [C10 C11 C12 C13 B20 B21 HmRA3 DZ DXZ]
  · isplitl [C10 C11 C12 C13]
    · isplitl [C10]; · iexact C10
      isplitl [C11]; · iexact C11
      isplitl [C12]; · iexact C12
      iexact C13
    isplitl [B20 B21]
    · isplitl [B20]; · iexact B20
      iexact B21
    isplitl [HmRA3]; · iexact HmRA3
    isplitl [DZ]; · iexact DZ
    iexact DXZ
  isplitl [HmXb]; · iexact HmXb
  isplitl [HmWb]; · iexact HmWb
  isplitl [P0]; · iexact P0
  isplitl [P1]; · iexact P1
  isplitl [P2]; · iexact P2
  isplitl [P3]; · iexact P3
  isplitl [P4]; · iexact P4
  isplitl [P5]; · iexact P5
  isplitl [P6]; · iexact P6
  isplitl [P7]; · iexact P7
  isplitl [SA0]; · iexact SA0
  isplitl [SA1]; · iexact SA1
  isplitl [SB0]; · iexact SB0
  isplitl [SB1]; · iexact SB1
  isplitl [SC0]; · iexact SC0
  isplitl [SC1]; · iexact SC1
  isplitl [HmSA3]; · iexact HmSA3
  isplitl [HmSB3]; · iexact HmSB3
  isplitl [HmSC3]; · iexact HmSC3
  isplitl [HmA]; · iexact HmA
  iexact D0

/-- The kernel's buffers back together at the end. -/
theorem scr_close : (iprop(fr c mXb ∗ fr c mWb ∗ fr c (pW 0) ∗ fr c (pW 1) ∗ fr c (pW 2) ∗ fr c (pW 3) ∗ fr c (pW 4) ∗ fr c (pW 5) ∗ fr c (pW 6) ∗ fr c (pW 7) ∗ fr c (rA1 0) ∗ fr c (rA1 1) ∗ fr c (rA1 2) ∗ fr c (rA1 3) ∗ fr c (rB1 0) ∗ fr c (rB1 1) ∗ fr c (rB1 2) ∗ fr c (rB1 3) ∗ fr c (rC1 0) ∗ fr c (rC1 1) ∗ fr c (rC1 2) ∗ fr c (rC1 3) ∗ fr c (rA2 0) ∗ fr c (rA2 1) ∗ fr c (rB2 0) ∗ fr c (rB2 1) ∗ fr c (rC2 0) ∗ fr c (rC2 1) ∗ fr c mRA3 ∗ fr c mRB3 ∗ fr c mRC3 ∗ fr c (sA2 0) ∗ fr c (sA2 1) ∗ fr c (sB2 0) ∗ fr c (sB2 1) ∗ fr c (sC2 0) ∗ fr c (sC2 1) ∗ fr c mSA3 ∗ fr c mSB3 ∗ fr c mSC3 ∗ fr c mA ∗ fr c mD) : sProp 𝕄) ⊢ scr c := by
  iintro ⟨HmXb, HmWb, P0, P1, P2, P3, P4, P5, P6, P7, A10, A11, A12, A13, B10, B11, B12, B13, C10, C11, C12, C13, A20, A21, B20, B21, C20, C21, HmRA3, HmRB3, HmRC3, SA0, SA1, SB0, SB1, SC0, SC1, HmSA3, HmSB3, HmSC3, HmA, HmD⟩
  ihave HmP := (slabs_join c) $$ [P0 P1 P2 P3 P4 P5 P6 P7]
  · isplitl [P0]; · iexact P0
    isplitl [P1]; · iexact P1
    isplitl [P2]; · iexact P2
    isplitl [P3]; · iexact P3
    isplitl [P4]; · iexact P4
    isplitl [P5]; · iexact P5
    isplitl [P6]; · iexact P6
    iexact P7
  ihave HmRA1 := (rowsA1_join c) $$ [A10 A11 A12 A13]
  · isplitl [A10]; · iexact A10
    isplitl [A11]; · iexact A11
    isplitl [A12]; · iexact A12
    iexact A13
  ihave HmRB1 := (rowsB1_join c) $$ [B10 B11 B12 B13]
  · isplitl [B10]; · iexact B10
    isplitl [B11]; · iexact B11
    isplitl [B12]; · iexact B12
    iexact B13
  ihave HmRC1 := (rowsC1_join c) $$ [C10 C11 C12 C13]
  · isplitl [C10]; · iexact C10
    isplitl [C11]; · iexact C11
    isplitl [C12]; · iexact C12
    iexact C13
  ihave HmRA2 := (rowsA2_join c) $$ [A20 A21]
  · isplitl [A20]; · iexact A20
    iexact A21
  ihave HmRB2 := (rowsB2_join c) $$ [B20 B21]
  · isplitl [B20]; · iexact B20
    iexact B21
  ihave HmRC2 := (rowsC2_join c) $$ [C20 C21]
  · isplitl [C20]; · iexact C20
    iexact C21
  ihave HmSA2 := (rowsSA_join c) $$ [SA0 SA1]
  · isplitl [SA0]; · iexact SA0
    iexact SA1
  ihave HmSB2 := (rowsSB_join c) $$ [SB0 SB1]
  · isplitl [SB0]; · iexact SB0
    iexact SB1
  ihave HmSC2 := (rowsSC_join c) $$ [SC0 SC1]
  · isplitl [SC0]; · iexact SC0
    iexact SC1
  unfold scr
  isplitl [HmXb]; · iexact HmXb
  isplitl [HmWb]; · iexact HmWb
  isplitl [HmP]; · iexact HmP
  isplitl [HmRA1]; · iexact HmRA1
  isplitl [HmRB1]; · iexact HmRB1
  isplitl [HmRC1]; · iexact HmRC1
  isplitl [HmRA2]; · iexact HmRA2
  isplitl [HmRB2]; · iexact HmRB2
  isplitl [HmRC2]; · iexact HmRC2
  isplitl [HmRA3]; · iexact HmRA3
  isplitl [HmRB3]; · iexact HmRB3
  isplitl [HmRC3]; · iexact HmRC3
  isplitl [HmSA2]; · iexact HmSA2
  isplitl [HmSB2]; · iexact HmSB2
  isplitl [HmSC2]; · iexact HmSC2
  isplitl [HmSA3]; · iexact HmSA3
  isplitl [HmSB3]; · iexact HmSB3
  isplitl [HmSC3]; · iexact HmSC3
  isplitl [HmA]; · iexact HmA
  iexact HmD

/-! ## The result's column ranges -/

/-- The rectangles of the three column ranges. -/
abbrev rO3 : Fin 3 → Rect S512x2048 := ![rOA, rOB, rOC]

theorem rO3_disj (t t' : Fin 3) (h : t ≠ t') : Disjoint (rO3 t).set (rO3 t').set := by
  have hAB : Disjoint rOA.set rOB.set := Rect.unit_disjoint 1 (Or.inl (by decide))
  have hAC : Disjoint rOA.set rOC.set := Rect.unit_disjoint 1 (Or.inl (by decide))
  have hBC : Disjoint rOB.set rOC.set := Rect.unit_disjoint 1 (Or.inl (by decide))
  fin_cases t <;> fin_cases t'
  · exact absurd rfl h
  · exact hAB
  · exact hAC
  · exact hAB.symm
  · exact absurd rfl h
  · exact hBC
  · exact hAC.symm
  · exact hBC.symm
  · exact absurd rfl h

theorem rO3_cov : (Finset.univ : Finset (Fin 3)).biUnion (fun t => (rO3 t).set) = Finset.univ := by
  ext i
  have h0 : (i 0).val < 512 := (i 0).isLt
  have h1 : (i 1).val < 2048 := (i 1).isLt
  simp only [Finset.mem_biUnion, Finset.mem_univ, true_and, iff_true]
  rcases (by omega : (i 1).val < 640 ∨ (640 ≤ (i 1).val ∧ (i 1).val < 1280) ∨ 1280 ≤ (i 1).val) with h | h | h
  · refine ⟨0, ?_⟩
    show i ∈ rOA.set
    rw [Rect.mem_set_unit]
    intro x
    fin_cases x
    · exact ⟨Nat.zero_le _, (by omega : (i 0).val < 0 + 512)⟩
    · exact ⟨Nat.zero_le _, (by omega : (i 1).val < 0 + 640)⟩
  · refine ⟨1, ?_⟩
    show i ∈ rOB.set
    rw [Rect.mem_set_unit]
    intro x
    fin_cases x
    · exact ⟨Nat.zero_le _, (by omega : (i 0).val < 0 + 512)⟩
    · exact ⟨h.1, (by omega : (i 1).val < 640 + 640)⟩
  · refine ⟨2, ?_⟩
    show i ∈ rOC.set
    rw [Rect.mem_set_unit]
    intro x
    fin_cases x
    · exact ⟨Nat.zero_le _, (by omega : (i 0).val < 0 + 512)⟩
    · exact ⟨h, (by omega : (i 1).val < 1280 + 768)⟩

theorem out_cut : (fr c mO : sProp 𝕄) ⊢ iprop(fr c oA ∗ fr c oB ∗ fr c oC) := by
  have h : (fr c mO : sProp 𝕄) ⊢ lsep (fun t => fr c (mO.slice (rO3 t) (by fin_cases t <;> exact fun _ => rfl))) [0, 1, 2] := by
    rw [lsep_eq _ _ (by decide), show ([0, 1, 2] : List (Fin 3)).toFinset = Finset.univ from by decide]
    exact free_rects (T := Fin 3) (c : Thread nD τ) mO rO3 (fun t => by fin_cases t <;> exact fun _ => rfl) rO3_disj rO3_cov
  simp only [lsep_cons, lsep_nil] at h
  iintro H
  ihave H := h $$ H
  icases H with ⟨HA, HB, HC, -⟩
  isplitl [HA]; · iexact HA
  isplitl [HB]; · iexact HB
  iexact HC

/-- The device's block of the rectified product. -/
def yJ : FVec F S512x2048 .f32 := fun j =>
  if hA : (j 1).val < 640 then yA m c (fun a => ⟨if a.val = 0 then (j 0).val else (j 1).val, by
      have h0 := (j 0).isLt
      fin_cases a
      · exact h0
      · exact hA⟩)
  else if hB : (j 1).val < 1280 then yB m c (fun a => ⟨if a.val = 0 then (j 0).val else (j 1).val - 640, by
      have h0 := (j 0).isLt
      fin_cases a
      · exact h0
      · show (j 1).val - 640 < 640; omega⟩)
  else yC m c (fun a => ⟨if a.val = 0 then (j 0).val else (j 1).val - 1280, by
      have h0 := (j 0).isLt
      have h1 : (j 1).val < 2048 := (j 1).isLt
      fin_cases a
      · exact h0
      · show (j 1).val - 1280 < 768; omega⟩)

theorem yJ_A : (fun j => yJ m c (rOA.emb j)) = yA m c := by
  funext j
  have h1 : (j 1).val < 640 := (j 1).isLt
  have e0 : (rOA.emb j 0).val = (j 0).val := by show 0 + 1 * (j 0).val = _; omega
  have e1 : (rOA.emb j 1).val = (j 1).val := by show 0 + 1 * (j 1).val = _; omega
  unfold yJ
  rw [dif_pos (by rw [e1]; exact h1)]
  congr 1
  funext a
  apply Fin.ext
  fin_cases a
  · exact e0
  · exact e1

theorem yJ_B : (fun j => yJ m c (rOB.emb j)) = yB m c := by
  funext j
  have h1 : (j 1).val < 640 := (j 1).isLt
  have e0 : (rOB.emb j 0).val = (j 0).val := by show 0 + 1 * (j 0).val = _; omega
  have e1 : (rOB.emb j 1).val = 640 + (j 1).val := by show 640 + 1 * (j 1).val = _; omega
  unfold yJ
  rw [dif_neg (by rw [e1]; omega), dif_pos (by rw [e1]; omega)]
  congr 1
  funext a
  apply Fin.ext
  fin_cases a
  · exact e0
  · show (rOB.emb j 1).val - 640 = _; rw [e1]; exact Nat.add_sub_cancel_left _ _

theorem yJ_C : (fun j => yJ m c (rOC.emb j)) = yC m c := by
  funext j
  have h1 : (j 1).val < 768 := (j 1).isLt
  have e0 : (rOC.emb j 0).val = (j 0).val := by show 0 + 1 * (j 0).val = _; omega
  have e1 : (rOC.emb j 1).val = 1280 + (j 1).val := by show 1280 + 1 * (j 1).val = _; omega
  unfold yJ
  rw [dif_neg (by rw [e1]; omega), dif_neg (by rw [e1]; omega)]
  congr 1
  funext a
  apply Fin.ext
  fin_cases a
  · exact e0
  · show (rOC.emb j 1).val - 1280 = _; rw [e1]; exact Nat.add_sub_cancel_left _ _

theorem out_rects (X : S512x2048.Idx → Elt F .f32) :
    bigSep (Finset.univ : Finset (Fin 3)) (fun t => owns (c : Thread nD τ) (mO.slice (rO3 t) (by fin_cases t <;> exact fun _ => rfl)) fullShare (fun j => X ((rO3 t).emb j)))
      ⊢ (ow c mO X : sProp 𝕄) :=
  owns_of_rects (T := Fin 3) (c : Thread nD τ) mO fullShare rO3 (fun t => by fin_cases t <;> exact fun _ => rfl) rO3_disj rO3_cov X

/-- The column ranges of the result make it up. -/
theorem out_join : iprop(ow c oA (yA m c) ∗ ow c oB (yB m c) ∗ ow c oC (yC m c)) ⊢ (ow c mO (yJ m c) : sProp 𝕄) := by
  have h := out_rects (F := F) c (yJ m c)
  rw [← show ([0, 1, 2] : List (Fin 3)).toFinset = Finset.univ from by decide, ← lsep_eq _ _ (by decide)] at h
  simp only [lsep_cons, lsep_nil] at h
  iintro ⟨HA, HB, HC⟩
  iapply h
  isplitl [HA]
  · iapply (BIBase.Entails.of_eq (congrArg (fun X => ow c oA X) (yJ_A m c).symm)); iexact HA
  isplitl [HB]
  · iapply (BIBase.Entails.of_eq (congrArg (fun X => ow c oB X) (yJ_B m c).symm)); iexact HB
  isplitl [HC]
  · iapply (BIBase.Entails.of_eq (congrArg (fun X => ow c oC X) (yJ_C m c).symm)); iexact HC
  iempintro

/-! ## What a device holds for the rows of maxima -/

/-- For device `d`'s row: the position at its cell and, unless the row is the device's own, the credit to wait. -/
def axI (d : Dev nD) : sProp 𝕄 :=
  iprop(atPos ER (cel c (xK d)) 0 ∅ 0 ∗ (if d = c then iprop(emp) else cred (tallyAt (cel c (xK d)) () 16)))

theorem axI_ne (d : Dev nD) (h : d ≠ c) : axI (F := F) c d = axW m c d := by
  unfold axI axW; rw [if_neg h, if_neg h]

theorem ax_own : iprop(lsep (axI c) [0, 1, 2, 3, 4, 5, 6, 7] ∗ ow c (axR c) (aRow m c c)) ⊢ lsep (axW m c) [0, 1, 2, 3, 4, 5, 6, 7] := by
  have e : ([0, 1, 2, 3, 4, 5, 6, 7] : List (Dev nD)).toFinset = [c, nR 1 c, nR 2 c, nR 3 c, nR 4 c, nR 5 c, nR 6 c, nR 7 c].toFinset := by revert c; decide
  have hn : [c, nR 1 c, nR 2 c, nR 3 c, nR 4 c, nR 5 c, nR 6 c, nR 7 c].Nodup := by revert c; decide
  have hk (k : Fin 8) (h : k ≠ 0) : nR k c ≠ c := by revert c k; decide
  rw [lsep_perm (axI (F := F) c) (by decide) hn e, lsep_perm (axW m c) (by decide) hn e]
  simp only [lsep_cons, axI_ne m c _ (hk 1 (by decide)), axI_ne m c _ (hk 2 (by decide)), axI_ne m c _ (hk 3 (by decide)), axI_ne m c _ (hk 4 (by decide)),
    axI_ne m c _ (hk 5 (by decide)), axI_ne m c _ (hk 6 (by decide)), axI_ne m c _ (hk 7 (by decide))]
  have h0 : iprop(axI c c ∗ ow c (axR c) (aRow m c c)) ⊢ axW m c c := by
    unfold axI axW
    rw [if_pos rfl, if_pos rfl]
    iintro ⟨⟨H, -⟩, H'⟩
    isplitl [H]; · iexact H
    iexact H'
  iintro ⟨⟨H, Hr⟩, Ho⟩
  isplitr [Hr]
  · iapply h0
    isplitl [H]; · iexact H
    iexact Ho
  iexact Hr

/-- The destinations of the seven copies of the device's row, by neighbour and by relative place. -/
theorem dst_perm : lsep (fun n => fr n (axR c)) [nX c, nY c, nZ c, nX (nY c), nZ (nX c), nY (nZ c), nX (nY (nZ c))]
    = (lsep (fun n => fr n (axR c)) [nR 1 c, nR 2 c, nR 3 c, nR 4 c, nR 5 c, nR 6 c, nR 7 c] : sProp 𝕄) :=
  lsep_perm _ (by revert c; decide) (by revert c; decide) (by revert c; decide)

end Cert.KernelIdeal.Pf
-- ==== Proof.Body.lean ====
module

public import proofs.«01_k».proof.Proof.Mem

/-!
The parts of the kernel's body at its own memrefs; its parts one after the other.
-/

@[expose] public section

set_option maxRecDepth 16384

noncomputable section

namespace Cert.KernelIdeal.Pf

open Cert.KernelIdeal Cert.KernelIdeal.Gen Cert.Pieces
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Kix → ℕ) (c : Dev nD)

/-- One program after another. -/
theorem wp_seq {α β : Type} {p : Prog (TpuEff nD τ sig (Elt F) Λ₀ .tc) α} {k : α → Prog (TpuEff nD τ sig (Elt F) Λ₀ .tc) β}
    {Q : β → sProp (MT nD τ sig Unit (Elt F) ℕ UU ℕ)} : wp frame (wpE (defs₀ (F := F)) 𝒱₀ (c : Thread nD τ) none) Set.univ p (fun a => wp frame (wpE (defs₀ (F := F)) 𝒱₀ (c : Thread nD τ) none) Set.univ (k a) Q) ⊢ wp frame (wpE (defs₀ (F := F)) 𝒱₀ (c : Thread nD τ) none) Set.univ (p >>= k) Q :=
  BIBase.Entails.of_eq (wp_bind _ _ _ p k Q).symm

/-- The semaphore side of a device at the start: its tokens, credits and positions. -/
def toks : sProp 𝕄 :=
  iprop(dutyTok ER (barCell (nX c)) 0 0 ∗ dutyTok ER (barCell (nY c)) 0 1 ∗ dutyTok ER (barCell (nZ c)) 0 2
    ∗ cred (tallyAt (barCell c) () 3) ∗ atPos ER (barCell c) 0 ∅ 0
    ∗ lsep (tokT c) ordS ∗ lsep (wtT c) ordR ∗ lsep (axI c) [0, 1, 2, 3, 4, 5, 6, 7] ∗ atPos ER (cel c 42) 0 ∅ 0)

/-- Equal contents. -/
theorem ow_to {s : Shape} {e : EltTy} {q : Memref sig .tc .vmem s e} {X Y : s.Idx → Elt F e} (h : X = Y) : (ow c q X : sProp 𝕄) ⊢ ow c q Y := by rw [h]

/-- The state before the first copy. -/
theorem St_intro (ls lw : List (Fin 28)) :
    iprop(recs m K ∗ (∃ W, owes (c : Thread nD τ) (owedT c ls) W) ∗ lsep (tokT c) ls ∗ lsep (wtT c) lw) ⊢ St m K c ls [] lw [] := by
  unfold St
  simp only [lsep_nil]
  iintro ⟨HR, HO, Ht, Hw⟩
  isplitl [HR]; · iexact HR
  isplitl [HO]; · iexact HO
  isplitl [Ht]; · iexact Ht
  isplitl []; · iempintro
  isplitl [Hw]; · iexact Hw
  iempintro

/-- The issued copies in another order. -/
theorem St_perm {lt lt' : List (Fin 28)} {ls lw : List (Fin 28)} {lz : List (Fin 58)} (h : lt.Nodup) (h' : lt'.Nodup) (e : lt.toFinset = lt'.toFinset) :
    St m K c ls lt lw lz ⊢ St m K c ls lt' lw lz := by
  unfold St; rw [lsep_perm (sntT c) h h' e]

/-- The block a device ends up with. -/
def OUT : FVec F S512x2048 .f32 := k0_pay35 (k0_pay33 (AD m c)) (k0_pay34 (AD m c)) (yJ m c)

/-- The cells as they close. -/
def doneK (c : Dev nD) : List (Fin 58) := [42, sK 27, sK 26, sK 25, sK 24, sK 23, sK 22, sK 21, sK 20, sK 19, sK 18, sK 17, sK 16, sK 15, sK 14, sK 13, sK 12, sK 8, sK 4, sK 0, sK 9, sK 6, sK 10, sK 1, sK 5, sK 2, sK 11, sK 7, sK 3, xK 7, xK 6, xK 5, xK 4, xK 3, xK 2, xK 1, xK 0, rK 20 c, rK 16 c, rK 8 c, rK 19 c, rK 14 c, rK 4 c, rK 18 c, rK 12 c, rK 0 c, rK 17 c, rK 9 c, rK 15 c, rK 5 c, rK 13 c, rK 1 c, rK 11 c, rK 10 c, rK 7 c, rK 6 c, rK 3 c, rK 2 c]

/-- What a device holds at the end: nothing owed, every cell at zero, its inputs as they were, its block of the
    result, its own buffers. -/
def endP : sProp 𝕄 :=
  iprop((∃ W, owes (c : Thread nD τ) (owedT c []) W) ∗ semVal (barCell c) 0 ∗ lsep (zK c) (doneK c)
    ∗ ow c mX (xs m c) ∗ ow c mW (ws m c) ∗ ow c mO (OUT m c) ∗ scr c)

/-- What is held besides at the end, before the buffers are put together again. -/
def midP : sProp 𝕄 := iprop(ow c mX (xs m c) ∗ ow c mW (ws m c) ∗ ow c mO (OUT m c) ∗ semVal (barCell c) 0 ∗ atPos ER (cel c 42) 0 ∅ 0 ∗ owns (c : Thread nD τ) mA (axq 7) (aX m c) ∗ ow c mXb (XB m c) ∗ ow c mWb (WB m c) ∗ fr c (pW 0) ∗ ow c (pA 1) (PA m c 1) ∗ ow c (pA 2) (PA m c 2) ∗ ow c (pA 3) (PA m c 3) ∗ ow c (pB 1) (PB m c 1) ∗ ow c (pB 4) (PB m c 4) ∗ ow c (pB 5) (PB m c 5) ∗ ow c (pC 2) (PC m c 2) ∗ ow c (pC 4) (PC m c 4) ∗ ow c (pC 6) (PC m c 6) ∗ ow c (rA1 0) (R1A m c 0) ∗ ow c (rA1 1) (R1A m c 1) ∗ ow c (rA1 2) (R1A m c 2) ∗ ow c (rA1 3) (R1A m c 3) ∗ ow c (rB1 0) (R1B m c 0) ∗ ow c (rB1 1) (R1B m c 1) ∗ ow c (rB1 2) (R1B m c 2) ∗ ow c (rB1 3) (R1B m c 3) ∗ ow c (rC1 0) (R1C m c 0) ∗ ow c (rC1 1) (R1C m c 1) ∗ ow c (rC1 2) (R1C m c 2) ∗ ow c (rC1 3) (R1C m c 3) ∗ ow c (rA2 0) (R2A m c 0) ∗ ow c (rA2 1) (R2A m c 1) ∗ ow c (rB2 0) (R2B m c 0) ∗ ow c (rB2 1) (R2B m c 1) ∗ ow c (rC2 0) (R2C m c 0) ∗ ow c (rC2 1) (R2C m c 1) ∗ ow c mRA3 (R3A m c) ∗ ow c mRB3 (R3B m c) ∗ ow c mRC3 (R3C m c) ∗ ow c mD (AD m c))

theorem dst_list : lsep (fun n => fr n (axR c)) [nR 1 c, nR 2 c, nR 3 c, nR 4 c, nR 5 c, nR 6 c, nR 7 c]
    ⊢ (iprop(fr (nR 1 c) (axR c) ∗ fr (nR 2 c) (axR c) ∗ fr (nR 3 c) (axR c) ∗ fr (nR 4 c) (axR c) ∗ fr (nR 5 c) (axR c) ∗ fr (nR 6 c) (axR c) ∗ fr (nR 7 c) (axR c)) : sProp 𝕄) := by
  simp only [lsep_cons, lsep_nil]
  iintro ⟨H1, H2, H3, H4, H5, H6, H7, -⟩
  iframe

/-- The body but for its last three waits. -/
theorem part34 {Q : _ → sProp (MT nD τ sig Unit (Elt F) ℕ UU ℕ)} :
    iprop(recs m K ∗ (∃ W, owes (c : Thread nD τ) (O₀ c) W) ∗ toks c ∗ ow c mX (xs m c) ∗ ow c mW (ws m c) ∗ fr c mO ∗ scr c)
      ⊢ iprop((iprop((St m K c [] [25, 26, 27] [] [sK 24, sK 23, sK 22, sK 21, sK 20, sK 19, sK 18, sK 17, sK 16, sK 15, sK 14, sK 13, sK 12, sK 8, sK 4, sK 0, sK 9, sK 6, sK 10, sK 1, sK 5, sK 2, sK 11, sK 7, sK 3, xK 7, xK 6, xK 5, xK 4, xK 3, xK 2, xK 1, xK 0, rK 20 c, rK 16 c, rK 8 c, rK 19 c, rK 14 c, rK 4 c, rK 18 c, rK 12 c, rK 0 c, rK 17 c, rK 9 c, rK 15 c, rK 5 c, rK 13 c, rK 1 c, rK 11 c, rK 10 c, rK 7 c, rK 6 c, rK 3 c, rK 2 c] ∗ lsep (sndPay m c) [24, 23, 22, 21, 20, 19, 18, 17, 16, 15, 14, 13, 12, 8, 4, 0, 9, 6, 10, 1, 5, 2, 11, 7, 3]) ∗ midP m c) -∗ Q c)
          -∗ wp frame (wpE (defs₀ (F := F)) 𝒱₀ (c : Thread nD τ) none) Set.univ (onArgs (k0_part34 (F := F))) Q) := by
  unfold onArgs
  rw [k0_part34_eq_skeleton]; unfold k0_part34_skel
  simp only [Prog.lift, Prog.bind_op, Prog.bind_ret, Prog.pure_eq_ret]
  iintro ⟨#HR, HO, HT, HX, HW, Hout, Hscr⟩ Hk
  unfold toks
  icases HT with ⟨Tk0, Tk1, Tk2, Cb, Ab, Tks, Wts, HI, A42⟩
  ihave Hout := (out_cut c) $$ Hout
  icases Hout with ⟨OA, OB, OC⟩
  ihave Hscr := (scr_open c) $$ Hscr
  icases Hscr with ⟨Bp0, Bp1, Bp2, HXb, HWb, W0, W1, W2, W3, W4, W5, W6, W7, SA0, SA1, SB0, SB1, SC0, SC1, HmSA3, HmSB3, HmSC3, HmA, D0⟩
  iapply (wp_seq c)
  iapply (part1 m K c) $$ [HO Tk0 Bp0 Tk1 Bp1]
  · isplitr; · iexact HR
    isplitl [HO]; · iexact HO
    isplitl [Tk0]; · iexact Tk0
    isplitl [Bp0]; · iexact Bp0
    isplitl [Tk1]; · iexact Tk1
    iexact Bp1
  iintro %v3 %v20 %v23 %v26 %v29 HO
  iapply (wp_seq c)
  iapply (part2 m K c) $$ [HO Tk2 Bp2 Cb Ab HX HW HXb HWb W7]
  · isplitr; · iexact HR
    isplitl [HO]; · iexact HO
    isplitl [Tk2]; · iexact Tk2
    isplitl [Bp2]; · iexact Bp2
    isplitl [Cb]; · iexact Cb
    isplitl [Ab]; · iexact Ab
    isplitl [HX]; · iexact HX
    isplitl [HW]; · iexact HW
    isplitl [HXb]; · iexact HXb
    isplitl [HWb]; · iexact HWb
    iexact W7
  iintro ⟨HO, Zb, GX, GY, GZ, HX, HW, HXb, HWb, PA7, PB7, PC7⟩
  unfold givX givY givZ
  icases GX with ⟨⟨nA10, nA11, nA12, nA13⟩, ⟨nC20, nC21⟩, nB3, dX, eYX, eYZX⟩
  icases GY with ⟨⟨nB10, nB11, nB12, nB13⟩, ⟨nA20, nA21⟩, nC3, dY, eZY⟩
  icases GZ with ⟨⟨nC10, nC11, nC12, nC13⟩, ⟨nB20, nB21⟩, nA3, dZ, eXZ⟩
  ihave HS := (St_intro m K c [3, 7, 11, 2, 5, 1, 10, 6, 9, 0, 4, 8, 12, 13, 14, 15, 16, 17, 18, 19, 20, 21, 22, 23, 24, 25, 26, 27]
    [2, 3, 6, 7, 10, 11, 1, 13, 5, 15, 9, 17, 0, 12, 18, 4, 14, 19, 8, 16, 20]) $$ [HO Tks Wts]
  · isplitr; · iexact HR
    isplitl [HO]; · iexact HO
    isplitl [Tks]; · iexact Tks
    iexact Wts
  iapply (wp_seq c)
  iapply (part3 m K c) $$ [HS PA7 nA13 PB7 nB13]
  · isplitl [HS]; · iexact HS
    isplitl [PA7]; · iexact PA7
    isplitl [nA13]; · iexact nA13
    isplitl [PB7]; · iexact PB7
    iexact nB13
  iintro HS
  iapply (wp_seq c)
  iapply (part4 m K c) $$ [HS PC7 nC13 HXb HWb W6 nA12 eXZ]
  · isplitl [HS]; · iexact HS
    isplitl [PC7]; · iexact PC7
    isplitl [nC13]; · iexact nC13
    isplitl [HXb]; · iexact HXb
    isplitl [HWb]; · iexact HWb
    isplitl [W6]; · iexact W6
    isplitl [nA12]; · iexact nA12
    iexact eXZ
  iintro ⟨HS, HXb, HWb, PB6, PC6⟩
  iapply (wp_seq c)
  iapply (part5 m K c) $$ [HS PB6 nB11 HXb HWb W5]
  · isplitl [HS]; · iexact HS
    isplitl [PB6]; · iexact PB6
    isplitl [nB11]; · iexact nB11
    isplitl [HXb]; · iexact HXb
    isplitl [HWb]; · iexact HWb
    iexact W5
  iintro ⟨HS, HXb, HWb, PA5, PB5, PC5⟩
  iapply (wp_seq c)
  iapply (part6 m K c) $$ [HS PA5 nA11 PC5 nC12 eZY HXb HWb W3]
  · isplitl [HS]; · iexact HS
    isplitl [PA5]; · iexact PA5
    isplitl [nA11]; · iexact nA11
    isplitl [PC5]; · iexact PC5
    isplitl [nC12]; · iexact nC12
    isplitl [eZY]; · iexact eZY
    isplitl [HXb]; · iexact HXb
    isplitl [HWb]; · iexact HWb
    iexact W3
  iintro ⟨HS, HXb, HWb, PA3, PB3, PC3⟩
  iapply (wp_seq c)
  iapply (part7 m K c) $$ [HS PB3 nB12 eYX eYZX PC3 nC11 HXb HWb W4]
  · isplitl [HS]; · iexact HS
    isplitl [PB3]; · iexact PB3
    isplitl [nB12]; · iexact nB12
    isplitl [eYX eYZX]
    · isplitl [eYX]; · iexact eYX
      iexact eYZX
    isplitl [PC3]; · iexact PC3
    isplitl [nC11]; · iexact nC11
    isplitl [HXb]; · iexact HXb
    isplitl [HWb]; · iexact HWb
    iexact W4
  iintro ⟨HS, HXb, HWb, W4⟩
  iapply (wp_seq c)
  iapply (part8 m K c rfl) $$ [HS W4 nA10 HXb HWb W2]
  · isplitl [HS]; · iexact HS
    isplitl [W4]; · iexact W4
    isplitl [nA10]; · iexact nA10
    isplitl [HXb]; · iexact HXb
    isplitl [HWb]; · iexact HWb
    iexact W2
  iintro ⟨HS, HXb, HWb, PB4, PC4, PA2, PB2, PC2⟩
  iapply (wp_seq c)
  iapply (part9 m K c) $$ [HS PB2 nB10 HXb HWb W1 nC10]
  · isplitl [HS]; · iexact HS
    isplitl [PB2]; · iexact PB2
    isplitl [nB10]; · iexact nB10
    isplitl [HXb]; · iexact HXb
    isplitl [HWb]; · iexact HWb
    isplitl [W1]; · iexact W1
    iexact nC10
  iintro ⟨HS, HXb, HWb, PA1, PB1⟩
  iapply (wp_seq c)
  iapply (part10 m K c) $$ [HS PA2 SA0]
  · isplitl [HS]; · iexact HS
    isplitl [PA2]; · iexact PA2
    iexact SA0
  iintro ⟨HS, PA2, A12, fZX, SA0⟩
  iapply (wp_seq c)
  iapply (part11 m K c) $$ [HS SA0 nA20 PA3 SA1]
  · isplitl [HS]; · iexact HS
    isplitl [SA0]; · iexact SA0
    isplitl [nA20]; · iexact nA20
    isplitl [PA3]; · iexact PA3
    iexact SA1
  iintro ⟨HS, PA3, A13, SA1⟩
  iapply (wp_seq c)
  iapply (part12 m K c) $$ [HS SA1 nA21 PB1 SB0]
  · isplitl [HS]; · iexact HS
    isplitl [SA1]; · iexact SA1
    isplitl [nA21]; · iexact nA21
    isplitl [PB1]; · iexact PB1
    iexact SB0
  iintro ⟨HS, PB1, B12, fXY, gXYZ, SB0⟩
  iapply (wp_seq c)
  iapply (part13 m K c) $$ [HS SB0 nB20 gXYZ PB5 SB1]
  · isplitl [HS]; · iexact HS
    isplitl [SB0]; · iexact SB0
    isplitl [nB20]; · iexact nB20
    isplitl [gXYZ]; · iexact gXYZ
    isplitl [PB5]; · iexact PB5
    iexact SB1
  iintro ⟨HS, PB5, B13, SB1⟩
  iapply (wp_seq c)
  iapply (part14 m K c) $$ [HS SB1 nB21 PC4 SC0]
  · isplitl [HS]; · iexact HS
    isplitl [SB1]; · iexact SB1
    isplitl [nB21]; · iexact nB21
    isplitl [PC4]; · iexact PC4
    iexact SC0
  iintro ⟨HS, PC4, C12, fYZ, SC0⟩
  iapply (wp_seq c)
  iapply (part15 m K c) $$ [HS SC0 nC20 PC6 SC1]
  · isplitl [HS]; · iexact HS
    isplitl [SC0]; · iexact SC0
    isplitl [nC20]; · iexact nC20
    isplitl [PC6]; · iexact PC6
    iexact SC1
  iintro %v417 ⟨HS, PC6, C13, SC1⟩
  iapply (wp_seq c)
  iapply (part16 m K c) $$ [HS SC1 nC21]
  · isplitl [HS]; · iexact HS
    isplitl [SC1]; · iexact SC1
    iexact nC21
  iintro ⟨HS, A11⟩
  iapply (wp_seq c)
  iapply (part17 m K c) $$ [HS PA1 A11 HmSA3 nA3]
  · isplitl [HS]; · iexact HS
    isplitl [PA1]; · iexact PA1
    isplitl [A11]; · iexact A11
    isplitl [HmSA3]; · iexact HmSA3
    iexact nA3
  iintro ⟨HS, PA1, A11, A21⟩
  iapply (wp_seq c)
  iapply (part18 m K c) $$ [HS PB4 HmSB3]
  · isplitl [HS]; · iexact HS
    isplitl [PB4]; · iexact PB4
    iexact HmSB3
  iintro ⟨HS, PB4, B11, B21, HmSB3⟩
  iapply (wp_seq c)
  iapply (part19 m K c) $$ [HS HmSB3 nB3 PC2]
  · isplitl [HS]; · iexact HS
    isplitl [HmSB3]; · iexact HmSB3
    isplitl [nB3]; · iexact nB3
    iexact PC2
  iintro ⟨HS, PC2, C11, C21⟩
  iapply (wp_seq c)
  iapply (part20 m K c) $$ [HS C21 HmSC3 nC3 HXb HWb]
  · isplitl [HS]; · iexact HS
    isplitl [C21]; · iexact C21
    isplitl [HmSC3]; · iexact HmSC3
    isplitl [nC3]; · iexact nC3
    isplitl [HXb]; · iexact HXb
    iexact HWb
  iintro ⟨HS, C21, HXb, HWb, A10⟩
  iapply (wp_seq c)
  iapply (part21 m K c) $$ [HS A10 OA]
  · isplitl [HS]; · iexact HS
    isplitl [A10]; · iexact A10
    iexact OA
  iintro ⟨HS, A10, A20, HmRA3, OA⟩
  iapply (wp_seq c)
  iapply (part22 m K c) $$ [HS]
  · iexact HS
  iintro ⟨HS, B10, B20, fXYZ, HmRB3⟩
  iapply (wp_seq c)
  iapply (part23 m K c) $$ [HS B20 HmRB3 OB]
  · isplitl [HS]; · iexact HS
    isplitl [B20]; · iexact B20
    isplitl [HmRB3]; · iexact HmRB3
    iexact OB
  iintro ⟨HS, B20, HmRB3, C10, OB⟩
  iapply (wp_seq c)
  iapply (part24 m K c) $$ [HS C10 OC HmA]
  · isplitl [HS]; · iexact HS
    isplitl [C10]; · iexact C10
    isplitl [OC]; · iexact OC
    iexact HmA
  iintro ⟨HS, C10, C20, HmRC3, OC, HmA⟩
  ihave HD := (BIBase.Entails.of_eq (dst_perm (F := F) c)) $$ [dX dY dZ fXY fZX fYZ fXYZ]
  · simp only [lsep_cons, lsep_nil]
    isplitl [dX]; · iexact dX
    isplitl [dY]; · iexact dY
    isplitl [dZ]; · iexact dZ
    isplitl [fXY]; · iexact fXY
    isplitl [fZX]; · iexact fZX
    isplitl [fYZ]; · iexact fYZ
    isplitl [fXYZ]; · iexact fXYZ
    iempintro
  ihave HD := (dst_list c) $$ HD
  icases HD with ⟨D1, D2, D3, D4, D5, D6, D7⟩
  ihave HmA := (ow_to c (Y := aX m c) (by unfold aX aB aA cO; dsimp only)) $$ HmA
  ihave HO := (out_join m c) $$ [OA OB OC]
  · isplitl [OA]; · iexact OA
    isplitl [OB]; · iexact OB
    iexact OC
  iapply (wp_seq c)
  iapply (part25 m K c (by unfold aX aB aA cO; dsimp only)) $$ [HS HmA D0 D1 D2 D3]
  · isplitl [HS]; · iexact HS
    isplitl [HmA]; · iexact HmA
    isplitl [D0]; · iexact D0
    isplitl [D1]; · iexact D1
    isplitl [D2]; · iexact D2
    iexact D3
  iintro ⟨HS, HmA, D0⟩
  iapply (wp_seq c)
  iapply (part26 m K c) $$ [HS HmA D4 D5 D6 D7]
  · isplitl [HS]; · iexact HS
    isplitl [HmA]; · iexact HmA
    isplitl [D4]; · iexact D4
    isplitl [D5]; · iexact D5
    isplitl [D6]; · iexact D6
    iexact D7
  iintro ⟨HS, HmA⟩
  ihave HI := (ax_own m c) $$ [HI D0]
  · isplitl [HI]; · iexact HI
    iexact D0
  iapply (wp_seq c)
  iapply (part27 m K c) $$ [HS HI HO]
  · isplitr [HO]
    · isplitl [HS]; · iexact HS
      isplitl [HI]; · iexact HI
      simp only [lsep_nil]
      iempintro
    iexact HO
  iintro ⟨HS, HmD, HO⟩
  ihave HS := (St_perm m K c (lt' := [3, 7, 11, 2, 5, 1, 10, 6, 9, 0, 4, 8, 12, 13, 14, 15, 16, 17, 18, 19, 20, 21, 22, 23, 24, 25, 26, 27]) (by decide) (by decide) (by decide)) $$ HS
  iapply (wp_seq c)
  iapply (part28 m K c (lp := [])) $$ [HS HO]
  · isplitr [HO]
    · isplitl [HS]; · iexact HS
      simp only [lsep_nil]
      iempintro
    iexact HO
  iintro ⟨H, HO⟩
  iapply (wp_seq c)
  iapply (part29 m K c) $$ H
  iintro H
  iapply (wp_seq c)
  iapply (part30 m K c) $$ H
  iintro H
  iapply (wp_seq c)
  iapply (part31 m K c) $$ H
  iintro H
  iapply (wp_seq c)
  iapply (part32 m K c) $$ H
  iintro H
  iapply (wp_seq c)
  iapply (part33 m K c) $$ H
  iintro H
  iapply (wp_dep m K c 21 rfl (by decide)) $$ H
  iintro H
  iapply (wp_dep m K c 22 rfl (by decide)) $$ H
  iintro H
  iapply (wp_dep m K c 23 rfl (by decide)) $$ H
  iintro H
  iapply (wp_dep m K c 24 rfl (by decide)) $$ H
  iintro H
  rw [wp_ret]; imodintro
  iapply Hk
  isplitl [H]; · iexact H
  unfold midP
  isplitl [HX]; · iexact HX
  isplitl [HW]; · iexact HW
  isplitl [HO]; · iexact HO
  isplitl [Zb]; · iexact Zb
  isplitl [A42]; · iexact A42
  isplitl [HmA]; · iexact HmA
  isplitl [HXb]; · iexact HXb
  isplitl [HWb]; · iexact HWb
  isplitl [W0]; · iexact W0
  isplitl [PA1]; · iexact PA1
  isplitl [PA2]; · iexact PA2
  isplitl [PA3]; · iexact PA3
  isplitl [PB1]; · iexact PB1
  isplitl [PB4]; · iexact PB4
  isplitl [PB5]; · iexact PB5
  isplitl [PC2]; · iexact PC2
  isplitl [PC4]; · iexact PC4
  isplitl [PC6]; · iexact PC6
  isplitl [A10]; · iexact A10
  isplitl [A11]; · iexact A11
  isplitl [A12]; · iexact A12
  isplitl [A13]; · iexact A13
  isplitl [B10]; · iexact B10
  isplitl [B11]; · iexact B11
  isplitl [B12]; · iexact B12
  isplitl [B13]; · iexact B13
  isplitl [C10]; · iexact C10
  isplitl [C11]; · iexact C11
  isplitl [C12]; · iexact C12
  isplitl [C13]; · iexact C13
  isplitl [A20]; · iexact A20
  isplitl [A21]; · iexact A21
  isplitl [B20]; · iexact B20
  isplitl [B21]; · iexact B21
  isplitl [C20]; · iexact C20
  isplitl [C21]; · iexact C21
  isplitl [HmRA3]; · iexact HmRA3
  isplitl [HmRB3]; · iexact HmRB3
  isplitl [HmRC3]; · iexact HmRC3
  iexact HmD

/-- The pieces of one slab, at contents, are the slab. -/
theorem slab_back (k : Fin 8) {X : S1x512x640.Idx → Elt F .bf16} {Y : S1x512x640.Idx → Elt F .bf16} {Z : S1x512x768.Idx → Elt F .bf16} :
    (iprop(ow c (pA k) X ∗ ow c (pB k) Y ∗ ow c (pC k) Z) : sProp 𝕄) ⊢ fr c (pW k) := by
  iintro ⟨HA, HB, HC⟩
  iapply (slab_join c k)
  isplitl [HA]; · iapply (owns_free (c : Thread nD τ) (pA k) X); iexact HA
  isplitl [HB]; · iapply (owns_free (c : Thread nD τ) (pB k) Y); iexact HB
  iapply (owns_free (c : Thread nD τ) (pC k) Z); iexact HC

/-- The shares of the device's row that its copies held, and the one kept, are the row. -/
theorem ax_back : iprop(owns (c : Thread nD τ) mA (axq 7) (aX m c) ∗ owns (c : Thread nD τ) mA (axl 6) (aX m c) ∗ owns (c : Thread nD τ) mA (axl 5) (aX m c)
    ∗ owns (c : Thread nD τ) mA (axl 4) (aX m c) ∗ owns (c : Thread nD τ) mA (axl 3) (aX m c) ∗ owns (c : Thread nD τ) mA (axl 2) (aX m c)
    ∗ owns (c : Thread nD τ) mA (axl 1) (aX m c) ∗ owns (c : Thread nD τ) mA (axl 0) (aX m c)) ⊢ ow c mA (aX m c) := by
  have h (i : ℕ) : iprop(owns (c : Thread nD τ) mA (axq (i + 1)) (aX m c) ∗ owns (c : Thread nD τ) mA (axl i) (aX m c)) ⊢ (owns (c : Thread nD τ) mA (axq i) (aX m c) : sProp 𝕄) := by
    iintro ⟨H, H'⟩
    iapply (owns_halves (c : Thread nD τ) mA (axq i) (aX m c)).2
    isplitl [H']; · iexact H'
    iexact H
  iintro ⟨H, H6, H5, H4, H3, H2, H1, H0⟩
  ihave H := (h 6) $$ [H H6]
  · isplitl [H]; · iexact H
    iexact H6
  ihave H := (h 5) $$ [H H5]
  · isplitl [H]; · iexact H
    iexact H5
  ihave H := (h 4) $$ [H H4]
  · isplitl [H]; · iexact H
    iexact H4
  ihave H := (h 3) $$ [H H3]
  · isplitl [H]; · iexact H
    iexact H3
  ihave H := (h 2) $$ [H H2]
  · isplitl [H]; · iexact H
    iexact H2
  ihave H := (h 1) $$ [H H1]
  · isplitl [H]; · iexact H
    iexact H1
  ihave H := (h 0) $$ [H H0]
  · isplitl [H]; · iexact H
    iexact H0
  iexact H

/-- The kernel's buffers back from what the waits returned and what was kept. -/
theorem mem_back : iprop(lsep (sndPay m c) [27, 26, 25, 24, 23, 22, 21, 20, 19, 18, 17, 16, 15, 14, 13, 12, 8, 4, 0, 9, 6, 10, 1, 5, 2, 11, 7, 3] ∗ owns (c : Thread nD τ) mA (axq 7) (aX m c) ∗ ow c mXb (XB m c) ∗ ow c mWb (WB m c) ∗ fr c (pW 0) ∗ ow c (pA 1) (PA m c 1) ∗ ow c (pA 2) (PA m c 2) ∗ ow c (pA 3) (PA m c 3) ∗ ow c (pB 1) (PB m c 1) ∗ ow c (pB 4) (PB m c 4) ∗ ow c (pB 5) (PB m c 5) ∗ ow c (pC 2) (PC m c 2) ∗ ow c (pC 4) (PC m c 4) ∗ ow c (pC 6) (PC m c 6) ∗ ow c (rA1 0) (R1A m c 0) ∗ ow c (rA1 1) (R1A m c 1) ∗ ow c (rA1 2) (R1A m c 2) ∗ ow c (rA1 3) (R1A m c 3) ∗ ow c (rB1 0) (R1B m c 0) ∗ ow c (rB1 1) (R1B m c 1) ∗ ow c (rB1 2) (R1B m c 2) ∗ ow c (rB1 3) (R1B m c 3) ∗ ow c (rC1 0) (R1C m c 0) ∗ ow c (rC1 1) (R1C m c 1) ∗ ow c (rC1 2) (R1C m c 2) ∗ ow c (rC1 3) (R1C m c 3) ∗ ow c (rA2 0) (R2A m c 0) ∗ ow c (rA2 1) (R2A m c 1) ∗ ow c (rB2 0) (R2B m c 0) ∗ ow c (rB2 1) (R2B m c 1) ∗ ow c (rC2 0) (R2C m c 0) ∗ ow c (rC2 1) (R2C m c 1) ∗ ow c mRA3 (R3A m c) ∗ ow c mRB3 (R3B m c) ∗ ow c mRC3 (R3C m c) ∗ ow c mD (AD m c)) ⊢ scr c := by
  simp only [lsep_cons, lsep_nil]
  unfold sndPay
  iintro ⟨⟨X6, X5, X4, X3, X2, X1, X0, HmSC3, HmSB3, HmSA3, SC1, SC0, SB1, SB0, SA1, SA0, PC1, PB2, PA4, PC3, PB3, PC5, PA5, PB6, PA6, PC7, PB7, PA7, -⟩, HmA, HXb, HWb, W0, PA1, PA2, PA3, PB1, PB4, PB5, PC2, PC4, PC6, A10, A11, A12, A13, B10, B11, B12, B13, C10, C11, C12, C13, A20, A21, B20, B21, C20, C21, HmRA3, HmRB3, HmRC3, HmD⟩
  ihave HmA := (ax_back m c) $$ [HmA X6 X5 X4 X3 X2 X1 X0]
  · isplitl [HmA]; · iexact HmA
    isplitl [X6]; · iexact X6
    isplitl [X5]; · iexact X5
    isplitl [X4]; · iexact X4
    isplitl [X3]; · iexact X3
    isplitl [X2]; · iexact X2
    isplitl [X1]; · iexact X1
    iexact X0
  ihave W1 := (slab_back c 1) $$ [PA1 PB1 PC1]
  · isplitl [PA1]; · iexact PA1
    isplitl [PB1]; · iexact PB1
    iexact PC1
  ihave W2 := (slab_back c 2) $$ [PA2 PB2 PC2]
  · isplitl [PA2]; · iexact PA2
    isplitl [PB2]; · iexact PB2
    iexact PC2
  ihave W3 := (slab_back c 3) $$ [PA3 PB3 PC3]
  · isplitl [PA3]; · iexact PA3
    isplitl [PB3]; · iexact PB3
    iexact PC3
  ihave W4 := (slab_back c 4) $$ [PA4 PB4 PC4]
  · isplitl [PA4]; · iexact PA4
    isplitl [PB4]; · iexact PB4
    iexact PC4
  ihave W5 := (slab_back c 5) $$ [PA5 PB5 PC5]
  · isplitl [PA5]; · iexact PA5
    isplitl [PB5]; · iexact PB5
    iexact PC5
  ihave W6 := (slab_back c 6) $$ [PA6 PB6 PC6]
  · isplitl [PA6]; · iexact PA6
    isplitl [PB6]; · iexact PB6
    iexact PC6
  ihave W7 := (slab_back c 7) $$ [PA7 PB7 PC7]
  · isplitl [PA7]; · iexact PA7
    isplitl [PB7]; · iexact PB7
    iexact PC7
  iapply (scr_close c)
  isplitl [HXb]; · iapply (owns_free (c : Thread nD τ)); iexact HXb
  isplitl [HWb]; · iapply (owns_free (c : Thread nD τ)); iexact HWb
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [A10]; · iapply (owns_free (c : Thread nD τ)); iexact A10
  isplitl [A11]; · iapply (owns_free (c : Thread nD τ)); iexact A11
  isplitl [A12]; · iapply (owns_free (c : Thread nD τ)); iexact A12
  isplitl [A13]; · iapply (owns_free (c : Thread nD τ)); iexact A13
  isplitl [B10]; · iapply (owns_free (c : Thread nD τ)); iexact B10
  isplitl [B11]; · iapply (owns_free (c : Thread nD τ)); iexact B11
  isplitl [B12]; · iapply (owns_free (c : Thread nD τ)); iexact B12
  isplitl [B13]; · iapply (owns_free (c : Thread nD τ)); iexact B13
  isplitl [C10]; · iapply (owns_free (c : Thread nD τ)); iexact C10
  isplitl [C11]; · iapply (owns_free (c : Thread nD τ)); iexact C11
  isplitl [C12]; · iapply (owns_free (c : Thread nD τ)); iexact C12
  isplitl [C13]; · iapply (owns_free (c : Thread nD τ)); iexact C13
  isplitl [A20]; · iapply (owns_free (c : Thread nD τ)); iexact A20
  isplitl [A21]; · iapply (owns_free (c : Thread nD τ)); iexact A21
  isplitl [B20]; · iapply (owns_free (c : Thread nD τ)); iexact B20
  isplitl [B21]; · iapply (owns_free (c : Thread nD τ)); iexact B21
  isplitl [C20]; · iapply (owns_free (c : Thread nD τ)); iexact C20
  isplitl [C21]; · iapply (owns_free (c : Thread nD τ)); iexact C21
  isplitl [HmRA3]; · iapply (owns_free (c : Thread nD τ)); iexact HmRA3
  isplitl [HmRB3]; · iapply (owns_free (c : Thread nD τ)); iexact HmRB3
  isplitl [HmRC3]; · iapply (owns_free (c : Thread nD τ)); iexact HmRC3
  isplitl [SA0]; · iapply (owns_free (c : Thread nD τ)); iexact SA0
  isplitl [SA1]; · iapply (owns_free (c : Thread nD τ)); iexact SA1
  isplitl [SB0]; · iapply (owns_free (c : Thread nD τ)); iexact SB0
  isplitl [SB1]; · iapply (owns_free (c : Thread nD τ)); iexact SB1
  isplitl [SC0]; · iapply (owns_free (c : Thread nD τ)); iexact SC0
  isplitl [SC1]; · iapply (owns_free (c : Thread nD τ)); iexact SC1
  isplitl [HmSA3]; · iapply (owns_free (c : Thread nD τ)); iexact HmSA3
  isplitl [HmSB3]; · iapply (owns_free (c : Thread nD τ)); iexact HmSB3
  isplitl [HmSC3]; · iapply (owns_free (c : Thread nD τ)); iexact HmSC3
  isplitl [HmA]; · iapply (owns_free (c : Thread nD τ)); iexact HmA
  iapply (owns_free (c : Thread nD τ)); iexact HmD

/-- The body. -/
theorem sound_body {Q : _ → sProp (MT nD τ sig Unit (Elt F) ℕ UU ℕ)} :
    iprop(recs m K ∗ (∃ W, owes (c : Thread nD τ) (O₀ c) W) ∗ toks c ∗ ow c mX (xs m c) ∗ ow c mW (ws m c) ∗ fr c mO ∗ scr c)
      ⊢ iprop((endP m c -∗ Q ⟨⟩) -∗ wp frame (wpE (defs₀ (F := F)) 𝒱₀ (c : Thread nD τ) none) Set.univ (onArgs (cc0_body (F := F))) Q) := by
  unfold onArgs
  rw [cc0_body_eq_skeleton]; unfold cc0_body_skel
  simp only [Prog.lift, Prog.bind_op, Prog.bind_ret, Prog.pure_eq_ret]
  iintro ⟨#HR, H⟩ Hk
  iapply (wp_seq c)
  iapply (part34 m K c) $$ [H]
  · isplitr; · iexact HR
    iexact H
  iintro ⟨H, Hm⟩
  iapply (wp_dep m K c 25 rfl (by decide)) $$ H
  iintro H
  iapply (wp_dep m K c 26 rfl (by decide)) $$ H
  iintro H
  iapply (wp_dep m K c 27 rfl (by decide)) $$ H
  iintro ⟨HS, Hp⟩
  unfold midP
  icases Hm with ⟨HX, HW, HO, Zb, A42, Hmem⟩
  ihave H1 := (recs_cel m K c 42) $$ HR
  icases H1 with ⟨#HI, -⟩
  imod (Rounds.cell_close ER (Rd m) (Set.mem_univ (K (c, some 42))) (fun h => h) (R := 0)
    (fun r _ => duties_unused m c 42 (fun h => h.1 rfl) r)) $$ [A42] with Z42
  · isplitr; · iexact HI
    iexact A42
  rw [wp_ret]; imodintro
  iapply Hk
  unfold St endP doneK
  icases HS with ⟨-, Ho, -, -, -, Hz⟩
  isplitl [Ho]; · iexact Ho
  isplitl [Zb]; · iexact Zb
  isplitl [Z42 Hz]
  · simp only [lsep_cons]
    isplitl [Z42]; · unfold zK; iexact Z42
    iexact Hz
  isplitl [HX]; · iexact HX
  isplitl [HW]; · iexact HW
  isplitl [HO]; · iexact HO
  iapply (mem_back m c)
  isplitl [Hp]; · iexact Hp
  iexact Hmem

end Cert.KernelIdeal.Pf
-- ==== Proof.Ghost.lean ====
module

public import proofs.«01_k».proof.Proof.Body

/-!
What the launch deals out: the cells' invariants, every device's positions, tokens and credits.
-/

@[expose] public section

set_option maxRecDepth 16384

noncomputable section

namespace Cert.KernelIdeal.Pf

open Cert.KernelIdeal Cert.KernelIdeal.Gen Cert.Pieces
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Lists -/

theorem lsep_map {S T : Type} (Φ : T → sProp 𝕄) (f : S → T) (l : List S) : lsep Φ (l.map f) = lsep (fun s => Φ (f s)) l := by
  induction l with
  | nil => rfl
  | cons s l ih => rw [List.map_cons, lsep_cons, lsep_cons, ih]

theorem lsep_congr {T : Type} {Φ Ψ : T → sProp 𝕄} {l : List T} (h : ∀ t ∈ l, Φ t = Ψ t) : lsep Φ l = lsep Ψ l := by
  induction l with
  | nil => rfl
  | cons t l ih => rw [lsep_cons, lsep_cons, h t List.mem_cons_self, ih fun s hs => h s (List.mem_cons_of_mem _ hs)]

/-- Two lists of resources side by side, element by element. -/
theorem lsep_sep {T : Type} (Φ Ψ : T → sProp 𝕄) (l : List T) : iprop(lsep Φ l ∗ lsep Ψ l) ⊢ lsep (fun t => iprop(Φ t ∗ Ψ t)) l := by
  induction l with
  | nil => simp only [lsep_nil]; iintro ⟨-, -⟩; iempintro
  | cons t l ih =>
    simp only [lsep_cons]
    iintro ⟨⟨H1, H2⟩, H3, H4⟩
    isplitl [H1 H3]
    · isplitl [H1]; · iexact H1
      iexact H3
    iapply ih
    isplitl [H2]; · iexact H2
    iexact H4

theorem lsep_all {T : Type} [DecidableEq T] [Fintype T] (Φ : T → sProp 𝕄) (l : List T) (h : l.Nodup) (e : ∀ t, t ∈ l) :
    bigSep Finset.univ Φ = lsep Φ l := by
  rw [lsep_eq Φ l h, Finset.eq_univ_iff_forall.mpr fun t => List.mem_toFinset.mpr (e t)]

/-- The barrier's entry apart from the others. -/
theorem opt_split (Φ : Option (Fin 58) → sProp 𝕄) : bigSep Finset.univ Φ = iprop((bigSep Finset.univ fun k => Φ (some k)) ∗ Φ none) := by
  rw [bigSep_univ_equiv (Equiv.optionEquivSumPUnit.{0} (Fin 58)).symm, bigSep_univ_sum, bigSep_univ_of_subsingleton PUnit.unit]
  rfl

/-! ## The cells -/

abbrev osem (k : Fin 58) : SemLoc sig := .dma (dS k)

theorem ownSemFacts : Pipeline.OwnSemFacts cfg0.spec osem := by decide

theorem csem_inj {k k' : Option (Fin 58)} (h : csem k = csem k') : k = k' := by
  match k, k', h with
  | none, none, _ => rfl
  | some k, none, h => exact absurd h (by unfold csem; exact fun h => by cases h)
  | none, some k, h => exact absurd h (by unfold csem; exact fun h => by cases h)
  | some k, some k', h =>
    have h1 : dS k = dS k' := by unfold csem at h; injection h
    have h2 : k.val + 3 = k'.val + 3 := congrArg Fin.val h1
    rw [Fin.ext (Nat.add_right_cancel h2)]

theorem kcell_inj : Function.Injective (kcell : Kix → GSem nD τ sig) := by
  rintro ⟨c, k⟩ ⟨c', k'⟩ h
  have h1 : c = c' := congrArg (fun g : GSem nD τ sig => g.1.1) h
  have h2 : k = k' := csem_inj (congrArg Prod.snd h)
  rw [h1, h2]

def allCells : Finset (GSem nD τ sig) := Finset.univ.map ⟨kcell, kcell_inj⟩

/-- A device's duties: its three signals, and of each copy the departure and the arrival. -/
abbrev TI : Type := Fin 3 ⊕ Fin 28 ⊕ Fin 28
def nXYZ : Fin 3 → Dev nD → Dev nD := ![nX, nY, nZ]
def tokIx : Dev nD × TI → Kix × Fin 3
  | (c, .inl i) => ((nXYZ i c, none), i)
  | (c, .inr (.inl t)) => ((c, some (sK t)), 0)
  | (c, .inr (.inr t)) => ((peer t c, some (rK t c)), 0)

/-- The device whose copy `t` arrives at `c`. -/
def src : Fin 28 → Dev nD → Dev nD :=
  ![nX, nX, nX, nX, nY, nY, nY, nY, nZ, nZ, nZ, nZ, nY, nY, nZ, nZ, nX, nX, nZ, nX, nY, nR 7, nR 6, nR 5, nR 4, nR 3, nR 2, nR 1]
theorem src_peer (t : Fin 28) (c : Dev nD) : src t (peer t c) = c := by revert t c; decide
theorem peer_src (t : Fin 28) (c : Dev nD) : peer t (src t c) = c := by revert t c; decide

/-- Which duty the token of a cell belongs to. -/
def dutyOf (c : Dev nD) (k : ℕ) : TI :=
  if k < 12 then .inr (.inl (Fin.ofNat 28 k)) else if k < 24 then .inr (.inr (Fin.ofNat 28 (k - 12)))
  else if k < 30 then .inr (.inl (Fin.ofNat 28 (k - 12))) else if k < 36 then .inr (.inr (Fin.ofNat 28 (k - 18)))
  else if k < 39 then .inr (.inl (Fin.ofNat 28 (k - 18))) else if k < 42 then .inr (.inr (Fin.ofNat 28 (k - 21)))
  else if k < 50 then .inr (.inl (Fin.ofNat 28 (k - 22))) else .inr (.inr (Fin.ofNat 28 (20 + (c.val + 58 - k) % 8)))
def tokBack : Kix × Fin 3 → Dev nD × TI
  | ((c, none), i) => (nXYZ i c, .inl i)
  | ((c, some k), _) => match dutyOf c k.val with
    | .inl i => (c, .inl i)
    | .inr (.inl t) => (c, .inr (.inl t))
    | .inr (.inr t) => (src t c, .inr (.inr t))

theorem tokBack_tokIx : ∀ x, tokBack (tokIx x) = x := by
  rintro ⟨c, i | t | t⟩
  · revert c i; decide
  · revert c t; decide
  · revert c t; decide

abbrev tokOf (x : Dev nD × TI) : GSem nD τ sig × ℕ × Fin 3 := (kcell (tokIx x).1, 0, (tokIx x).2)
theorem tokOf_inj : Function.Injective tokOf := by
  intro x y h
  have h1 := kcell_inj (congrArg Prod.fst h)
  have h2 : (tokIx x).2 = (tokIx y).2 := congrArg (fun z => z.2.2) h
  exact (Function.LeftInverse.injective tokBack_tokIx) (Prod.ext h1 h2)
def allToks : Finset (GSem nD τ sig × ℕ × Fin 3) := Finset.univ.map ⟨tokOf, tokOf_inj⟩

def u₀ : UU := (initOf (Pipeline.cells cfgs cellOf_inj) (Pipeline.launchToks cfgs cellOf_inj), initOf allCells allToks)

/-! ## What each device is dealt -/

variable (c : Dev nD)

/-- The tokens of the duties device `c` pays. -/
def pay : sProp 𝕄 := bigSep Finset.univ fun j : TI => dutyTok ER (tokOf (c, j)).1 (tokOf (c, j)).2.1 (tokOf (c, j)).2.2
/-- Its position at each of its cells. -/
def pos : sProp 𝕄 := bigSep Finset.univ fun k : Option (Fin 58) => atPos ER (kcell (c, k)) 0 ∅ 0
def G : sProp 𝕄 :=
  iprop((bigSep Finset.univ fun k : Option (Fin 58) => roundState ER (Rd m) (kcell (c, k)) 0)
    ∗ (bigSep Finset.univ fun k : Option (Fin 58) => reached ER (kcell (c, k)) 0) ∗ pos c ∗ pay c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Option (Fin 58) => Φ (kcell (c, k)) := by
    unfold allCells; rw [bigSep_map, bigSep_univ_prod]; rfl
  have hT : bigSep allToks (fun x => (dutyTok ER x.1 x.2.1 x.2.2 : sProp 𝕄)) = bigSep Finset.univ fun c : Dev nD => pay c := by
    unfold allToks; rw [bigSep_map, bigSep_univ_prod]
    exact bigSep_congr fun c _ => rfl
  iintro HX
  imod (Rounds.fund ER (Rd m) allCells allToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G pos; simp only [bigSep_sep']
  isplitl [Hst]; · iexact Hst
  isplitl [Hr]; · iexact Hr
  isplitl [Hat]; · iexact Hat
  iexact Htok

theorem unscopedSems0_eq : (unscopedSems0 c : sProp 𝕄) = semVal (barCell c) 0 := by
  unfold unscopedSems0; rw [bigSep_eq_bigSepL_of_eq [SemLoc.reg barS] (by decide) (by decide)]; rfl

/-- The counters of the launch's cells. -/
theorem sems0 : iprop(Pipeline.ownSems0 (Ix := Unit) (Name := ℕ) (U := UU) (Lvl := ℕ) (Val := Elt F) (τ := τ) osem c ∗ unscopedSems0 c)
      ⊢ (bigSep Finset.univ fun k : Option (Fin 58) => semVal (kcell (c, k)) 0 : sProp 𝕄) := by
  rw [unscopedSems0_eq, opt_split]
  unfold Pipeline.ownSems0
  iintro ⟨H1, H2⟩
  isplitl [H1]; · iexact H1
  iexact H2

/-- Every cell's invariant and that its round is reached. -/
def inv (K : Kix → ℕ) : sProp 𝕄 := bigSep (Finset.univ : Finset Kix) fun ck => iprop(cellInv ER (Rd m) (K ck) (kcell ck) ∗ reached ER (kcell ck) 0)
instance (K : Kix → ℕ) : BI.Persistent (inv m K) := by unfold inv; infer_instance

def G' : sProp 𝕄 := iprop(∃ K, inv m K ∗ pos c ∗ pay c)

theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop((∃ κ : ℕ, cellInv ER (Rd m) κ (kcell (c, k))) ∗ reached ER (kcell (c, k)) 0)) ∗ pos c ∗ pay c) := by
  unfold G
  iintro ⟨Hos, Hus, Hst, Hr, Hat, Htok⟩
  ihave Hv := (sems0 (F := F) c) $$ [Hos Hus]
  · isplitl [Hos]; · iexact Hos
    iexact Hus
  imod (show iprop((bigSep Finset.univ fun k : Option (Fin 58) => semVal (kcell (c, k)) 0) ∗ bigSep Finset.univ fun k : Option (Fin 58) => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv]; · iexact Hv
    iexact Hst
  imodintro
  rw [bigSep_sep']
  isplitl [Hinv Hr]
  · isplitl [Hinv]; · iexact Hinv
    iexact Hr
  isplitl [Hat]; · iexact Hat
  iexact Htok

theorem regroup :
    (bigSep Finset.univ fun c : Dev nD => iprop((bigSep Finset.univ fun k => iprop((∃ κ : ℕ, cellInv ER (Rd m) κ (kcell (c, k))) ∗ reached ER (kcell (c, k)) 0)) ∗ pos c ∗ pay c) : sProp 𝕄)
      ⊢ bigSep Finset.univ (G' m) := by
  rw [bigSep_sep', ← bigSep_univ_prod (fun ck : Kix => iprop((∃ κ : ℕ, cellInv ER (Rd m) κ (kcell ck)) ∗ reached ER (kcell ck) 0)), bigSep_sep']
  iintro ⟨⟨HI, Hr⟩, H⟩
  ihave HK := (BI.bigSep_exists_pi Finset.univ (fun (ck : Kix) (κ : ℕ) => (cellInv ER (Rd m) κ (kcell ck) : sProp 𝕄))) $$ HI
  icases HK with ⟨%K, HI⟩
  iapply (bigSep_with_persistent (R := inv m K) (Φ := fun c => iprop(pos c ∗ pay c)) fun c _ => (show iprop(inv m K ∗ pos c ∗ pay c) ⊢ G' m c from by
    unfold G'; iintro H; iexists K; iexact H))
  isplitl [HI Hr]
  · unfold inv; rw [bigSep_sep']
    isplitl [HI]; · iexact HI
    iexact Hr
  iexact H

/-- The invariants of all the cells are set up at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- The credit of the arrival of copy `t`. -/
def crd (t : Fin 28) : sProp 𝕄 := cred (tallyAt (cel c (rK t (src t c))) () (amt (sK t)))

theorem crd_launch (t : Fin 28) : (Pipeline.launchCred (fun d => tallyAt (rcvCell d t) () (amt (sK t))) c : sProp 𝕄) = crd c t :=
  Pipeline.launchCred_of_sum _ (fun d => tallyAt (cel d (rK t (src t d))) () (amt (sK t)))
    (Fintype.sum_equiv ⟨peer t, src t, src_peer t, peer_src t⟩ _ _ fun d => by
      show tallyAt (cel (peer t d) (rK t d)) () _ = tallyAt (cel (peer t d) (rK t (src t (peer t d)))) () _; rw [src_peer])
    (fun d g h => by
      by_contra hne
      exact h (tallyAt_ne_cell (fun e : g = cel d (rK t (src t d)) => hne (by rw [e])) () _)) c

theorem crd_list (l : List (Fin 28)) : (Pipeline.launchCred (fun d => owedT d l) c : sProp 𝕄) = lsep (crd c) l := by
  induction l with
  | nil => exact Pipeline.launchCred_zero c
  | cons t l ih =>
    rw [show (fun d => owedT d (t :: l)) = fun d => owedT d l + tallyAt (rcvCell d t) () (amt (sK t)) from rfl,
      Pipeline.launchCred_add, ih, crd_launch, lsep_cons]
    have h₁ (A B : sProp 𝕄) : iprop(A ∗ B) ⊢ iprop(B ∗ A) := by
      iintro ⟨H1, H2⟩; isplitl [H2]; · iexact H2
      iexact H1
    exact BI.equiv_iff.mp ⟨h₁ _ _, h₁ _ _⟩

/-- The credits of the rows of maxima. -/
def crx (d : Dev nD) : sProp 𝕄 := if d = c then iprop(emp) else cred (tallyAt (cel c (xK d)) () 16)

theorem nR_ne (k : Fin 8) (h : k ≠ 0) : nR k c ≠ c := by revert c k; decide

theorem crd_split : lsep (crd c) ordS ⊢ (iprop(lsep (fun t => cred (tallyAt (cel c (rK t c)) () (amt (rK t c)))) ordR ∗ lsep (crx c) [0, 1, 2, 3, 4, 5, 6, 7]) : sProp 𝕄) := by
  rw [lsep_perm (crd c) (l' := ordR ++ [21, 22, 23, 24, 25, 26, 27]) (by decide) (by decide) (by decide), lsep_append,
    lsep_congr (l := ordR) (Ψ := fun t => cred (tallyAt (cel c (rK t c)) () (amt (rK t c)))) (fun t ht => by
      unfold crd; rw [rK_eq (src t c) c t (by revert t; decide), amt_eq]),
    lsep_perm (crx c) (l := [0, 1, 2, 3, 4, 5, 6, 7]) (l' := [c, nR 7 c, nR 6 c, nR 5 c, nR 4 c, nR 3 c, nR 2 c, nR 1 c]) (by decide) (by revert c; decide) (by revert c; decide)]
  have h (d : Dev nD) (hd : d ≠ c) : crx c d = (cred (tallyAt (cel c (xK d)) () 16) : sProp 𝕄) := if_neg hd
  have h0 : crx c c = (iprop(emp) : sProp 𝕄) := if_pos rfl
  simp only [lsep_cons, lsep_nil]
  rw [h0, h (nR 1 c) (nR_ne c 1 (by decide)), h (nR 2 c) (nR_ne c 2 (by decide)), h (nR 3 c) (nR_ne c 3 (by decide)), h (nR 4 c) (nR_ne c 4 (by decide)),
    h (nR 5 c) (nR_ne c 5 (by decide)), h (nR 6 c) (nR_ne c 6 (by decide)), h (nR 7 c) (nR_ne c 7 (by decide))]
  iintro ⟨H, H'⟩
  isplitl [H]; · iexact H
  isplitl []; · iempintro
  iexact H'

theorem creds : (Pipeline.launchCred O₀ c : sProp 𝕄)
    ⊢ iprop(cred (tallyAt (barCell c) () 3) ∗ lsep (fun t => cred (tallyAt (cel c (rK t c)) () (amt (rK t c)))) ordR ∗ lsep (crx c) [0, 1, 2, 3, 4, 5, 6, 7]) := by
  rw [show (O₀ : Dev nD → CellTallies nD τ sig Unit) = fun d => (fun d => (fun d => owedT d ordS + tallyAt (barCell (nZ d)) () 1) d + tallyAt (barCell (nY d)) () 1) d + tallyAt (barCell (nX d)) () 1 from rfl,
    Pipeline.launchCred_add, Pipeline.launchCred_add, Pipeline.launchCred_add, crd_list]
  iintro ⟨⟨⟨H, HZ⟩, HY⟩, HX⟩
  ihave HX := (Pipeline.launchCred_tallyAt (.reg barS) nX nX nX_nX nX_nX () 1 c) $$ HX
  ihave HY := (Pipeline.launchCred_tallyAt (.reg barS) nY nY nY_nY nY_nY () 1 c) $$ HY
  ihave HZ := (Pipeline.launchCred_tallyAt (.reg barS) nZ nZ nZ_nZ nZ_nZ () 1 c) $$ HZ
  isplitl [HX HY HZ]
  · rw [show tallyAt (barCell c) () 3 = tallyAt (barCell c) () 1 + (tallyAt (barCell c) () 1 + tallyAt (barCell c) () 1) from by
      rw [tallyAt_add, tallyAt_add]]
    iapply (cred_add _ _).2
    isplitl [HX]; · iexact HX
    iapply (cred_add _ _).2
    isplitl [HY]; · iexact HY
    iexact HZ
  · iapply (crd_split c); iexact H

/-! ## What a body starts from -/

/-- The cells, in the order the body uses them. -/
def posK : List (Fin 58) := 42 :: (ordS.map sK ++ (ordR.map (fun t => rK t c) ++ [0, 1, 2, 3, 4, 5, 6, 7].map xK))
theorem posK_nodup : (posK c).Nodup := by revert c; decide +kernel
theorem posK_all : ∀ k, k ∈ posK c := by revert c; decide +kernel

theorem doneK_nodup : (doneK c).Nodup := by revert c; decide +kernel
theorem doneK_all : ∀ k, k ∈ doneK c := by revert c; decide +kernel

theorem pos_split : pos c ⊢ (iprop(atPos ER (barCell c) 0 ∅ 0 ∗ atPos ER (cel c 42) 0 ∅ 0 ∗ lsep (fun t => atPos ER (cel c (sK t)) 0 ∅ 0) ordS
    ∗ lsep (fun t => atPos ER (cel c (rK t c)) 0 ∅ 0) ordR ∗ lsep (fun d => atPos ER (cel c (xK d)) 0 ∅ 0) [0, 1, 2, 3, 4, 5, 6, 7]) : sProp 𝕄) := by
  unfold pos
  rw [opt_split, lsep_all _ (posK c) (posK_nodup c) (posK_all c)]
  unfold posK
  rw [lsep_cons, lsep_append, lsep_append, lsep_map, lsep_map, lsep_map]
  iintro ⟨⟨H1, H2, H3, H4⟩, H5⟩
  isplitl [H5]; · iexact H5
  isplitl [H1]; · iexact H1
  isplitl [H2]; · iexact H2
  isplitl [H3]; · iexact H3
  iexact H4

theorem pay_split : pay c ⊢ (iprop((dutyTok ER (barCell (nX c)) 0 0 ∗ dutyTok ER (barCell (nY c)) 0 1 ∗ dutyTok ER (barCell (nZ c)) 0 2)
    ∗ lsep (fun t => dutyTok ER (cel c (sK t)) 0 0) ordS ∗ lsep (fun t => dutyTok ER (rcvCell c t) 0 0) ordS) : sProp 𝕄) := by
  unfold pay
  rw [bigSep_univ_sum, bigSep_univ_sum, bigSep_univ_eq_bigSepL [0, 1, 2] (by decide) (by decide), bigSepL_cons_cons, bigSepL_cons_cons, bigSepL_singleton,
    lsep_all _ ordS (by decide) (by decide), lsep_all _ ordS (by decide) (by decide)]
  exact .rfl

theorem toks_intro : iprop(pos c ∗ pay c ∗ Pipeline.launchCred O₀ c) ⊢ (toks c : sProp 𝕄) := by
  iintro ⟨Hp, Ht, Hc⟩
  ihave Hp := (pos_split c) $$ Hp
  ihave Ht := (pay_split c) $$ Ht
  ihave Hc := (creds c) $$ Hc
  icases Hp with ⟨P0, P42, PS, PR, PX⟩
  icases Ht with ⟨⟨T0, T1, T2⟩, TS, TR⟩
  icases Hc with ⟨C0, CR, CX⟩
  unfold toks
  isplitl [T0]; · iexact T0
  isplitl [T1]; · iexact T1
  isplitl [T2]; · iexact T2
  isplitl [C0]; · iexact C0
  isplitl [P0]; · iexact P0
  isplitl [TS TR PS]
  · iapply (lsep_sep (fun t => dutyTok ER (cel c (sK t)) 0 0) (fun t => iprop(dutyTok ER (rcvCell c t) 0 0 ∗ atPos ER (cel c (sK t)) 0 ∅ 0)) ordS)
    isplitl [TS]; · iexact TS
    iapply (lsep_sep (fun t => dutyTok ER (rcvCell c t) 0 0) (fun t => atPos ER (cel c (sK t)) 0 ∅ 0) ordS)
    isplitl [TR]; · iexact TR
    iexact PS
  isplitl [CR PR]
  · iapply (lsep_sep (fun t => cred (tallyAt (cel c (rK t c)) () (amt (rK t c)))) (fun t => atPos ER (cel c (rK t c)) 0 ∅ 0) ordR)
    isplitl [CR]; · iexact CR
    iexact PR
  isplitl [PX CX]
  · iapply (lsep_sep (fun d => atPos ER (cel c (xK d)) 0 ∅ 0) (crx c) [0, 1, 2, 3, 4, 5, 6, 7])
    isplitl [PX]; · iexact PX
    iexact CX
  iexact P42

/-- All own counters at zero. -/
theorem done_own : lsep (zK c) (doneK c) ⊢ (Pipeline.ownSems0 (Ix := Unit) (Name := ℕ) (U := UU) (Lvl := ℕ) (Val := Elt F) (τ := τ) osem c : sProp 𝕄) := by
  unfold Pipeline.ownSems0
  rw [← lsep_all (zK c) (doneK c) (doneK_nodup c) (doneK_all c)]
  exact .rfl

end Cert.KernelIdeal.Pf
-- ==== Proof.Launch.lean ====
module

public import proofs.«01_k».proof.Proof.Ghost
public import Idealize.ShloMosaic.Lib.Pipeline.CollectiveSegs
public import proofs.«01_k».proof.Proof.Gen.KernelIdeal.Points
public import proofs.«01_k».proof.Proof.Gen.KernelIdeal.Frame

/-!
The launch: the body as the pipeline calls it, and the run of the whole program.
-/

@[expose] public section

set_option maxRecDepth 16384

noncomputable section

namespace Cert.KernelIdeal.Pf

open Cert.KernelIdeal Cert.KernelIdeal.Gen Cert.Pieces
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg) (c : Dev nD)

/-- The memory at launch. -/
def s₀ : MemSt nD τ sig (Elt F) := ⟨m, fun _ => 0, ρ⟩

/-! ## A device's own buffers -/

/-- A whole buffer at some contents. -/
theorem fr_whole (b : Ref sig .tc) : (free (c : Thread nD τ) (Memref.whole b) : sProp 𝕄)
    = iprop(∃ f : Buf (Elt F) ((c : Thread nD τ).loc b), ((c : Thread nD τ).loc b) ↦{fullShare} f) := by
  have h₁ : (free (c : Thread nD τ) (Memref.whole b) : sProp 𝕄) ⊢ iprop(∃ f : Buf (Elt F) ((c : Thread nD τ).loc b), ((c : Thread nD τ).loc b) ↦{fullShare} f) := by
    unfold free owns
    simp only [Memref.view_whole, View.read_whole, View.set_whole]
    iintro ⟨%X, %f, -, H⟩
    iexists f; iexact H
  have h₂ : iprop(∃ f : Buf (Elt F) ((c : Thread nD τ).loc b), ((c : Thread nD τ).loc b) ↦{fullShare} f) ⊢ (free (c : Thread nD τ) (Memref.whole b) : sProp 𝕄) := by
    unfold free owns
    simp only [Memref.view_whole, View.read_whole, View.set_whole]
    iintro ⟨%f, H⟩
    iexists f; iexists f
    isplitr; · (ipureintro; rfl)
    iexact H
  exact BI.equiv_iff.mp ⟨h₁, h₂⟩

theorem scr_eq : (Pipeline.scopedRest (Ix := Unit) (Name := ℕ) (U := UU) (Lvl := ℕ) (Val := Elt F) spec0 c : sProp 𝕄) = scr c := by
  rw [scopedRest0_eq, ← fr_whole c cc0_scratch0, ← fr_whole c cc0_scratch1, ← fr_whole c cc0_scratch2, ← fr_whole c cc0_scratch3, ← fr_whole c cc0_scratch4, ← fr_whole c cc0_scratch5, ← fr_whole c cc0_scratch6, ← fr_whole c cc0_scratch7, ← fr_whole c cc0_scratch8, ← fr_whole c cc0_scratch9, ← fr_whole c cc0_scratch10, ← fr_whole c cc0_scratch11, ← fr_whole c cc0_scratch12, ← fr_whole c cc0_scratch13, ← fr_whole c cc0_scratch14, ← fr_whole c cc0_scratch15, ← fr_whole c cc0_scratch16, ← fr_whole c cc0_scratch17, ← fr_whole c cc0_scratch18, ← fr_whole c cc0_scratch19]
  rfl

/-! ## The pipeline's data -/

/-- What a body starts from besides its buffers, -/
def start : sProp 𝕄 := iprop(∃ K, recs m K ∗ toks c)
def Φ₀ : sProp 𝕄 := iprop(start m c ∗ scr c)
/-- and what it leaves. -/
def Φ₁ : sProp 𝕄 := iprop(semVal (barCell c) 0 ∗ lsep (zK c) (doneK c) ∗ scr c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
    | ⟨1, _⟩ => ws m c
    | ⟨2, _⟩ => OUT m c
  Φ t := match t with
    | ⟨0, _⟩ => Φ₀ m c
    | ⟨_ + 1, _⟩ => Φ₁ c
  q _ := fullShare
  owed t := match t with
    | ⟨0, _⟩ => O₀ c
    | ⟨_ + 1, _⟩ => 0

def pre : sProp 𝕄 :=
  iprop(Φ₀ m c ∗ (dats m ρ 0 c).owesAt () t0_0.castSucc
    ∗ (∃ d, ow c mX ((dats m ρ 0 c).before (0 : Fin 3) t0_0 d))
    ∗ (∃ d, ow c mW ((dats m ρ 0 c).before (1 : Fin 3) t0_0 d))
    ∗ (∃ d, ow c mO ((dats m ρ 0 c).before (2 : Fin 3) t0_0 d)))

def post : sProp 𝕄 :=
  iprop(Φ₁ c ∗ (dats m ρ 0 c).owesAt () t0_0.succ ∗ ow c mX (xs m c) ∗ ow c mW (ws m c) ∗ ow c mO (OUT m c))

theorem before_x (d) : (dats m ρ 0 c).before (0 : Fin 3) t0_0 d = xs m c := by
  unfold Dat.before; rw [if_pos (fetch0_0 t0_0)]; rfl
theorem before_w (d) : (dats m ρ 0 c).before (1 : Fin 3) t0_0 d = ws m c := by
  unfold Dat.before; rw [if_pos (fetch0_1 t0_0)]; rfl

/-- The body between the pipeline's two states. -/
theorem body_run : pre m ρ c ⊢ wp frame (wpE (defs₀ (F := F)) 𝒱₀ (c : Thread nD τ) none) Set.univ (onArgs (cc0_body (F := F))) (fun _ => post m ρ c) := by
  unfold pre Φ₀ start Dat.owesAt Pipeline.owesWithin
  simp only [before_x, before_w]
  iintro ⟨⟨⟨%K, HR, Ht⟩, Hs⟩, ⟨%W, -, Ho⟩, ⟨%d0, HX⟩, ⟨%d1, HW⟩, ⟨%d2, HO⟩⟩
  iapply (sound_body m K c) $$ [HR Ht Hs Ho HX HW HO]
  · isplitl [HR]; · iexact HR
    isplitl [Ho]; · iexists W; iexact Ho
    isplitl [Ht]; · iexact Ht
    isplitl [HX]; · iexact HX
    isplitl [HW]; · iexact HW
    isplitl [HO]; · iapply (owns_free (c : Thread nD τ)); iexact HO
    iexact Hs
  unfold endP post Φ₁ Dat.owesAt Pipeline.owesWithin
  iintro ⟨⟨%W', Ho⟩, Hb, Hz, HX, HW, HO, Hs⟩
  isplitl [Hb Hz Hs]
  · isplitl [Hb]; · iexact Hb
    isplitl [Hz]; · iexact Hz
    iexact Hs
  isplitl [Ho]
  · iexists W'
    isplitr; · ipureintro; exact fun _ _ => Or.inl trivial
    iexact Ho
  isplitl [HX]; · iexact HX
  isplitl [HW]; · iexact HW
  iexact HO

theorem body_obligation : BodyObligation (dats (F := F) m ρ 0 c) (defs₀ (F := F)) 𝒱₀ () Set.univ := fun t => by
  rw [show t = t0_0 from fin_N0 t]
  rw [bigSep_W0, bigSep_W0]
  exact body_run m ρ c

/-! ## The run -/

theorem share_eq (w : Fin cfg0.W) : (dats m ρ 0 c).share w = fullShare := by unfold Dat.share; split <;> rfl

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G'
  iintro ⟨-, Hlev, Hcr, -, ⟨%K, HI, Hp, Ht⟩⟩
  imodintro
  isplitl
  · iexists K
    isplitl [Hlev HI]
    · unfold recs inv
      isplitl [HI]; · iexact HI
      iexact Hlev
    iapply (toks_intro c)
    isplitl [Hp]; · iexact Hp
    isplitl [Ht]; · iexact Ht
    iexact Hcr
  · iempintro

theorem phi_in :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show (Pipeline.scopedRest cfg0.spec c : sProp 𝕄) = scr c from scr_eq c]
  unfold Φ₀
  iintro ⟨Hs, -, Hr⟩
  isplitl [Hs]; · iexact Hs
  iexact Hr

theorem phi_out :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, show (Pipeline.scopedRest cfg0.spec c : sProp 𝕄) = scr c from scr_eq c, unscopedSems0_eq]
  unfold Φ₁
  iintro ⟨Hb, Hz, Hr⟩
  isplitl [Hb]; · iexact Hb
  isplitl [Hz]; · iapply (done_own c); iexact Hz
  iexact Hr

theorem waits : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What the array of window `w` ends up with. -/
def finalA (w : Fin cfg0.W) : Buf (Elt F) ((cfg0.win w).arr.view.loc (c : Thread nD τ)) := (dats m ρ 0 c).arrAt w cfg0.N

/-- Every execution of the program terminates, with the computed contents in every device's arrays and every
    semaphore at zero. -/
theorem run_main : θ_run defs (onTc (τ := τ) (main (F := F))) (s₀ m ρ)
    (fun r => (∀ (c : Dev nD) (w : Fin cfg0.W), r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP]; · iexact HP
      iexact HG)
    (hglob := glob m)
    (hA := fun _ _ => rfl) (hpf := fun _ k => k.elim0)
    (X := start m) (Y := fun c => unscopedSems0 c) (Z := fun _ => iprop(emp))
    (hX := start_intro m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

theorem finalA_x : finalA m ρ c (0 : Fin 3) = m ((c : Thread nD τ).loc main_arg0) := (dats (F := F) m ρ 0 c).arrAt_in (0 : Fin 3) rfl _
theorem finalA_w : finalA m ρ c (1 : Fin 3) = m ((c : Thread nD τ).loc main_arg1) := (dats (F := F) m ρ 0 c).arrAt_in (1 : Fin 3) rfl _

end Cert.KernelIdeal.Pf
-- ==== Proof.Reals.lean ====
module

public import Idealize.ShloMosaic.PureOps
public import Idealize.ShloMosaic.PureOps.Reduce
public import Idealize.ShloMosaic.PureOps.Ideal.Laws
public import Idealize.ShloMosaic.Lib.Pipeline.Value
public import Idealize.ShloMosaic.Lib.Pointwise.Contract

/-!
Facts about the extended reals that the values of both programs come down to: the constants, the two ways of
quantising, the greatest value of an array, a sum cut into blocks.
-/

@[expose] public section

noncomputable section

namespace Cert.Vals

open Idealize.ShloMosaic

/-! ## The constants -/

theorem bits_448 : Ideal.ofBits .f32 0x43E00000#32 = ((448 : ℝ) : EReal) := by
  simp [Ideal.ofBits, Ideal.ieee]; norm_num
  rw [← EReal.coe_mul]; norm_num
theorem bits_neg_448 : Ideal.ofBits .f32 0xC3E00000#32 = ((-448 : ℝ) : EReal) := by
  simp [Ideal.ofBits, Ideal.ieee]; norm_num
  rw [← EReal.coe_mul]; norm_num
theorem bits_bot : Ideal.ofBits .f32 0xFF800000#32 = ⊥ := by
  simp [Ideal.ofBits, Ideal.ieee]

/-! ## The two ways of quantising -/

/-- Multiplying by `448 / g` and clipping to `[0, 448]`, then multiplying by `g / 448`. -/
def quantK (g y : EReal) : EReal :=
  min ((448 : ℝ) : EReal) (max 0 (y * Ideal.div ((448 : ℝ) : EReal) g)) * Ideal.div g ((448 : ℝ) : EReal)

/-- Dividing by `g / 448` and clipping to `[-448, 448]`, then multiplying by `g / 448`. -/
def quantR (g y : EReal) : EReal :=
  min ((448 : ℝ) : EReal) (max ((-448 : ℝ) : EReal) (Ideal.div y (Ideal.div g ((448 : ℝ) : EReal)))) * Ideal.div g ((448 : ℝ) : EReal)

theorem div_448 (g : EReal) : Ideal.div g ((448 : ℝ) : EReal) = g * ((448⁻¹ : ℝ) : EReal) := by
  unfold Ideal.div
  rw [if_neg (by norm_num), ← EReal.coe_inv]

/-- For a value between zero and the greatest one, the two ways agree. -/
theorem quantK_eq_quantR {g y : EReal} (h0 : 0 ≤ y) (hy : y ≤ g) : quantK g y = quantR g y := by
  unfold quantK quantR
  rw [div_448]
  induction g with
  | bot => exact absurd (h0.trans hy) (by simp)
  | top =>
    have ht : (⊤ : EReal) * ((448⁻¹ : ℝ) : EReal) = ⊤ := EReal.top_mul_coe_of_pos (by norm_num)
    have hd : Ideal.div ((448 : ℝ) : EReal) ⊤ = 0 := by unfold Ideal.div; rw [if_neg (by simp), EReal.inv_top, mul_zero]
    have hd' : Ideal.div y ⊤ = 0 := by unfold Ideal.div; rw [if_neg (by simp), EReal.inv_top, mul_zero]
    have hn : ((-448 : ℝ) : EReal) ≤ 0 := by exact_mod_cast (by norm_num : (-448 : ℝ) ≤ 0)
    rw [ht, hd, hd', mul_zero, max_self, max_eq_right hn]
  | coe g =>
    induction y with
    | bot => exact absurd h0 (by simp)
    | top => exact absurd hy (by simp)
    | coe y =>
      have h0' : 0 ≤ y := by exact_mod_cast h0
      have hy' : y ≤ g := by exact_mod_cast hy
      rcases (h0'.trans hy').eq_or_lt with rfl | hg
      · have hy0 : y = 0 := le_antisymm hy' h0'
        subst hy0
        simp [Ideal.div]
      · have hs : (g : EReal) * ((448⁻¹ : ℝ) : EReal) = ((g * 448⁻¹ : ℝ) : EReal) := by push_cast; rfl
        have hs0 : 0 < g * 448⁻¹ := by positivity
        have e₁ : Ideal.div ((448 : ℝ) : EReal) (g : EReal) = ((448 * g⁻¹ : ℝ) : EReal) := by
          unfold Ideal.div
          rw [if_neg (by exact_mod_cast hg.ne'), ← EReal.coe_inv]; push_cast; rfl
        have e₂ : Ideal.div (y : EReal) ((g * 448⁻¹ : ℝ) : EReal) = ((y * (448 * g⁻¹) : ℝ) : EReal) := by
          unfold Ideal.div
          rw [if_neg (by exact_mod_cast hs0.ne'), ← EReal.coe_inv, ← EReal.coe_mul, mul_inv, inv_inv, mul_comm (448 : ℝ)]
        have hq : 0 ≤ y * (448 * g⁻¹) := by positivity
        have hq' : (0 : EReal) ≤ ((y * (448 * g⁻¹) : ℝ) : EReal) := by exact_mod_cast hq
        have hn : ((-448 : ℝ) : EReal) ≤ ((y * (448 * g⁻¹) : ℝ) : EReal) := by
          exact_mod_cast (by linarith : (-448 : ℝ) ≤ y * (448 * g⁻¹))
        rw [hs, e₁, e₂, ← EReal.coe_mul, max_eq_right hq', max_eq_right hn]

/-! ## The greatest value of an array -/

/-- A greatest value taken over a whole array, one number: it is at most `z` exactly when every element is. -/
theorem top_le {s t u : Shape} {axes : List (Fin s.rank)} (v : FVec Ideal s .f32) (h : s.Reduces axes t) (hφ : FKind.Formats .f32)
    (hacc : (0xFF800000#32 : BitVec 32) = FKind.maximumf.neutral .f32 hφ) (hc : t.ShapeCasts u) (pos : Fin u.rank → ℕ)
    (hp : ∀ a, pos a < u.size a) (ht : ∀ i j : t.Idx, i = j) (z : EReal) :
    extractAt pos (shapeCast u (multiReduction .maximumf axes t v 0xFF800000#32 h hφ hacc) hc) hp ≤ z ↔ ∀ i, v i ≤ z := by
  unfold extractAt shapeCast
  rw [multiReduction_maximumf_eq_fold, Finset.filter_true_of_mem (fun i _ => ht _ _)]
  have e : (Finset.univ : Finset s.Idx).fold (FloatOps.maximumf (F := Ideal) (φ := .f32)) (FloatOps.ofBits .f32 0xFF800000#32) v
      = (Finset.univ : Finset s.Idx).fold max (⊥ : EReal) v := by
    rw [show (FloatOps.ofBits .f32 0xFF800000#32 : Ideal .f32) = ⊥ from bits_bot]; rfl
  rw [e, Finset.fold_max_le]
  simp

/-- The same when the array is first recast to another shape: every element of the array before the cast. -/
theorem top_cast_le {r s t u : Shape} {axes : List (Fin s.rank)} (v : FVec Ideal r .f32) (hr : r.ShapeCasts s) (h : s.Reduces axes t)
    (hφ : FKind.Formats .f32) (hacc : (0xFF800000#32 : BitVec 32) = FKind.maximumf.neutral .f32 hφ) (hc : t.ShapeCasts u)
    (pos : Fin u.rank → ℕ) (hp : ∀ a, pos a < u.size a) (ht : ∀ i j : t.Idx, i = j) (z : EReal) :
    extractAt pos (shapeCast u (multiReduction .maximumf axes t (shapeCast s v hr) 0xFF800000#32 h hφ hacc) hc) hp ≤ z ↔ ∀ i, v i ≤ z := by
  rw [top_le (shapeCast s v hr) h hφ hacc hc pos hp ht z]
  exact ⟨fun H i => by have := H ((Shape.reshapeEquiv hr).symm i); unfold shapeCast at this; rwa [Equiv.apply_symm_apply] at this, fun H i => H _⟩

/-! ## A sum cut into blocks -/

/-- A sum over 4096 places is the sum of its eight sums over 512. -/
theorem sum_blocks (f : Fin 4096 → EReal) :
    ∑ k, f k = ∑ d : Fin 8, ∑ k : Fin 512, f ⟨512 * d.val + k.val, by have := d.isLt; have := k.isLt; omega⟩ := by
  rw [← Fintype.sum_prod_type' (f := fun (d : Fin 8) (k : Fin 512) => f ⟨512 * d.val + k.val, by have := d.isLt; have := k.isLt; omega⟩)]
  refine (Fintype.sum_equiv (finProdFinEquiv (m := 8) (n := 512)) _ _ fun p => ?_).symm
  congr 1
  apply Fin.ext
  simp [finProdFinEquiv]
  omega

/-- Eight terms, in the order in which a tree of exchanges along `p`, then `q`, then `r` adds them. -/
theorem sum_tree (p q r : Fin 8 → Fin 8) (c : Fin 8)
    (h : ([c, p c, q c, p (q c), r c, p (r c), q (r c), p (q (r c))] : List (Fin 8)).Nodup) (f : Fin 8 → EReal) :
    f c + f (p c) + (f (q c) + f (p (q c))) + (f (r c) + f (p (r c)) + (f (q (r c)) + f (p (q (r c))))) = ∑ d, f d := by
  have e : ∑ d, f d = (([c, p c, q c, p (q c), r c, p (r c), q (r c), p (q (r c))] : List (Fin 8)).map f).sum := by
    rw [← List.sum_toFinset f h]
    congr 1
    symm
    rw [← Finset.card_eq_iff_eq_univ, List.toFinset_card_of_nodup h]
    rfl
  rw [e]
  simp only [List.map_cons, List.map_nil, List.sum_cons, List.sum_nil, add_zero]
  ac_rfl

end Cert.Vals
-- ==== Proof.Result.lean ====
module

public import proofs.«01_k».proof.Proof.Launch
public import proofs.«01_k».proof.Proof.Reals

/-!
What the kernel leaves in each device's result, over the extended reals: the device's rows of the sum of all the
devices' products, rectified and quantised by the greatest value of all.
-/

@[expose] public section

set_option maxRecDepth 16384

noncomputable section

namespace Cert.KernelIdeal.Pf

open Cert.KernelIdeal Cert.KernelIdeal.Gen Cert.Pieces Cert.Vals
open Idealize.ShloMosaic
open Idealize.ShloMosaic.TcCoe
open Idealize.SL.Sem
open Idealize.ShloMosaic.Pipeline (Dat)

/-! ## The array that the run leaves -/

section Final

variable {F : FTy → Type} [FloatOps F]
variable (m : (ℓ : Loc nD τ sig) → Buf (Elt F) ℓ) (ρ : Dev nD → PrngReg) (c : Dev nD)

theorem index_zero0 : win0_0.index (0 : Fin 1) (0 : Fin 2) = 0 ∧ win0_0.index (0 : Fin 1) (1 : Fin 2) = 0 := by decide +kernel
theorem index_zero1 : win0_1.index (0 : Fin 1) (0 : Fin 2) = 0 ∧ win0_1.index (0 : Fin 1) (1 : Fin 2) = 0 := by decide +kernel
theorem index_zero2 : ∀ t : Fin cfg0.N, win0_2.index t (0 : Fin 2) = 0 ∧ win0_2.index t (1 : Fin 2) = 0 :=
  (by decide +kernel : ∀ t : Fin grid0.N, _)

/-- The one block of the first argument is the argument. -/
theorem xs_at (j : S4096x512.Idx) : xs m c j = m ((c : Thread nD τ).loc main_arg0) j := by
  have e : (win0_0.blk (0 : Fin 1)).view.emb j = j := Shape.idx_ext₂
    (by show win0_0.index (0 : Fin 1) (0 : Fin 2) * 4096 + 1 * (j 0).val = (j 0).val; have := index_zero0.1; omega)
    (by show win0_0.index (0 : Fin 1) (1 : Fin 2) * 512 + 1 * (j 1).val = (j 1).val; have := index_zero0.2; omega)
  show m ((c : Thread nD τ).loc main_arg0) ((win0_0.blk (0 : Fin 1)).view.emb j) = _
  rw [e]

/-- The one block of the second argument is the argument. -/
theorem ws_at (j : S512x2048.Idx) : ws m c j = m ((c : Thread nD τ).loc main_arg1) j := by
  have e : (win0_1.blk (0 : Fin 1)).view.emb j = j := Shape.idx_ext₂
    (by show win0_1.index (0 : Fin 1) (0 : Fin 2) * 512 + 1 * (j 0).val = (j 0).val; have := index_zero1.1; omega)
    (by show win0_1.index (0 : Fin 1) (1 : Fin 2) * 2048 + 1 * (j 1).val = (j 1).val; have := index_zero1.2; omega)
  show m ((c : Thread nD τ).loc main_arg1) ((win0_1.blk (0 : Fin 1)).view.emb j) = _
  rw [e]

theorem emb_out (t : Fin cfg0.N) (j : S512x2048.Idx) : ((cfg0.win 2).blk t).view.emb j = j := Shape.idx_ext₂
  (by show win0_2.index t (0 : Fin 2) * 512 + 1 * (j 0).val = (j 0).val; have := (index_zero2 t).1; omega)
  (by show win0_2.index t (1 : Fin 2) * 2048 + 1 * (j 1).val = (j 1).val; have := (index_zero2 t).2; omega)

/-- The result's array ends with what the body leaves in its block. -/
theorem finalA_out : finalA m ρ c (2 : Fin 3) = OUT m c := by
  refine (dats m ρ 0 c).arrAt_eq_of_cover 2 (OUT m c) (fun t _ => ?_) fun i => ?_
  · show (cfg0.win 2).cut (grid0.coords t) ((dats m ρ 0 c).after 2 t) = _
    funext j
    show OUT m c j = OUT m c (((cfg0.win 2).blk t).view.emb j)
    rw [emb_out]
  · refine ⟨(⟨0, by decide⟩ : Fin cfg0.N), flush0_2 _, ?_⟩
    have h := ((cfg0.win 2).blk (⟨0, by decide⟩ : Fin cfg0.N)).view.emb_mem_set i
    rwa [emb_out] at h

end Final

/-! ## The products -/

variable (m : (ℓ : Loc nD τ sig) → Buf (Elt Ideal) ℓ) (c d : Dev nD)

/-- Block `b` of the rows of device `d`'s product. -/
def T (b : Fin 8) (j : S512x2048.Idx) : EReal :=
  ∑ k : Fin 512, xs m d (Shape.pair ⟨512 * b.val + (j 0).val, by have := b.isLt; have h : (j 0).val < 512 := (j 0).isLt; show _ < 4096; omega⟩ k)
    * ws m d (Shape.pair k (j 1))

theorem rows_prod (off : Fin 2 → ℕ) (h) (b : Fin 8) (hoff : off = ![512 * b.val, 0]) (j : S512x2048.Idx) :
    k0_pay22 (F := Ideal) (rowsAt m d off h) (WB m d) j = T m d b j := by
  subst hoff
  unfold k0_pay22 T
  show Ideal.matmul dot_S512x512_S512x2048_S512x2048_1_0_0_1_n_n _ _ _ j = _
  rw [Ideal.matmul_apply₁_of dot_S512x512_S512x2048_S512x2048_1_0_0_1_n_n (a := (1 : Fin 2)) rfl (K := 512) rfl _ _ _ j
    (fun k => Shape.pair (j 0) k) (fun k => Shape.pair k (j 1)) (fun k => Shape.idx_ext₂ rfl rfl) (fun k => Shape.idx_ext₂ rfl rfl)]
  show Ideal.ofBits .f32 0x00000000#32 + _ = _
  rw [Ideal.ofBits_zero_f32, zero_add]
  refine Finset.sum_congr rfl fun k _ => ?_
  have e₁ : rowsAt m d ![512 * b.val, 0] h (Shape.pair (j 0) k) = xs m d (Shape.pair ⟨512 * b.val + (j 0).val, by have := b.isLt; have h : (j 0).val < 512 := (j 0).isLt; show _ < 4096; omega⟩ k) := by
    unfold rowsAt XB k0_pay1
    rw [shapeCast_self, shapeCast_self]
    congr 1
    exact Shape.idx_ext₂ (by show 512 * b.val + 1 * (j 0).val = 512 * b.val + (j 0).val; omega) (by show 0 + 1 * k.val = k.val; omega)
  have e₂ : WB m d (Shape.pair k (j 1)) = ws m d (Shape.pair k (j 1)) := by
    unfold WB k0_pay2
    rw [shapeCast_self, shapeCast_self]
  exact congr (congrArg _ e₁) e₂

/-- The device whose rows slab `k` of device `d` holds. -/
def tgt (k d : Fin 8) : Fin 8 := ![d, nZ d, nY d, nY (nZ d), nX d, nX (nZ d), nX (nY d), nX (nY (nZ d))] k

theorem off1 : ∀ d : Dev nD, k0_off1 d = ![512 * (tgt 7 d).val, 0] := by decide +kernel
theorem off2 : ∀ d : Dev nD, k0_off2 d = ![512 * (tgt 6 d).val, 0] := by decide +kernel
theorem off3 : ∀ d : Dev nD, k0_off3 d = ![512 * (tgt 5 d).val, 0] := by decide +kernel
theorem off4 : ∀ d : Dev nD, k0_off4 d = ![512 * (tgt 3 d).val, 0] := by decide +kernel
theorem off5 : ∀ d : Dev nD, k0_off5 d = ![512 * (tgt 4 d).val, 0] := by decide +kernel
theorem off6 : ∀ d : Dev nD, k0_off6 d = ![512 * (tgt 2 d).val, 0] := by decide +kernel
theorem off7 : ∀ d : Dev nD, k0_off7 d = ![512 * (tgt 1 d).val, 0] := by decide +kernel

/-- A slab is a block of rows of its device's product. -/
theorem slab_at (k : Fin 8) (hk : k ≠ 0) (i : S1x512x2048.Idx) : slab (F := Ideal) m d k i = T m d (tgt k d) (fun a => i a.succ) := by
  have key : ∀ (off : Fin 2 → ℕ) (h) (hoff : off = ![512 * (tgt k d).val, 0]),
      shapeCast S1x512x2048 (k0_pay22 (F := Ideal) (rowsAt m d off h) (WB m d)) shapeCasts_S512x2048_S1x512x2048 i = T m d (tgt k d) (fun a => i a.succ) :=
    fun off h hoff => (shapeCast_addUnit_apply ![512, 2048] _ _ i).trans (rows_prod m d off h _ hoff _)
  fin_cases k
  · exact absurd rfl hk
  · exact key _ (k0_off7_inb d) (off7 d)
  · exact key _ (k0_off6_inb d) (off6 d)
  · exact key _ (k0_off4_inb d) (off4 d)
  · exact key _ (k0_off5_inb d) (off5 d)
  · exact key _ (k0_off3_inb d) (off3 d)
  · exact key _ (k0_off2_inb d) (off2 d)
  · exact key _ (k0_off1_inb d) (off1 d)

theorem own_at (j : S512x2048.Idx) : cO (F := Ideal) m c j = T m c c j := rows_prod m c _ _ c (k0_off8_eq c) j

/-! ## The exchanges -/

theorem plus {a a' b b' : EReal} (h : a = a') (h' : b = b') : a + b = a' + b' := by rw [h, h']

theorem drop640 (v : FVec Ideal S1x512x640 .bf16) (h) (j : S512x640.Idx) : shapeCast S512x640 v h j = v (Fin.cons ⟨0, Nat.one_pos⟩ j) :=
  shapeCast_dropUnit_apply ![512, 640] v h j
theorem drop768 (v : FVec Ideal S1x512x768 .bf16) (h) (j : S512x768.Idx) : shapeCast S512x768 v h j = v (Fin.cons ⟨0, Nat.one_pos⟩ j) :=
  shapeCast_dropUnit_apply ![512, 768] v h j
theorem add640 (v : FVec Ideal S512x640 .bf16) (h) (j : S512x640.Idx) : shapeCast S1x512x640 v h (Fin.cons ⟨0, Nat.one_pos⟩ j) = v j :=
  shapeCast_addUnit_apply ![512, 640] v h _
theorem add768 (v : FVec Ideal S512x768 .bf16) (h) (j : S512x768.Idx) : shapeCast S1x512x768 v h (Fin.cons ⟨0, Nat.one_pos⟩ j) = v j :=
  shapeCast_addUnit_apply ![512, 768] v h _

/-- Adding two blocks of a slab adds them index by index. -/
theorem two640 (P R : FVec Ideal S1x512x640 .bf16) (j : S512x640.Idx) :
    k0_pay10 P R (Fin.cons ⟨0, Nat.one_pos⟩ j) = P (Fin.cons ⟨0, Nat.one_pos⟩ j) + R (Fin.cons ⟨0, Nat.one_pos⟩ j) := by
  unfold k0_pay10
  refine (add640 _ _ j).trans ?_
  exact plus (drop640 P _ j) (drop640 R _ j)
theorem two768 (P R : FVec Ideal S1x512x768 .bf16) (j : S512x768.Idx) :
    k0_pay14 P R (Fin.cons ⟨0, Nat.one_pos⟩ j) = P (Fin.cons ⟨0, Nat.one_pos⟩ j) + R (Fin.cons ⟨0, Nat.one_pos⟩ j) := by
  unfold k0_pay14
  refine (add768 _ _ j).trans ?_
  exact plus (drop768 P _ j) (drop768 R _ j)

/-- Adding three. -/
theorem three640 (P R Q : FVec Ideal S1x512x640 .bf16) (j : S512x640.Idx) :
    k0_pay17 P R Q j = P (Fin.cons ⟨0, Nat.one_pos⟩ j) + R (Fin.cons ⟨0, Nat.one_pos⟩ j) + Q (Fin.cons ⟨0, Nat.one_pos⟩ j) := by
  unfold k0_pay17
  rw [shapeCast_self]
  exact plus (plus (drop640 P _ j) (drop640 R _ j)) (drop640 Q _ j)
theorem three768 (P R Q : FVec Ideal S1x512x768 .bf16) (j : S512x768.Idx) :
    k0_pay21 (k0_pay19 P) (k0_pay20 R) Q j = P (Fin.cons ⟨0, Nat.one_pos⟩ j) + R (Fin.cons ⟨0, Nat.one_pos⟩ j) + Q (Fin.cons ⟨0, Nat.one_pos⟩ j) := by
  unfold k0_pay21 k0_pay19 k0_pay20
  rw [shapeCast_self]
  exact plus (plus (drop768 P _ j) (drop768 R _ j)) (drop768 Q _ j)

/-- A column range of a slab. -/
theorem PA_at (k : Fin 8) (hk : k ≠ 0) (j : S512x640.Idx) : PA (F := Ideal) m d k (Fin.cons ⟨0, Nat.one_pos⟩ j) = T m d (tgt k d) (rOA.emb j) :=
  (slab_at m d k hk _).trans (congrArg _ (Shape.idx_ext₂ rfl rfl))
theorem PB_at (k : Fin 8) (hk : k ≠ 0) (j : S512x640.Idx) : PB (F := Ideal) m d k (Fin.cons ⟨0, Nat.one_pos⟩ j) = T m d (tgt k d) (rOB.emb j) :=
  (slab_at m d k hk _).trans (congrArg _ (Shape.idx_ext₂ rfl rfl))
theorem PC_at (k : Fin 8) (hk : k ≠ 0) (j : S512x768.Idx) : PC (F := Ideal) m d k (Fin.cons ⟨0, Nat.one_pos⟩ j) = T m d (tgt k d) (rOC.emb j) :=
  (slab_at m d k hk _).trans (congrArg _ (Shape.idx_ext₂ rfl rfl))

/-- The sum of all devices' products, rectified: device `c`'s rows. -/
def Y (j : S512x2048.Idx) : EReal := max (∑ d, T m d c j) 0

theorem tgtA : ∀ c : Fin 8, tgt 4 (nX c) = c ∧ tgt 2 (nY c) = c ∧ tgt 6 (nX (nY c)) = c ∧ tgt 1 (nZ c) = c ∧ tgt 5 (nX (nZ c)) = c
    ∧ tgt 3 (nY (nZ c)) = c ∧ tgt 7 (nX (nY (nZ c))) = c := by decide
theorem tgtB : ∀ c : Fin 8, tgt 2 (nY c) = c ∧ tgt 1 (nZ c) = c ∧ tgt 3 (nY (nZ c)) = c ∧ tgt 4 (nX c) = c ∧ tgt 6 (nY (nX c)) = c
    ∧ tgt 5 (nZ (nX c)) = c ∧ tgt 7 (nY (nZ (nX c))) = c := by decide
theorem tgtC : ∀ c : Fin 8, tgt 1 (nZ c) = c ∧ tgt 4 (nX c) = c ∧ tgt 5 (nZ (nX c)) = c ∧ tgt 2 (nY c) = c ∧ tgt 3 (nZ (nY c)) = c
    ∧ tgt 6 (nX (nY c)) = c ∧ tgt 7 (nZ (nX (nY c))) = c := by decide
theorem treeA : ∀ c : Fin 8, ([c, nX c, nY c, nX (nY c), nZ c, nX (nZ c), nY (nZ c), nX (nY (nZ c))] : List (Fin 8)).Nodup := by decide
theorem treeB : ∀ c : Fin 8, ([c, nY c, nZ c, nY (nZ c), nX c, nY (nX c), nZ (nX c), nY (nZ (nX c))] : List (Fin 8)).Nodup := by decide
theorem treeC : ∀ c : Fin 8, ([c, nZ c, nX c, nZ (nX c), nY c, nZ (nY c), nX (nY c), nZ (nX (nY c))] : List (Fin 8)).Nodup := by decide

theorem zero_word : Ideal.ofBits .f32 0x00000000#32 = 0 := Ideal.ofBits_zero_f32

/-- A value received in three exchanges, along `p`, `q` and `r`, added to the device's own, is the sum over all devices:
    `V d k` is what slab `k` of device `d` holds at the place in question. -/
theorem tree_at (p q r : Fin 8 → Fin 8) (ks : Fin 7 → Fin 8) (hk : ∀ s, ks s ≠ 0)
    (hn : ([c, p c, q c, p (q c), r c, p (r c), q (r c), p (q (r c))] : List (Fin 8)).Nodup)
    (ht : tgt (ks 0) (p c) = c ∧ tgt (ks 1) (q c) = c ∧ tgt (ks 2) (p (q c)) = c ∧ tgt (ks 3) (r c) = c ∧ tgt (ks 4) (p (r c)) = c
      ∧ tgt (ks 5) (q (r c)) = c ∧ tgt (ks 6) (p (q (r c))) = c)
    (V : Fin 8 → Fin 8 → EReal) (i : S512x2048.Idx) (hV : ∀ d k, k ≠ 0 → V d k = T m d (tgt k d) i) :
    T m c c i + V (p c) (ks 0) + (V (q c) (ks 1) + V (p (q c)) (ks 2))
      + (V (r c) (ks 3) + V (p (r c)) (ks 4) + (V (q (r c)) (ks 5) + V (p (q (r c))) (ks 6))) = ∑ d, T m d c i := by
  obtain ⟨h₀, h₁, h₂, h₃, h₄, h₅, h₆⟩ := ht
  simp only [hV _ _ (hk _), h₀, h₁, h₂, h₃, h₄, h₅, h₆]
  exact sum_tree p q r c hn fun d => T m d c i

/-- A column range of a device's own product. -/
theorem cut_at (w o : ℕ) (h : S512x2048.Slices ![0, o] ⟨2, ![512, w]⟩) (hb) (j : (⟨2, ![512, w]⟩ : Shape).Idx) :
    extractStridedSlice ⟨2, ![512, w]⟩ ![0, o] (cO (F := Ideal) m c) h j
      = T m c c ((Rect.unit (s := S512x2048) ![0, o] (⟨2, ![512, w]⟩ : Shape).size hb).emb j) :=
  (own_at m c _).trans (congrArg _ (Shape.idx_ext₂ (by show 0 + (j 0).val = 0 + 1 * (j 0).val; omega) (by show o + (j 1).val = o + 1 * (j 1).val; omega)))

/-- Each column range of a device's block is its rows of the sum. -/
theorem yA_at (j : S512x640.Idx) : yA (F := Ideal) m c j = Y m c (rOA.emb j) := by
  unfold yA k0_pay23
  show max (extractStridedSlice S512x640 ![0, 0] (cO (F := Ideal) m c) _ j
    + shapeCast S512x640 (R1A (F := Ideal) m c 0) _ j + shapeCast S512x640 (R2A (F := Ideal) m c 0) _ j + R3A (F := Ideal) m c j) (Ideal.ofBits .f32 0x00000000#32) = _
  rw [drop640, drop640, zero_word]
  exact congrArg (max · 0) ((plus (plus (plus (cut_at m c 640 0 _ _ j) rfl) (two640 _ _ j)) ((three640 _ _ _ j).trans (plus rfl (two640 _ _ j)))).trans
    (tree_at m c nX nY nZ ![4, 2, 6, 1, 5, 3, 7] (by decide) (treeA c) (tgtA c) (fun d k => PA m d k (Fin.cons ⟨0, Nat.one_pos⟩ j)) (rOA.emb j) fun d k hk => PA_at m d k hk j))

theorem yB_at (j : S512x640.Idx) : yB (F := Ideal) m c j = Y m c (rOB.emb j) := by
  unfold yB k0_pay27 k0_pay26
  show max (extractStridedSlice S512x640 ![0, 640] (cO (F := Ideal) m c) _ j
    + shapeCast S512x640 (R1B (F := Ideal) m c 0) _ j + shapeCast S512x640 (R2B (F := Ideal) m c 0) _ j + R3B (F := Ideal) m c j) (Ideal.ofBits .f32 0x00000000#32) = _
  rw [drop640, drop640, zero_word]
  exact congrArg (max · 0) ((plus (plus (plus (cut_at m c 640 640 _ _ j) rfl) (two640 _ _ j)) ((three640 _ _ _ j).trans (plus rfl (two640 _ _ j)))).trans
    (tree_at m c nY nZ nX ![2, 1, 3, 4, 6, 5, 7] (by decide) (treeB c) (tgtB c) (fun d k => PB m d k (Fin.cons ⟨0, Nat.one_pos⟩ j)) (rOB.emb j) fun d k hk => PB_at m d k hk j))

theorem yC_at (j : S512x768.Idx) : yC (F := Ideal) m c j = Y m c (rOC.emb j) := by
  unfold yC k0_pay29
  show max (extractStridedSlice S512x768 ![0, 1280] (cO (F := Ideal) m c) _ j
    + shapeCast S512x768 (R1C (F := Ideal) m c 0) _ j + shapeCast S512x768 (R2C (F := Ideal) m c 0) _ j + R3C (F := Ideal) m c j) (Ideal.ofBits .f32 0x00000000#32) = _
  rw [drop768, drop768, zero_word]
  exact congrArg (max · 0) ((plus (plus (plus (cut_at m c 768 1280 _ _ j) rfl) (two768 _ _ j)) ((three768 _ _ _ j).trans (plus rfl (two768 _ _ j)))).trans
    (tree_at m c nZ nX nY ![1, 4, 5, 2, 3, 6, 7] (by decide) (treeC c) (tgtC c) (fun d k => PC m d k (Fin.cons ⟨0, Nat.one_pos⟩ j)) (rOC.emb j) fun d k hk => PC_at m d k hk j))

/-- The device's block of the rectified product is its rows of the sum. -/
theorem yJ_at (j : S512x2048.Idx) : yJ (F := Ideal) m c j = Y m c j := by
  have h1 : (j 1).val < 2048 := (j 1).isLt
  unfold yJ
  split
  · rw [yA_at]
    congr 1
    exact Shape.idx_ext₂ (by show 0 + 1 * (j 0).val = (j 0).val; omega) (by show 0 + 1 * (j 1).val = (j 1).val; omega)
  · split
    · rw [yB_at]
      congr 1
      exact Shape.idx_ext₂ (by show 0 + 1 * (j 0).val = (j 0).val; omega) (by show 640 + 1 * ((j 1).val - 640) = (j 1).val; omega)
    · rw [yC_at]
      congr 1
      exact Shape.idx_ext₂ (by show 0 + 1 * (j 0).val = (j 0).val; omega) (by show 1280 + 1 * ((j 1).val - 1280) = (j 1).val; omega)

/-! ## The greatest value -/

theorem one_idx (i j : S1.Idx) : i = j := funext fun a => by
  fin_cases a; exact Fin.ext (by have h := (i 0).isLt; have h' := (j 0).isLt; change _ < 1 at h; change _ < 1 at h'; show (i 0).val = (j 0).val; omega)

/-- Every index of a block lies in one of its three column ranges. -/
theorem ranges (P : S512x2048.Idx → Prop) : ((∀ j, P (rOA.emb j)) ∧ (∀ j, P (rOB.emb j)) ∧ ∀ j, P (rOC.emb j)) ↔ ∀ j, P j := by
  refine ⟨fun ⟨hA, hB, hC⟩ j => ?_, fun H => ⟨fun _ => H _, fun _ => H _, fun _ => H _⟩⟩
  have h0 : (j 0).val < 512 := (j 0).isLt
  have h1 : (j 1).val < 2048 := (j 1).isLt
  by_cases a : (j 1).val < 640
  · have e : rOA.emb (Shape.pair (j 0) (⟨(j 1).val, a⟩ : Fin 640)) = j :=
      Shape.idx_ext₂ (by show 0 + 1 * (j 0).val = _; omega) (by show 0 + 1 * (j 1).val = _; omega)
    exact e ▸ hA _
  · by_cases b : (j 1).val < 1280
    · have e : rOB.emb (Shape.pair (j 0) (⟨(j 1).val - 640, by omega⟩ : Fin 640)) = j :=
        Shape.idx_ext₂ (by show 0 + 1 * (j 0).val = _; omega) (by show 640 + 1 * ((j 1).val - 640) = _; omega)
      exact e ▸ hB _
    · have e : rOC.emb (Shape.pair (j 0) (⟨(j 1).val - 1280, by omega⟩ : Fin 768)) = j :=
        Shape.idx_ext₂ (by show 0 + 1 * (j 0).val = _; omega) (by show 1280 + 1 * ((j 1).val - 1280) = _; omega)
      exact e ▸ hC _

theorem num24_le (a b b' b'') (z : EReal) : k0_pay24 (F := Ideal) a b b' b'' ≤ z ↔ ∀ j, k0_pay23 (F := Ideal) a b b' b'' j ≤ z := by
  unfold k0_pay24
  generalize k0_pay23 (F := Ideal) a b b' b'' = v
  exact top_cast_le v shapeCasts_S512x640_S1x512x640 reduces_S1x512x640_S1 _ _ _ _ _ one_idx z
theorem num28_le (x : EReal) (a b b') (z : EReal) : k0_pay28 (F := Ideal) x a b b' ≤ z ↔ x ≤ z ∧ ∀ j, k0_pay27 (F := Ideal) a b b' j ≤ z := by
  unfold k0_pay28
  generalize k0_pay27 (F := Ideal) a b b' = v
  exact max_le_iff.trans (and_congr Iff.rfl (top_cast_le v shapeCasts_S512x640_S1x512x640 reduces_S1x512x640_S1 _ _ _ _ _ one_idx z))
theorem num30_le (x : EReal) (a b b' b'') (i : S1x128.Idx) (z : EReal) :
    k0_pay30 (F := Ideal) a x b b' b'' i ≤ z ↔ x ≤ z ∧ ∀ j, k0_pay29 (F := Ideal) a b b' b'' j ≤ z := by
  unfold k0_pay30
  generalize k0_pay29 (F := Ideal) a b b' b'' = v
  rw [shapeCast_self]
  exact max_le_iff.trans (and_congr Iff.rfl (top_cast_le v shapeCasts_S512x768_S1x512x768 reduces_S1x512x768_S1 _ _ _ _ _ one_idx z))
theorem num32_le (v : FVec Ideal S8x128 .f32) (z : EReal) : k0_pay32 (F := Ideal) v ≤ z ↔ ∀ j, v j ≤ z := by
  unfold k0_pay32
  exact top_cast_le v shapeCasts_S8x128_S1x8x128 reduces_S1x8x128_S1 _ _ _ _ _ one_idx z

theorem num25_le (x y z : EReal) : k0_pay25 (F := Ideal) x y ≤ z ↔ y ≤ z ∧ x ≤ z := max_le_iff

/-- A device's greatest value is the least bound of zero and its rows. -/
theorem aX_le (i : S1x128.Idx) (z : EReal) : aX (F := Ideal) m d i ≤ z ↔ 0 ≤ z ∧ ∀ j, Y m d j ≤ z := by
  unfold aX
  rw [num30_le]
  unfold aB
  rw [num28_le]
  unfold aA
  rw [num25_le, num24_le, ← ranges, show (Scalar.ofBits .f32 0x00000000#32 : Ideal .f32) = (0 : EReal) from zero_word]
  have hA : ∀ j, k0_pay23 (F := Ideal) (cO m d) (R1A m d 0) (R2A m d 0) (R3A m d) j = Y m d (rOA.emb j) := yA_at m d
  have hB : ∀ j, k0_pay27 (F := Ideal) (k0_pay26 (cO m d) (R1B m d 0)) (R2B m d 0) (R3B m d) j = Y m d (rOB.emb j) := yB_at m d
  have hC : ∀ j, k0_pay29 (F := Ideal) (cO m d) (R1C m d 0) (R2C m d 0) (R3C m d) j = Y m d (rOC.emb j) := yC_at m d
  simp only [hA, hB, hC, and_assoc]
  exact Iff.rfl

/-- The greatest value of all, as device `c` computes it. -/
def GG : EReal := k0_pay32 (F := Ideal) (AD m c)

theorem GG_le (z : EReal) : GG m c ≤ z ↔ 0 ≤ z ∧ ∀ d j, Y m d j ≤ z := by
  unfold GG
  rw [num32_le]
  have e : ∀ i, AD (F := Ideal) m c i ≤ z ↔ 0 ≤ z ∧ ∀ j, Y m (i 0) j ≤ z := fun i => by
    unfold AD aRow
    split
    · unfold k0_pay31; rw [shapeCast_self]; exact aX_le m (i 0) _ z
    · exact aX_le m (i 0) _ z
  simp only [e]
  exact ⟨fun H => ⟨(H (Shape.pair (0 : Fin 8) (0 : Fin 128))).1, fun d => (H (Shape.pair (d : Fin 8) (0 : Fin 128))).2⟩, fun H i => ⟨H.1, H.2 _⟩⟩

/-- What the kernel leaves at an index of a device's result. -/
theorem OUT_at (j : S512x2048.Idx) : OUT (F := Ideal) m c j = quantK (GG m c) (Y m c j) := by
  unfold OUT k0_pay35 k0_pay33 k0_pay34
  rw [shapeCast_self]
  show min (Ideal.ofBits .f32 0x43E00000#32) (max (Ideal.ofBits .f32 0x00000000#32) (yJ (F := Ideal) m c j * Ideal.div (Ideal.ofBits .f32 0x43E00000#32) (GG m c)))
    * Ideal.div (GG m c) (Ideal.ofBits .f32 0x43E00000#32) = _
  rw [yJ_at, zero_word, bits_448]
  rfl

/-- The run of the kernel's program over the extended reals. -/
theorem run_value (ρ : Dev nD → PrngReg) : θ_run defs (onTc (τ := τ) (main (F := Ideal))) ⟨m, fun _ => 0, ρ⟩ fun r => ∀ c : Dev nD,
    r.2.mem ((c : Thread nD τ).loc main_v1) = OUT m c
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h.1 c (2 : Fin 3)).trans (finalA_out m ρ c), (h.1 c (0 : Fin 3)).trans (finalA_x m ρ c),
    (h.1 c (1 : Fin 3)).trans (finalA_w m ρ c)⟩) (run_main m ρ)

end Cert.KernelIdeal.Pf
-- ==== Proof.Whole.lean ====
module

public import proofs.«01_k».proof.Proof.Result
public import proofs.«01_k».proof.Proof.Gen.ReferenceIdeal.Value
public import Idealize.ShloMosaic.Lib.Layout

/-!
What the reference computes, over the extended reals, and that each device's result of the kernel is its block of it.
-/

@[expose] public section

set_option maxRecDepth 16384

noncomputable section

namespace Cert.Vals

open Idealize.ShloMosaic
open Idealize.ShloMosaic.TcCoe
open Cert.ReferenceIdeal

/-! ## The reference -/

variable (X : FVec Ideal S4096x4096 .bf16) (W : FVec Ideal S4096x2048 .bf16)

/-- The rectified product of the whole arrays. -/
def whole : FVec Ideal S4096x2048 .f32 := fun j => max (∑ k : Fin 4096, X (Shape.pair (j 0) k) * W (Shape.pair k (j 1))) 0

/-- The greatest magnitude in an array. -/
def top (v : FVec Ideal S4096x2048 .f32) : EReal :=
  extractAt ![0, 0, 0] (shapeCast S1x1x1 (multiReduction .maximumf [1, 2] S1
    (shapeCast S1x4096x2048 (absf v) Gen.facts.shapeCasts_S4096x2048_S1x4096x2048) 0xFF800000#32 Gen.facts.reduces_S1x4096x2048_S1 (.inl rfl) rfl)
    Gen.facts.shapeCasts_S1_S1x1x1) Gen.facts.inpos_S1x1x1_p0_0_0

theorem top_at (v : FVec Ideal S4096x2048 .f32) (z : EReal) : top v ≤ z ↔ ∀ j, max (v j) (-(v j)) ≤ z := by
  unfold top
  exact top_cast_le (absf v) _ _ _ _ _ _ _ KernelIdeal.Pf.one_idx z

/-- What follows the rectified product, at an index. -/
theorem pay1_at (j : S4096x2048.Idx) : Gen.k0_pay1 (F := Ideal) X W j = quantR (top (whole X W)) (whole X W j) := by
  have hv : maximumf (matmul dot_S4096x4096_S4096x2048_S4096x2048_1_0_0_1_n_n none X W (constant S4096x2048 .f32 0x00000000#32))
      (broadcast S4096x2048 (Scalar.ofBits .f32 0x00000000#32)) = whole X W := by
    funext j
    show max (Ideal.matmul dot_S4096x4096_S4096x2048_S4096x2048_1_0_0_1_n_n X W _ j) (Ideal.ofBits .f32 0x00000000#32) = _
    rw [Ideal.matmul_apply₁_of dot_S4096x4096_S4096x2048_S4096x2048_1_0_0_1_n_n (a := (1 : Fin 2)) rfl (K := 4096) rfl _ _ _ j
      (fun k => Shape.pair (j 0) k) (fun k => Shape.pair k (j 1)) (fun k => Shape.idx_ext₂ rfl rfl) (fun k => Shape.idx_ext₂ rfl rfl)]
    show max (Ideal.ofBits .f32 0x00000000#32 + _) (Ideal.ofBits .f32 0x00000000#32) = _
    rw [Ideal.ofBits_zero_f32, zero_add]
    rfl
  unfold Gen.k0_pay1
  dsimp only
  rw [hv]
  generalize whole X W = v
  show min (Ideal.ofBits .f32 0x43E00000#32) (max (Ideal.ofBits .f32 0xC3E00000#32) (Ideal.div (v j) (Ideal.div (top v) (Ideal.ofBits .f32 0x43E00000#32))))
    * Ideal.div (top v) (Ideal.ofBits .f32 0x43E00000#32) = _
  rw [bits_448, bits_neg_448]
  rfl

/-! ## The kernel's blocks -/

open Cert.KernelIdeal.Pf (Y GG GG_le OUT OUT_at xs_at ws_at)

variable (m : (ℓ : Loc KernelIdeal.nD KernelIdeal.τ KernelIdeal.sig) → Buf (Elt Ideal) ℓ)

/-- How the arrays are cut: the first argument by columns, the second argument and the result by rows. -/
theorem cut_cols : Layout.Tiles ⟨2, ![4096, 512]⟩ ⟨2, ![4096, 4096]⟩ 1 8 := by decide
theorem cut_rows : Layout.Tiles ⟨2, ![512, 2048]⟩ ⟨2, ![4096, 2048]⟩ 0 8 := by decide

/-- Row `j` of block `c` of the whole array. -/
def at_ (c : Fin 8) (j : KernelIdeal.S512x2048.Idx) : S4096x2048.Idx :=
  Shape.pair (⟨512 * c.val + (j 0).val, by have := c.isLt; have h : (j 0).val < 512 := (j 0).isLt; show _ < 4096; omega⟩ : Fin 4096) (j 1)

theorem at_onto (i : S4096x2048.Idx) : ∃ c j, at_ c j = i := by
  have h : (i 0).val < 4096 := (i 0).isLt
  refine ⟨⟨(i 0).val / 512, by omega⟩, Shape.pair (⟨(i 0).val % 512, by omega⟩ : Fin 512) (i 1), ?_⟩
  exact Shape.idx_ext₂ (by show 512 * ((i 0).val / 512) + (i 0).val % 512 = (i 0).val; omega) rfl

variable {X W} (hX : ∀ c : Dev KernelIdeal.nD, m ((c : Thread KernelIdeal.nD KernelIdeal.τ).loc KernelIdeal.main_arg0) = Layout.block ⟨2, ![4096, 512]⟩ ⟨2, ![4096, 4096]⟩ 1 8 c X cut_cols)
  (hW : ∀ c : Dev KernelIdeal.nD, m ((c : Thread KernelIdeal.nD KernelIdeal.τ).loc KernelIdeal.main_arg1) = Layout.block ⟨2, ![512, 2048]⟩ ⟨2, ![4096, 2048]⟩ 0 8 c W cut_rows)

include hX hW

/-- A device's rows of the rectified sum are its rows of the rectified product of the whole arrays. -/
theorem Y_at (c : Fin 8) (j : KernelIdeal.S512x2048.Idx) : Y m c j = whole X W (at_ c j) := by
  unfold Y whole
  congr 1
  rw [sum_blocks]
  refine Finset.sum_congr rfl fun d _ => ?_
  unfold KernelIdeal.Pf.T
  refine Finset.sum_congr rfl fun k _ => ?_
  rw [xs_at, ws_at, hX d, hW d, Layout.block_apply, Layout.block_apply]
  congr 2
  · exact Shape.idx_ext₂ rfl (by show d.val * 512 + k.val = 512 * d.val + k.val; omega)
  · exact Shape.idx_ext₂ (by show d.val * 512 + k.val = 512 * d.val + k.val; omega) rfl

/-- The greatest value that every device finds is the reference's. -/
theorem GG_eq (c : Fin 8) : GG m c = top (whole X W) := by
  have h0 : ∀ i, 0 ≤ whole X W i := fun i => le_max_right _ _
  refine eq_of_forall_ge_iff fun z => ?_
  rw [GG_le, top_at]
  constructor
  · rintro ⟨hz, H⟩ i
    have h := h0 i
    obtain ⟨d, j, rfl⟩ := at_onto i
    refine max_le ((Y_at m hX hW d j) ▸ H d j) (le_trans ?_ hz)
    exact EReal.neg_le.mpr (by rw [neg_zero]; exact h)
  · intro H
    refine ⟨(h0 (at_ 0 (Shape.pair (0 : Fin 512) (0 : Fin 2048)))).trans ((le_max_left _ _).trans (H _)), fun d j => ?_⟩
    rw [Y_at m hX hW d j]
    exact (le_max_left _ _).trans (H _)

/-- Each device's result is its block of the reference's. -/
theorem result_eq (c : Dev KernelIdeal.nD) : OUT (F := Ideal) m c = Layout.block ⟨2, ![512, 2048]⟩ ⟨2, ![4096, 2048]⟩ 0 8 c (Gen.k0_pay1 (F := Ideal) X W) cut_rows := by
  funext j
  rw [OUT_at, Layout.block_apply, pay1_at, GG_eq m hX hW c, Y_at m hX hW c j]
  have h0 : 0 ≤ whole X W (at_ c j) := le_max_right _ _
  rw [quantK_eq_quantR h0 ((le_max_left _ _).trans ((top_at _ _).mp le_rfl _))]
  congr 2
  exact Shape.idx_ext₂ (by show 512 * c.val + (j 0).val = c.val * 512 + (j 0).val; omega) rfl

end Cert.Vals
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.BitsLaunch
public import proofs.«01_k».proof.Proof.Launch
public import proofs.«01_k».proof.Proof.Whole
public import Idealize.ShloMosaic.Adequacy
public import Idealize.ShloMosaic.Init

@[expose] public section

noncomputable section

namespace Cert.Proof

open Idealize.ShloMosaic Idealize.SL.Sem Cert.Kernel

/-- The kernel's program: it ends with its arguments unchanged and every semaphore at zero. -/
theorem kernel : quiescent_Kernel (hKernel := Cert.Kernel.Gen.facts) := fun m g _ =>
  (θ_run _ _ _).mono (fun _ h => ⟨fun c => ⟨(h.1 c (0 : Fin 3)).trans (Cert.Kernel.Pf.finalA_x m g c),
    (h.1 c (1 : Fin 3)).trans (Cert.Kernel.Pf.finalA_w m g c)⟩, h.2⟩) (Cert.Kernel.Pf.run_main m g)

/-- The same over the extended reals. -/
theorem kernelIdeal : quiescent_KernelIdeal (hKernelIdeal := Cert.KernelIdeal.Gen.facts) := fun m g _ =>
  (θ_run _ _ _).mono (fun _ h => ⟨fun c => ⟨(h.1 c (0 : Fin 3)).trans (Cert.KernelIdeal.Pf.finalA_x m g c),
    (h.1 c (1 : Fin 3)).trans (Cert.KernelIdeal.Pf.finalA_w m g c)⟩, h.2⟩) (Cert.KernelIdeal.Pf.run_main m g)

/-- The reference's program: it ends with its arguments unchanged and every semaphore at zero. -/
theorem referenceIdeal : quiescent_ReferenceIdeal (hReferenceIdeal := Cert.ReferenceIdeal.Gen.facts) := fun m g _ =>
  Cert.ReferenceIdeal.Gen.frame m g

/-- Over the extended reals each device's result is its block of the reference's. -/
theorem algebraic : algebraic_KernelIdeal_ReferenceIdeal (hKernelIdeal := Cert.KernelIdeal.Gen.facts) (hReferenceIdeal := Cert.ReferenceIdeal.Gen.facts) :=
  fun m g m' g' _ hm => ⟨_,
    (θ_run _ _ _).mono (fun _ h c => ⟨(h c).1.trans (Cert.Vals.result_eq m (fun c => (hm c).1) (fun c => (hm c).2) c), (h c).2⟩)
      (Cert.KernelIdeal.Pf.run_value m g),
    (θ_run _ _ _).mono (fun _ h => h 0) (Cert.ReferenceIdeal.Value.run m' g')⟩

/-- The certificate's claim. -/
theorem claim : Cert.Claim := ⟨Cert.Kernel.Gen.facts, Cert.KernelIdeal.Gen.facts, Cert.ReferenceIdeal.Gen.facts,
  kernel, kernelIdeal, referenceIdeal, trivial, algebraic⟩

end Cert.Proof

end
